-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "masked" .f32 0xCE6E6B28#32 ⊥
  ∧ IdealRules.named_const.Statement Cert.KernelIdeal.κ "chosen" .f32 0x4E6E6B28#32 ⊤
  ∧ IdealRules.named_const.Statement Cert.KernelIdeal.κ "taken" .f32 0xCF32D05E#32 ⊥

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal_pre_distinct (hKernelIdeal := hKernelIdeal) (hReferenceIdeal := hReferenceIdeal) (hPre_distinct := hPre_distinct)
-- ==== Pre_distinct.lean ====
abbrev S1x2048x1024 : Shape := ⟨3, ![1, 2048, 1024]⟩
abbrev S1024x1024 : Shape := ⟨2, ![1024, 1024]⟩
abbrev S1024x48 : Shape := ⟨2, ![1024, 48]⟩
abbrev S64x32x16x64 : Shape := ⟨4, ![64, 32, 16, 64]⟩
abbrev S_ : Shape := ⟨0, ![]⟩
abbrev S64x16x64 : Shape := ⟨3, ![64, 16, 64]⟩
abbrev S16x64x64 : Shape := ⟨3, ![16, 64, 64]⟩
abbrev S16x64x64x64 : Shape := ⟨4, ![16, 64, 64, 64]⟩
abbrev S16x64x64x1 : Shape := ⟨4, ![16, 64, 64, 1]⟩
abbrev S16x64x1x64 : Shape := ⟨4, ![16, 64, 1, 64]⟩

class Facts : Prop where
  shapeCasts_S1x2048x1024_S64x32x16x64 : S1x2048x1024.ShapeCasts S64x32x16x64
  reducesTo_S64x32x16x64_S64x16x64_d1 : S64x32x16x64.ReducesTo [1] S64x16x64
  h_S_ : 0 < S_.numel
  bcast_S_S16x64x64x64 : S_.BroadcastsInDim S16x64x64x64 (![] : Fin 0 → Fin S16x64x64x64.rank)
  bcast_S16x64x64_S16x64x64x1_0_1_2 : S16x64x64.BroadcastsInDim S16x64x64x1 (![0, 1, 2] : Fin 3 → Fin S16x64x64x1.rank)
  bcast_S16x64x64_S16x64x1x64_0_1_3 : S16x64x64.BroadcastsInDim S16x64x1x64 (![0, 1, 3] : Fin 3 → Fin S16x64x1x64.rank)
  bcast_S16x64x64x1_S16x64x64x64_0_1_2_3 : S16x64x64x1.BroadcastsInDim S16x64x64x64 (![0, 1, 2, 3] : Fin 4 → Fin S16x64x64x64.rank)
  bcast_S16x64x1x64_S16x64x64x64_0_1_2_3 : S16x64x1x64.BroadcastsInDim S16x64x64x64 (![0, 1, 2, 3] : Fin 4 → Fin S16x64x64x64.rank)
  reducesTo_S16x64x64x64_S_d0_1_2_3 : S16x64x64x64.ReducesTo [0, 1, 2, 3] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  dot_S1x2048x1024_S1024x1024_S1x2048x1024_2_0_01_1_n_n_wf : DotDims.WF S1x2048x1024 S1024x1024 S1x2048x1024 [2] [0] [0, 1] [1] [] []
  dot_S64x16x64_S64x16x64_S16x64x64_2_2_0_0_1_1_wf : DotDims.WF S64x16x64 S64x16x64 S16x64x64 [2] [2] [0] [0] [1] [1]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S64x16x64_S64x16x64_S16x64x64_2_2_0_0_1_1 : DotDims S64x16x64 S64x16x64 S16x64x64 where
  lhsContracting := [2]
  rhsContracting := [2]
  lhsNonContracting := [0]
  rhsNonContracting := [0]
  lhsBatch := [1]
  rhsBatch := [1]
  wf := dot_S64x16x64_S64x16x64_S16x64x64_2_2_0_0_1_1_wf
def fn_part2 {F : FTy → Type} [FloatOps F] (main_v23 : IVec S_ 1) (main_v37 : IVec S_ 1) : IVec S_ 1 :=
  let main_v38 : IVec S_ 1 := andi main_v37 main_v23
  main_v38

def fn_part1 {F : FTy → Type} [FloatOps F] (main_arg0 : FVec F S1x2048x1024 .f32) (main_arg1 : FVec F S1024x1024 .f32) (main_arg2 : FVec F S1024x1024 .f32) (main_v15 : IVec S16x64x64x64 1) (main_v20 : IVec S16x64x64x64 1) : IVec S_ 1 :=
  let main_v21 : IVec S16x64x64x64 1 := noti main_v15
  let main_v22 : IVec S16x64x64x64 1 := ori main_v20 main_v21
  let main_c_1 : IVec S_ 1 := constantI S_ 1 1#1
  let main_v23 : IVec S_ 1 := (fun x v => Host.reduce IntOp.andi x v reducesTo_S16x64x64x64_S_d0_1_2_3 h_S_) main_v22 main_c_1
  let main_v24 : FVec F S1x2048x1024 .f32 := Host.absf main_arg0
  let main_cst_2 : FVec F S_ .f32 := constant S_ .f32 0x7F800000#32
  let main_v25 : FVec F S1x2048x1024 .f32 := broadcastInDim S1x2048x1024 ![] bcast_S_S1x2048x1024 main_cst_2
  let main_v26 : IVec S1x2048x1024 1 := cmpf .olt main_v24 main_v25
  let main_c_3 : IVec S_ 1 := constantI S_ 1 1#1
  let main_v27 : IVec S_ 1 := (fun x v => Host.reduce IntOp.andi x v reducesTo_S1x2048x1024_S_d0_1_2 h_S_) main_v26 main_c_3
  let main_v28 : FVec F S1024x1024 .f32 := Host.absf main_arg1
  let main_cst_4 : FVec F S_ .f32 := constant S_ .f32 0x7F800000#32
  let main_v29 : FVec F S1024x1024 .f32 := broadcastInDim S1024x1024 ![] bcast_S_S1024x1024 main_cst_4
  let main_v30 : IVec S1024x1024 1 := cmpf .olt main_v28 main_v29
  let main_c_5 : IVec S_ 1 := constantI S_ 1 1#1
  let main_v31 : IVec S_ 1 := (fun x v => Host.reduce IntOp.andi x v reducesTo_S1024x1024_S_d0_1 h_S_) main_v30 main_c_5
  let main_v32 : IVec S_ 1 := andi main_v27 main_v31
  let main_v33 : FVec F S1024x1024 .f32 := Host.absf main_arg2
  let main_cst_6 : FVec F S_ .f32 := constant S_ .f32 0x7F800000#32
  let main_v34 : FVec F S1024x1024 .f32 := broadcastInDim S1024x1024 ![] bcast_S_S1024x1024 main_cst_6
  let main_v35 : IVec S1024x1024 1 := cmpf .olt main_v33 main_v34
  let main_c_7 : IVec S_ 1 := constantI S_ 1 1#1
  let main_v36 : IVec S_ 1 := (fun x v => Host.reduce IntOp.andi x v reducesTo_S1024x1024_S_d0_1 h_S_) main_v35 main_c_7
  let main_v37 : IVec S_ 1 := andi main_v32 main_v36
  fn_part2 (F := F) main_v23 main_v37

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S1024x48 .f32) (main_arg5 : FVec F S1024x1024 .f32) : IVec S_ 1 :=
  let main_v0 : FVec F S1x2048x1024 .f32 := (fun l r => Host.dotGeneral dot_S1x2048x1024_S1024x1024_S1x2048x1024_2_0_01_1_n_n none l r) main_arg0 main_arg1
  let main_v1 : FVec F S64x32x16x64 .f32 := shapeCast S64x32x16x64 main_v0 shapeCasts_S1x2048x1024_S64x32x16x64
  let main_cst : FVec F S_ .f32 := constant S_ .f32 0x00000000#32
  let main_v2 : FVec F S64x16x64 .f32 := (fun x v => Host.reduceAdd x v reducesTo_S64x32x16x64_S64x16x64_d1 h_S_) main_v1 main_cst
  let main_v3 : FVec F S1x2048x1024 .f32 := (fun l r => Host.dotGeneral dot_S1x2048x1024_S1024x1024_S1x2048x1024_2_0_01_1_n_n none l r) main_arg0 main_arg2
  let main_v4 : FVec F S64x32x16x64 .f32 := shapeCast S64x32x16x64 main_v3 shapeCasts_S1x2048x1024_S64x32x16x64
  let main_cst_0 : FVec F S_ .f32 := constant S_ .f32 0x00000000#32
  let main_v5 : FVec F S64x16x64 .f32 := (fun x v => Host.reduceAdd x v reducesTo_S64x32x16x64_S64x16x64_d1 h_S_) main_v4 main_cst_0
  let main_v6 : FVec F S16x64x64 .f32 := (fun l r => Host.dotGeneral dot_S64x16x64_S64x16x64_S16x64x64_2_2_0_0_1_1 none l r) main_v2 main_v5
  let main_v7 : IVec S16x64x64x64 32 := iotaInDim S16x64x64x64 32 1
  let main_v8 : IVec S16x64x64x64 32 := iotaInDim S16x64x64x64 32 2
  let main_v9 : IVec S16x64x64x64 32 := iotaInDim S16x64x64x64 32 3
  let main_c : IVec S_ 32 := constantI S_ 32 16#32
  let main_v10 : IVec S16x64x64x64 32 := broadcastInDim S16x64x64x64 ![] bcast_S_S16x64x64x64 main_c
  let main_v11 : IVec S16x64x64x64 1 := cmpi .sge main_v7 main_v10
  let main_v12 : IVec S16x64x64x64 1 := cmpi .slt main_v8 main_v9
  let main_v13 : IVec S16x64x64x64 1 := andi main_v11 main_v12
  let main_v14 : IVec S16x64x64x64 1 := cmpi .slt main_v9 main_v7
  let main_v15 : IVec S16x64x64x64 1 := andi main_v13 main_v14
  let main_v16 : FVec F S16x64x64x1 .f32 := broadcastInDim S16x64x64x1 ![0, 1, 2] bcast_S16x64x64_S16x64x64x1_0_1_2 main_v6
  let main_v17 : FVec F S16x64x1x64 .f32 := broadcastInDim S16x64x1x64 ![0, 1, 3] bcast_S16x64x64_S16x64x1x64_0_1_3 main_v6
  let main_v18 : FVec F S16x64x64x64 .f32 := broadcastInDim S16x64x64x64 ![0, 1, 2, 3] bcast_S16x64x64x1_S16x64x64x64_0_1_2_3 main_v16
  let main_v19 : FVec F S16x64x64x64 .f32 := broadcastInDim S16x64x64x64 ![0, 1, 2, 3] bcast_S16x64x1x64_S16x64x64x64_0_1_2_3 main_v17
  let main_v20 : IVec S16x64x64x64 1 := cmpf .une main_v18 main_v19
  fn_part1 (F := F) main_arg0 main_arg1 main_arg2 main_v15 main_v20
-- ==== Kernel.lean ====
abbrev S1x2048x1024 : Shape := ⟨3, ![1, 2048, 1024]⟩
abbrev S1024x1024 : Shape := ⟨2, ![1024, 1024]⟩
abbrev S1024x48 : Shape := ⟨2, ![1024, 48]⟩
abbrev S2048x1024 : Shape := ⟨2, ![2048, 1024]⟩
abbrev S16x2048x64 : Shape := ⟨3, ![16, 2048, 64]⟩
abbrev S16x2048x128 : Shape := ⟨3, ![16, 2048, 128]⟩
abbrev S16x64x64 : Shape := ⟨3, ![16, 64, 64]⟩
abbrev S2048x48 : Shape := ⟨2, ![2048, 48]⟩
abbrev S1024x256 : Shape := ⟨2, ![1024, 256]⟩
abbrev S4x2048x64 : Shape := ⟨3, ![4, 2048, 64]⟩
abbrev S4x2048x128 : Shape := ⟨3, ![4, 2048, 128]⟩
abbrev S4x64x64 : Shape := ⟨3, ![4, 64, 64]⟩
abbrev S16x512 : Shape := ⟨2, ![16, 512]⟩
abbrev S512x1024 : Shape := ⟨2, ![512, 1024]⟩
abbrev S512x256 : Shape := ⟨2, ![512, 256]⟩
abbrev S16x256 : Shape := ⟨2, ![16, 256]⟩
abbrev S512x64 : Shape := ⟨2, ![512, 64]⟩
abbrev S1x512x64 : Shape := ⟨3, ![1, 512, 64]⟩
abbrev S16x64 : Shape := ⟨2, ![16, 64]⟩
abbrev S1x16x64 : Shape := ⟨3, ![1, 16, 64]⟩
abbrev S512x48 : Shape := ⟨2, ![512, 48]⟩
abbrev S1x2048x64 : Shape := ⟨3, ![1, 2048, 64]⟩
abbrev S1x2048x128 : Shape := ⟨3, ![1, 2048, 128]⟩
abbrev S1x64x64 : Shape := ⟨3, ![1, 64, 64]⟩
abbrev S256x1024 : Shape := ⟨2, ![256, 1024]⟩
abbrev S2048x128 : Shape := ⟨2, ![2048, 128]⟩
abbrev S1x256x64 : Shape := ⟨3, ![1, 256, 64]⟩
abbrev S256x64 : Shape := ⟨2, ![256, 64]⟩
abbrev S2048x1 : Shape := ⟨2, ![2048, 1]⟩
abbrev S1x64 : Shape := ⟨2, ![1, 64]⟩
abbrev S64x64 : Shape := ⟨2, ![64, 64]⟩
abbrev S2048x64 : Shape := ⟨2, ![2048, 64]⟩
abbrev S64x2048 : Shape := ⟨2, ![64, 2048]⟩
abbrev S64 : Shape := ⟨1, ![64]⟩
abbrev S64x1x64 : Shape := ⟨3, ![64, 1, 64]⟩
abbrev S64x32x64 : Shape := ⟨3, ![64, 32, 64]⟩
abbrev S64x128 : Shape := ⟨2, ![64, 128]⟩
abbrev S1x48 : Shape := ⟨2, ![1, 48]⟩
abbrev S2048 : Shape := ⟨1, ![2048]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S1x320x64 : Shape := ⟨3, ![1, 320, 64]⟩
abbrev S320x64 : Shape := ⟨2, ![320, 64]⟩
abbrev S256x320 : Shape := ⟨2, ![256, 320]⟩
abbrev S256x1 : Shape := ⟨2, ![256, 1]⟩
abbrev S1x256x128 : Shape := ⟨3, ![1, 256, 128]⟩
abbrev S768x128 : Shape := ⟨2, ![768, 128]⟩
abbrev S256x768 : Shape := ⟨2, ![256, 768]⟩
abbrev S1x320x128 : Shape := ⟨3, ![1, 320, 128]⟩
abbrev S320x128 : Shape := ⟨2, ![320, 128]⟩
abbrev S1024x128 : Shape := ⟨2, ![1024, 128]⟩
abbrev S1x512x128 : Shape := ⟨3, ![1, 512, 128]⟩
abbrev S1280x128 : Shape := ⟨2, ![1280, 128]⟩
abbrev S256x1280 : Shape := ⟨2, ![256, 1280]⟩
abbrev S1x768x128 : Shape := ⟨3, ![1, 768, 128]⟩
abbrev S1536x128 : Shape := ⟨2, ![1536, 128]⟩
abbrev S256x1536 : Shape := ⟨2, ![256, 1536]⟩
abbrev S1x1024x128 : Shape := ⟨3, ![1, 1024, 128]⟩
abbrev S1792x128 : Shape := ⟨2, ![1792, 128]⟩
abbrev S256x1792 : Shape := ⟨2, ![256, 1792]⟩
abbrev S1x1280x128 : Shape := ⟨3, ![1, 1280, 128]⟩
abbrev S256x2048 : Shape := ⟨2, ![256, 2048]⟩
abbrev S1x1536x128 : Shape := ⟨3, ![1, 1536, 128]⟩
abbrev S1x1792x128 : Shape := ⟨3, ![1, 1792, 128]⟩

abbrev nBuf : Space → Nat
  | .hbm => 15
  | .vmem => 39
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x48, .f32⟩
  | .hbm, ⟨5, _⟩ => ⟨S1024x1024, .f32⟩
  | .hbm, ⟨6, _⟩ => ⟨S2048x1024, .f32⟩
  | .hbm, ⟨7, _⟩ => ⟨S16x2048x64, .bf16⟩
  | .hbm, ⟨8, _⟩ => ⟨S16x2048x64, .bf16⟩
  | .hbm, ⟨9, _⟩ => ⟨S16x2048x128, .bf16⟩
  | .hbm, ⟨10, _⟩ => ⟨S16x64x64, .f32⟩
  | .hbm, ⟨11, _⟩ => ⟨S16x64x64, .f32⟩
  | .hbm, ⟨12, _⟩ => ⟨S2048x48, .f32⟩
  | .hbm, ⟨13, _⟩ => ⟨S2048x1024, .f32⟩
  | .hbm, ⟨14, _⟩ => ⟨S1x2048x1024, .f32⟩
  | .local _ .vmem, ⟨0, _⟩ => ⟨S2048x1024, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x48, .f32⟩
  | .local _ .vmem, ⟨8, _⟩ => ⟨S4x2048x64, .bf16⟩
  | .local _ .vmem, ⟨9, _⟩ => ⟨S4x2048x64, .bf16⟩
  | .local _ .vmem, ⟨10, _⟩ => ⟨S4x2048x64, .bf16⟩
  | .local _ .vmem, ⟨11, _⟩ => ⟨S4x2048x64, .bf16⟩
  | .local _ .vmem, ⟨12, _⟩ => ⟨S4x2048x128, .bf16⟩
  | .local _ .vmem, ⟨13, _⟩ => ⟨S4x2048x128, .bf16⟩
  | .local _ .vmem, ⟨14, _⟩ => ⟨S4x64x64, .f32⟩
  | .local _ .vmem, ⟨15, _⟩ => ⟨S4x64x64, .f32⟩
  | .local _ .vmem, ⟨16, _⟩ => ⟨S4x64x64, .f32⟩
  | .local _ .vmem, ⟨17, _⟩ => ⟨S4x64x64, .f32⟩
  | .local _ .vmem, ⟨18, _⟩ => ⟨S2048x48, .f32⟩
  | .local _ .vmem, ⟨19, _⟩ => ⟨S2048x1024, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x2048x128, .bf16⟩
  | .local _ .vmem, ⟨25, _⟩ => ⟨S1x2048x128, .bf16⟩
  | .local _ .vmem, ⟨26, _⟩ => ⟨S1x64x64, .f32⟩
  | .local _ .vmem, ⟨27, _⟩ => ⟨S1x64x64, .f32⟩
  | .local _ .vmem, ⟨28, _⟩ => ⟨S1x64x64, .f32⟩
  | .local _ .vmem, ⟨29, _⟩ => ⟨S1x64x64, .f32⟩
  | .local _ .vmem, ⟨30, _⟩ => ⟨S2048x48, .f32⟩
  | .local _ .vmem, ⟨31, _⟩ => ⟨S1024x1024, .f32⟩
  | .local _ .vmem, ⟨32, _⟩ => ⟨S256x1024, .f32⟩
  | .local _ .vmem, ⟨33, _⟩ => ⟨S256x1024, .f32⟩
  | .local _ .vmem, ⟨34, _⟩ => ⟨S2048x128, .bf16⟩
  | .local _ .vmem, ⟨35, _⟩ => ⟨S2048x128, .bf16⟩
  | .local _ .vmem, ⟨36, _⟩ => ⟨S16x2048x64, .bf16⟩
  | .local _ .vmem, ⟨37, _⟩ => ⟨S256x1024, .bf16⟩
  | .local _ .vmem, ⟨38, _⟩ => ⟨S1024x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg7_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc1_scratch3 : Ref sig .tc := ⟨.vmem, 37, rfl⟩
abbrev cc1_scratch4 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem7_1 : DmaSem sig := 32

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_100 : BitVec 32 := 0#32
  let v170 : BitVec 1 := Scalar.cmpi .eq arg0 c0_i32_100
  let v171 : BitVec 32 := Scalar.extui v170
  let c0_i32_101 : BitVec 32 := 0#32
  let v172 : BitVec 1 := Scalar.cmpi .ne v171 c0_i32_101
  v172

def k0_cond3 (i : grid0.Coords) : BitVec 1 :=
  let arg0 : BitVec 32 := BitVec.ofNat 32 (i 0).val
  let c0_i32_186 : BitVec 32 := 0#32
  let v298 : BitVec 1 := Scalar.cmpi .eq arg0 c0_i32_186
  let v299 : BitVec 32 := Scalar.extui v298
  let c0_i32_187 : BitVec 32 := 0#32
  let v300 : BitVec 1 := Scalar.cmpi .ne v299 c0_i32_187
  v300

def k0_cond4 (i : grid0.Coords) : BitVec 1 :=
  let arg0 : BitVec 32 := BitVec.ofNat 32 (i 0).val
  let c0_i32_272 : BitVec 32 := 0#32
  let v426 : BitVec 1 := Scalar.cmpi .eq arg0 c0_i32_272
  let v427 : BitVec 32 := Scalar.extui v426
  let c0_i32_273 : BitVec 32 := 0#32
  let v428 : BitVec 1 := Scalar.cmpi .ne v427 c0_i32_273
  v428

def k0_cond5 (i : grid0.Coords) : BitVec 1 :=
  let arg0 : BitVec 32 := BitVec.ofNat 32 (i 0).val
  let c0_i32_352 : BitVec 32 := 0#32
  let v548 : BitVec 1 := Scalar.cmpi .eq arg0 c0_i32_352
  let v549 : BitVec 32 := Scalar.extui v548
  let c0_i32_353 : BitVec 32 := 0#32
  let v550 : BitVec 1 := Scalar.cmpi .ne v549 c0_i32_353
  v550

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![24], ![false]⟩

def k1_cond2 (i : grid1.Coords) : BitVec 1 :=
  let arg0 : BitVec 32 := BitVec.ofNat 32 (i 0).val
  let c16_i32 : BitVec 32 := 16#32
  let v3 : BitVec 1 := Scalar.cmpi .sge arg0 c16_i32
  let v4 : BitVec 32 := Scalar.extui v3
  let c0_i32_1 : BitVec 32 := 0#32
  let v5 : BitVec 1 := Scalar.cmpi .ne v4 c0_i32_1
  v5

def k1_mult1 (i : grid1.Coords) : BitVec 32 :=
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  v10
def k1_off1 (i : grid1.Coords) : Fin 3 → Nat :=
  let c0 : Index := 0#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v12 : Index := Scalar.indexCast v11
  let c0_5 : Index := 0#32
  ![0, v12.toNat, 0]
def k1_off2 (i : grid1.Coords) : Fin 3 → Nat :=
  let c1 : Index := 1#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v18 : Index := Scalar.indexCast v11
  let c0_8 : Index := 0#32
  ![1, v18.toNat, 0]
def k1_off3 (i : grid1.Coords) : Fin 3 → Nat :=
  let c2 : Index := 2#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v24 : Index := Scalar.indexCast v11
  let c0_10 : Index := 0#32
  ![2, v24.toNat, 0]
def k1_off4 (i : grid1.Coords) : Fin 3 → Nat :=
  let c3 : Index := 3#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v30 : Index := Scalar.indexCast v11
  let c0_12 : Index := 0#32
  ![3, v30.toNat, 0]
def k1_off5 (i : grid1.Coords) : Fin 3 → Nat :=
  let c4 : Index := 4#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v36 : Index := Scalar.indexCast v11
  let c0_14 : Index := 0#32
  ![4, v36.toNat, 0]
def k1_off6 (i : grid1.Coords) : Fin 3 → Nat :=
  let c5 : Index := 5#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v42 : Index := Scalar.indexCast v11
  let c0_16 : Index := 0#32
  ![5, v42.toNat, 0]
def k1_off7 (i : grid1.Coords) : Fin 3 → Nat :=
  let c6 : Index := 6#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v48 : Index := Scalar.indexCast v11
  let c0_18 : Index := 0#32
  ![6, v48.toNat, 0]
def k1_off8 (i : grid1.Coords) : Fin 3 → Nat :=
  let c7 : Index := 7#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v54 : Index := Scalar.indexCast v11
  let c0_20 : Index := 0#32
  ![7, v54.toNat, 0]
def k1_off9 (i : grid1.Coords) : Fin 3 → Nat :=
  let c8 : Index := 8#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v60 : Index := Scalar.indexCast v11
  let c0_22 : Index := 0#32
  ![8, v60.toNat, 0]
def k1_off10 (i : grid1.Coords) : Fin 3 → Nat :=
  let c9 : Index := 9#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v66 : Index := Scalar.indexCast v11
  let c0_24 : Index := 0#32
  ![9, v66.toNat, 0]
def k1_off11 (i : grid1.Coords) : Fin 3 → Nat :=
  let c10 : Index := 10#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v72 : Index := Scalar.indexCast v11
  let c0_26 : Index := 0#32
  ![10, v72.toNat, 0]
def k1_off12 (i : grid1.Coords) : Fin 3 → Nat :=
  let c11 : Index := 11#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v78 : Index := Scalar.indexCast v11
  let c0_28 : Index := 0#32
  ![11, v78.toNat, 0]
def k1_off13 (i : grid1.Coords) : Fin 3 → Nat :=
  let c12 : Index := 12#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v84 : Index := Scalar.indexCast v11
  let c0_30 : Index := 0#32
  ![12, v84.toNat, 0]
def k1_off14 (i : grid1.Coords) : Fin 3 → Nat :=
  let c13 : Index := 13#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v90 : Index := Scalar.indexCast v11
  let c0_32 : Index := 0#32
  ![13, v90.toNat, 0]
def k1_off15 (i : grid1.Coords) : Fin 3 → Nat :=
  let c14 : Index := 14#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v96 : Index := Scalar.indexCast v11
  let c0_34 : Index := 0#32
  ![14, v96.toNat, 0]
def k1_off16 (i : grid1.Coords) : Fin 3 → Nat :=
  let c15 : Index := 15#32
  let arg0 : BitVec 32 := BitVec.ofNat 32 (i 0).val
  let c16_i32_4 : BitVec 32 := 16#32
  let v9 : BitVec 32 := Scalar.subi arg0 c16_i32_4
  let c256_i32 : BitVec 32 := 256#32
  let v10 : BitVec 32 := Scalar.muli v9 c256_i32
  let v11 : BitVec 32 := v10
  let v102 : Index := Scalar.indexCast v11
  let c0_36 : Index := 0#32
  ![15, v102.toNat, 0]
def k1_cond3 (i : grid1.Coords) : BitVec 1 :=
  let arg0 : BitVec 32 := BitVec.ofNat 32 (i 0).val
  let c16_i32_2 : BitVec 32 := 16#32
  let v6 : BitVec 1 := Scalar.cmpi .slt arg0 c16_i32_2
  let v7 : BitVec 32 := Scalar.extui v6
  let c0_i32_3 : BitVec 32 := 0#32
  let v8 : BitVec 1 := Scalar.cmpi .ne v7 c0_i32_3
  v8

def k1_off17 (i : grid1.Coords) : Fin 3 → Nat :=
  let arg0 : BitVec 32 := BitVec.ofNat 32 (i 0).val
  let v342 : Index := Scalar.indexCast arg0
  let c0_129 : Index := 0#32
  let c0_130 : Index := 0#32
  ![v342.toNat, 0, 0]
def k1_off18 (i : grid1.Coords) : Fin 3 → Nat :=
  let arg0 : BitVec 32 := BitVec.ofNat 32 (i 0).val
  let v413 : Index := Scalar.indexCast arg0
  let c256_157 : Index := 256#32
  let c0_158 : Index := 0#32
  ![v413.toNat, 256, 0]
def k1_off19 (i : grid1.Coords) : Fin 3 → Nat :=
  let arg0 : BitVec 32 := BitVec.ofNat 32 (i 0).val
  let v484 : Index := Scalar.indexCast arg0
  let c512_185 : Index := 512#32
  let c0_186 : Index := 0#32
  ![v484.toNat, 512, 0]
def k1_off20 (i : grid1.Coords) : Fin 3 → Nat :=
  let arg0 : BitVec 32 := BitVec.ofNat 32 (i 0).val
  let v555 : Index := Scalar.indexCast arg0
  let c768_213 : Index := 768#32
  let c0_214 : Index := 0#32
  ![v555.toNat, 768, 0]
def k1_off21 (i : grid1.Coords) : Fin 3 → Nat :=
  let arg0 : BitVec 32 := BitVec.ofNat 32 (i 0).val
  let v626 : Index := Scalar.indexCast arg0
  let c1024_241 : Index := 1024#32
  let c0_242 : Index := 0#32
  ![v626.toNat, 1024, 0]
def k1_off22 (i : grid1.Coords) : Fin 3 → Nat :=
  let arg0 : BitVec 32 := BitVec.ofNat 32 (i 0).val
  let v697 : Index := Scalar.indexCast arg0
  let c1280_269 : Index := 1280#32
  let c0_270 : Index := 0#32
  ![v697.toNat, 1280, 0]
def k1_off23 (i : grid1.Coords) : Fin 3 → Nat :=
  let arg0 : BitVec 32 := BitVec.ofNat 32 (i 0).val
  let v768 : Index := Scalar.indexCast arg0
  let c1536_297 : Index := 1536#32
  let c0_298 : Index := 0#32
  ![v768.toNat, 1536, 0]
def k1_off24 (i : grid1.Coords) : Fin 3 → Nat :=
  let arg0 : BitVec 32 := BitVec.ofNat 32 (i 0).val
  let v831 : Index := Scalar.indexCast arg0
  let c1792_315 : Index := 1792#32
  let c0_316 : Index := 0#32
  ![v831.toNat, 1792, 0]
def cc1_transform_0 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "chosen" => some ⊤
  | "masked" => some ⊥
  | "taken" => some ⊥
  | _ => none
-- ==== ReferenceIdeal.lean ====
abbrev S1x2048x1024 : Shape := ⟨3, ![1, 2048, 1024]⟩
abbrev S1024x1024 : Shape := ⟨2, ![1024, 1024]⟩
abbrev S1024x48 : Shape := ⟨2, ![1024, 48]⟩
abbrev S1x2048x16x64 : Shape := ⟨4, ![1, 2048, 16, 64]⟩
abbrev S1x16x2048x64 : Shape := ⟨4, ![1, 16, 2048, 64]⟩
abbrev S2048 : Shape := ⟨1, ![2048]⟩
abbrev S1x16x64x32x64 : Shape := ⟨5, ![1, 16, 64, 32, 64]⟩
abbrev S_ : Shape := ⟨0, ![]⟩
abbrev S1x16x64x64 : Shape := ⟨4, ![1, 16, 64, 64]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S1x1x2048x64 : Shape := ⟨4, ![1, 1, 2048, 64]⟩
abbrev S1x16x2048 : Shape := ⟨3, ![1, 16, 2048]⟩
abbrev S1x16x2048x1 : Shape := ⟨4, ![1, 16, 2048, 1]⟩
abbrev S1x1x2048x1 : Shape := ⟨4, ![1, 1, 2048, 1]⟩
abbrev S64x1 : Shape := ⟨2, ![64, 1]⟩
abbrev S64x64 : Shape := ⟨2, ![64, 64]⟩
abbrev S1x1x64x64 : Shape := ⟨4, ![1, 1, 64, 64]⟩
abbrev S1x16x64x16 : Shape := ⟨4, ![1, 16, 64, 16]⟩
abbrev S1x16x64x16x1 : Shape := ⟨5, ![1, 16, 64, 16, 1]⟩
abbrev S1x1x1x1x64 : Shape := ⟨5, ![1, 1, 1, 1, 64]⟩
abbrev S1x16x64x16x64 : Shape := ⟨5, ![1, 16, 64, 16, 64]⟩
abbrev S1x16x64x1x64x1 : Shape := ⟨6, ![1, 16, 64, 1, 64, 1]⟩
abbrev S1x16x64x32x64x32 : Shape := ⟨6, ![1, 16, 64, 32, 64, 32]⟩
abbrev S1x16x2048x2048 : Shape := ⟨4, ![1, 16, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x2048x48 : Shape := ⟨3, ![1, 2048, 48]⟩
abbrev S1x2048x16x3 : Shape := ⟨4, ![1, 2048, 16, 3]⟩
abbrev S1x16x2048x3 : Shape := ⟨4, ![1, 16, 2048, 3]⟩

abbrev nBuf : Space → Nat
  | .hbm => 206
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S1024x1024, .f32⟩
  | 4 => ⟨S1024x48, .f32⟩
  | 5 => ⟨S1024x1024, .f32⟩
  | 6 => ⟨S1x2048x1024, .f32⟩
  | 7 => ⟨S1x2048x16x64, .f32⟩
  | 8 => ⟨S1x16x2048x64, .f32⟩
  | 9 => ⟨S1x2048x1024, .f32⟩
  | 10 => ⟨S1x2048x16x64, .f32⟩
  | 11 => ⟨S1x16x2048x64, .f32⟩
  | 12 => ⟨S1x2048x1024, .f32⟩
  | 13 => ⟨S1x2048x16x64, .f32⟩
  | 14 => ⟨S1x16x2048x64, .f32⟩
  | 15 => ⟨S2048, .i32⟩
  | 16 => ⟨S1x16x64x32x64, .f32⟩
  | 17 => ⟨S_, .f32⟩
  | 18 => ⟨S1x16x64x64, .f32⟩
  | 19 => ⟨S_, .f32⟩
  | 20 => ⟨S1x16x64x64, .f32⟩
  | 21 => ⟨S1x16x64x64, .f32⟩
  | 22 => ⟨S1x16x64x32x64, .f32⟩
  | 23 => ⟨S_, .f32⟩
  | 24 => ⟨S1x16x64x64, .f32⟩
  | 25 => ⟨S_, .f32⟩
  | 26 => ⟨S1x16x64x64, .f32⟩
  | 27 => ⟨S1x16x64x64, .f32⟩
  | 28 => ⟨S1x16x2048x64, .f32⟩
  | 29 => ⟨S_, .f32⟩
  | 30 => ⟨S1x16x2048x64, .f32⟩
  | 31 => ⟨S1x16x2048x64, .f32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S1x64, .i32⟩
  | 43 => ⟨S2048x1, .i32⟩
  | 44 => ⟨S2048x64, .i32⟩
  | 45 => ⟨S2048x64, .i32⟩
  | 46 => ⟨S2048x64, .i1⟩
  | 47 => ⟨S1x1x2048x64, .i1⟩
  | 48 => ⟨S_, .f32⟩
  | 49 => ⟨S_, .f32⟩
  | 50 => ⟨S1x16x2048x64, .i1⟩
  | 51 => ⟨S1x16x2048x64, .f32⟩
  | 52 => ⟨S1x16x2048x64, .f32⟩
  | 53 => ⟨S_, .f32⟩
  | 54 => ⟨S1x16x2048, .f32⟩
  | 55 => ⟨S_, .f32⟩
  | 56 => ⟨S1x16x2048, .f32⟩
  | 57 => ⟨S1x16x2048, .f32⟩
  | 58 => ⟨S1x16x2048x1, .f32⟩
  | 59 => ⟨S1x16x2048x64, .f32⟩
  | 60 => ⟨S1x16x2048x64, .f32⟩
  | 61 => ⟨S1x16x2048x64, .f32⟩
  | 62 => ⟨S_, .f32⟩
  | 63 => ⟨S1x16x2048, .f32⟩
  | 64 => ⟨S1x16x2048x1, .f32⟩
  | 65 => ⟨S1x16x2048x64, .f32⟩
  | 66 => ⟨S1x16x2048x64, .f32⟩
  | 67 => ⟨S1x16x2048x64, .f32⟩
  | 68 => ⟨S_, .i1⟩
  | 69 => ⟨S2048, .i1⟩
  | 70 => ⟨S1x1x2048x1, .i1⟩
  | 71 => ⟨S_, .f32⟩
  | 72 => ⟨S_, .f32⟩
  | 73 => ⟨S1x16x2048x64, .i1⟩
  | 74 => ⟨S1x16x2048x64, .f32⟩
  | 75 => ⟨S1x16x2048x64, .f32⟩
  | 76 => ⟨S1x16x64x32x64, .f32⟩
  | 77 => ⟨S_, .f32⟩
  | 78 => ⟨S1x16x64x64, .f32⟩
  | 79 => ⟨S_, .f32⟩
  | 80 => ⟨S1x16x64x64, .f32⟩
  | 81 => ⟨S1x16x64x64, .f32⟩
  | 82 => ⟨S64, .i32⟩
  | 83 => ⟨S64, .i32⟩
  | 84 => ⟨S1x64, .i32⟩
  | 85 => ⟨S64x1, .i32⟩
  | 86 => ⟨S64x64, .i32⟩
  | 87 => ⟨S64x64, .i32⟩
  | 88 => ⟨S64x64, .i1⟩
  | 89 => ⟨S1x1x64x64, .i1⟩
  | 90 => ⟨S_, .f32⟩
  | 91 => ⟨S_, .f32⟩
  | 92 => ⟨S1x16x64x64, .i1⟩
  | 93 => ⟨S1x16x64x64, .f32⟩
  | 94 => ⟨S1x16x64x64, .f32⟩
  | 95 => ⟨S64, .i32⟩
  | 96 => ⟨S1x64, .i32⟩
  | 97 => ⟨S64x1, .i32⟩
  | 98 => ⟨S64x64, .i32⟩
  | 99 => ⟨S64x64, .i32⟩
  | 100 => ⟨S64x64, .i1⟩
  | 101 => ⟨S1x1x64x64, .i1⟩
  | 102 => ⟨S_, .f32⟩
  | 103 => ⟨S_, .f32⟩
  | 104 => ⟨S1x16x64x64, .i1⟩
  | 105 => ⟨S1x16x64x64, .f32⟩
  | 106 => ⟨S1x16x64x64, .f32⟩
  | 107 => ⟨S1x16x64x16, .f32⟩
  | 108 => ⟨S1x16x64x16, .i32⟩
  | 109 => ⟨S1x16x64x16x1, .i32⟩
  | 110 => ⟨S64, .i32⟩
  | 111 => ⟨S1x1x1x1x64, .i32⟩
  | 112 => ⟨S1x16x64x16x64, .i32⟩
  | 113 => ⟨S1x16x64x16x64, .i32⟩
  | 114 => ⟨S1x16x64x16x64, .i1⟩
  | 115 => ⟨S_, .i1⟩
  | 116 => ⟨S1x16x64x64, .i1⟩
  | 117 => ⟨S1x16x64x1x64x1, .i1⟩
  | 118 => ⟨S1x16x64x32x64x32, .i1⟩
  | 119 => ⟨S1x16x2048x2048, .i1⟩
  | 120 => ⟨S1x16x2048x2048, .f32⟩
  | 121 => ⟨S_, .f32⟩
  | 122 => ⟨S1x16x2048x2048, .f32⟩
  | 123 => ⟨S1x16x2048x2048, .f32⟩
  | 124 => ⟨S1x2048, .i32⟩
  | 125 => ⟨S2048x1, .i32⟩
  | 126 => ⟨S2048x2048, .i32⟩
  | 127 => ⟨S2048x2048, .i32⟩
  | _ => ⟨S1x2048x1024, .f32⟩

abbrev hbmTy0_1 (i : Nat) : BufTy := match i % 128 with
  | 0 => ⟨S2048x2048, .i1⟩
  | 1 => ⟨S1x1x2048x2048, .i1⟩
  | 2 => ⟨S1x16x2048x2048, .i1⟩
  | 3 => ⟨S1x16x2048x2048, .i1⟩
  | 4 => ⟨S_, .f32⟩
  | 5 => ⟨S_, .f32⟩
  | 6 => ⟨S1x16x2048x2048, .f32⟩
  | 7 => ⟨S1x16x2048x2048, .f32⟩
  | 8 => ⟨S_, .f32⟩
  | 9 => ⟨S1x16x2048, .f32⟩
  | 10 => ⟨S_, .f32⟩
  | 11 => ⟨S1x16x2048, .f32⟩
  | 12 => ⟨S1x16x2048, .f32⟩
  | 13 => ⟨S1x16x2048x1, .f32⟩
  | 14 => ⟨S1x16x2048x2048, .f32⟩
  | 15 => ⟨S1x16x2048x2048, .f32⟩
  | 16 => ⟨S1x16x2048x2048, .f32⟩
  | 17 => ⟨S_, .f32⟩
  | 18 => ⟨S1x16x2048, .f32⟩
  | 19 => ⟨S1x16x2048x1, .f32⟩
  | 20 => ⟨S1x16x2048x2048, .f32⟩
  | 21 => ⟨S1x16x2048x2048, .f32⟩
  | 22 => ⟨S1x16x2048x64, .f32⟩
  | 23 => ⟨S1x2048, .i32⟩
  | 24 => ⟨S2048x1, .i32⟩
  | 25 => ⟨S_, .i32⟩
  | 26 => ⟨S2048x1, .i32⟩
  | 27 => ⟨S2048x1, .i32⟩
  | 28 => ⟨S2048x2048, .i32⟩
  | 29 => ⟨S2048x2048, .i32⟩
  | 30 => ⟨S2048x2048, .i1⟩
  | 31 => ⟨S2048x2048, .i1⟩
  | 32 => ⟨S1x1x2048x2048, .i1⟩
  | 33 => ⟨S_, .f32⟩
  | 34 => ⟨S_, .f32⟩
  | 35 => ⟨S1x16x2048x2048, .i1⟩
  | 36 => ⟨S1x16x2048x2048, .f32⟩
  | 37 => ⟨S1x16x2048x2048, .f32⟩
  | 38 => ⟨S_, .f32⟩
  | 39 => ⟨S1x16x2048, .f32⟩
  | 40 => ⟨S_, .f32⟩
  | 41 => ⟨S1x16x2048, .f32⟩
  | 42 => ⟨S1x16x2048, .f32⟩
  | 43 => ⟨S1x16x2048x1, .f32⟩
  | 44 => ⟨S1x16x2048x2048, .f32⟩
  | 45 => ⟨S1x16x2048x2048, .f32⟩
  | 46 => ⟨S1x16x2048x2048, .f32⟩
  | 47 => ⟨S_, .f32⟩
  | 48 => ⟨S1x16x2048, .f32⟩
  | 49 => ⟨S1x16x2048x1, .f32⟩
  | 50 => ⟨S1x16x2048x2048, .f32⟩
  | 51 => ⟨S1x16x2048x2048, .f32⟩
  | 52 => ⟨S1x16x2048x64, .f32⟩
  | 53 => ⟨S1x2048x48, .f32⟩
  | 54 => ⟨S1x2048x16x3, .f32⟩
  | 55 => ⟨S1x2048x16x3, .f32⟩
  | 56 => ⟨S1x2048x16x3, .f32⟩
  | 57 => ⟨S_, .f32⟩
  | 58 => ⟨S1x2048x16x3, .f32⟩
  | 59 => ⟨S1x2048x16x3, .f32⟩
  | 60 => ⟨S_, .f32⟩
  | 61 => ⟨S1x2048x16x3, .f32⟩
  | 62 => ⟨S1x2048x16x3, .f32⟩
  | 63 => ⟨S1x16x2048x3, .f32⟩
  | 64 => ⟨S1x16x2048x1, .f32⟩
  | 65 => ⟨S1x16x2048x64, .f32⟩
  | 66 => ⟨S1x16x2048x64, .f32⟩
  | 67 => ⟨S1x16x2048x1, .f32⟩
  | 68 => ⟨S1x16x2048x64, .f32⟩
  | 69 => ⟨S1x16x2048x64, .f32⟩
  | 70 => ⟨S1x16x2048x64, .f32⟩
  | 71 => ⟨S1x16x2048x1, .f32⟩
  | 72 => ⟨S1x16x2048x64, .f32⟩
  | 73 => ⟨S1x16x2048x64, .f32⟩
  | 74 => ⟨S1x16x2048x64, .f32⟩
  | 75 => ⟨S1x2048x16x64, .f32⟩
  | 76 => ⟨S1x2048x1024, .f32⟩
  | 77 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v70 : Ref sig .tc := ⟨.hbm, 106, rfl⟩
abbrev main_values : Ref sig .tc := ⟨.hbm, 107, rfl⟩
abbrev main_indices : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_call4_v0 : Ref sig .tc := ⟨.hbm, 133, rfl⟩
abbrev main_call4_v1 : Ref sig .tc := ⟨.hbm, 134, rfl⟩
abbrev main_v92 : Ref sig .tc := ⟨.hbm, 135, rfl⟩
abbrev main_cst_19 : Ref sig .tc := ⟨.hbm, 136, rfl⟩
abbrev main_v93 : Ref sig .tc := ⟨.hbm, 137, rfl⟩
abbrev main_cst_20 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_21 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_22 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_23 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_cst_25 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_26 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_27 : Ref sig .tc := ⟨.hbm, 185, rfl⟩
abbrev main_v131 : Ref sig .tc := ⟨.hbm, 186, rfl⟩
abbrev main_v132 : Ref sig .tc := ⟨.hbm, 187, rfl⟩
abbrev main_cst_28 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩

abbrev nD : Nat := 1
abbrev τ : Topo := Topo.v7x

variable {F : FTy → Type} [FloatOps F]
-- ==== Proof.KernelIdeal.Run0.lean ====
/- The body of the projection call, run at symbolic operands. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A memref's buffer on core `c`, held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The pieces written to a buffer, the last one first. -/
abbrev Pieces (F : FTy → Type) [FloatOps F] (S : Shape) (e : EltTy) : Type := List (View.Piece (Elt F) S e)

set_option maxHeartbeats 4000000 in
/-- The first grid point of the projection call: the body casts `x` into the scratch, computes its four heads and the gates.
    The lists of pieces written to each output are the witness. -/
def run0_A (c : Dev nD) (i : grid0.Coords)
    (arg1 : Memref sig .tc .vmem S2048x1024 .f32) (harg1 : arg1.IsWhole)
    (arg2 : Memref sig .tc .vmem S1024x256 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x48 .f32) (harg5 : arg5.IsWhole)
    (arg6 : Memref sig .tc .vmem S4x2048x64 .bf16) (harg6 : arg6.IsWhole)
    (arg7 : Memref sig .tc .vmem S4x2048x64 .bf16) (harg7 : arg7.IsWhole)
    (arg8 : Memref sig .tc .vmem S4x2048x128 .bf16) (harg8 : arg8.IsWhole)
    (arg9 : Memref sig .tc .vmem S4x64x64 .f32) (harg9 : arg9.IsWhole)
    (arg10 : Memref sig .tc .vmem S4x64x64 .f32) (harg10 : arg10.IsWhole)
    (arg11 : Memref sig .tc .vmem S2048x48 .f32) (harg11 : arg11.IsWhole)
    (arg12 : Memref sig .tc .vmem S2048x1024 .bf16) (harg12 : arg12.IsWhole)
    (hc0 : (Scalar.cmpi .ne (Scalar.extui (Scalar.cmpi .eq (BitVec.ofNat 32 (i 0).val) 0#32)) 0#32) = 1#1) (hc1 : k0_cond2 i = 1#1) (hc2 : k0_cond3 i = 1#1) (hc3 : k0_cond4 i = 1#1) (hc4 : k0_cond5 i = 1#1)
    (x0 : Vec F S2048x1024 .f32) (x1 x2 x3 : Vec F S1024x256 .f32) (x4 : Vec F S1024x48 .f32) :
    { L : Pieces F S4x2048x64 .bf16 × Pieces F S4x2048x64 .bf16 × Pieces F S4x2048x128 .bf16 × Pieces F S4x64x64 .f32 × Pieces F S4x64x64 .f32 × Pieces F S2048x48 .f32 × Pieces F S2048x1024 .bf16 //
      ∀ (E : Set ℕ) (K : PUnit → sProp 𝕄) f6 f7 f8 f9 f10 f11 f12,
        iprop((pt c arg1 (harg1.unread x0)) ∗ (pt c arg2 (harg2.unread x1)) ∗ (pt c arg3 (harg3.unread x2)) ∗ (pt c arg4 (harg4.unread x3)) ∗ (pt c arg5 (harg5.unread x4)) ∗ (pt c arg6 f6) ∗ (pt c arg7 f7) ∗ (pt c arg8 f8) ∗ (pt c arg9 f9) ∗ (pt c arg10 f10) ∗ (pt c arg11 f11) ∗ (pt c arg12 f12)
          ∗ (iprop((pt c arg1 (harg1.unread x0)) ∗ (pt c arg2 (harg2.unread x1)) ∗ (pt c arg3 (harg3.unread x2)) ∗ (pt c arg4 (harg4.unread x3)) ∗ (pt c arg5 (harg5.unread x4)) ∗ (pt c arg6 (arg6.view.writes (Elt F) f6 L.1)) ∗ (pt c arg7 (arg7.view.writes (Elt F) f7 L.2.1)) ∗ (pt c arg8 (arg8.view.writes (Elt F) f8 L.2.2.1)) ∗ (pt c arg9 (arg9.view.writes (Elt F) f9 L.2.2.2.1)) ∗ (pt c arg10 (arg10.view.writes (Elt F) f10 L.2.2.2.2.1)) ∗ (pt c arg11 (arg11.view.writes (Elt F) f11 L.2.2.2.2.2.1)) ∗ (pt c arg12 (arg12.view.writes (Elt F) f12 L.2.2.2.2.2.2))) -∗ K ⟨⟩))
        ⊢ wp frame (wpE (defs₀ (F := F)) Variants.none c none) E (cc0__proj_body i arg1 harg1 arg2 harg2 arg3 harg3 arg4 harg4 arg5 harg5 arg6 harg6 arg7 harg7 arg8 harg8 arg9 harg9 arg10 harg10 arg11 harg11 arg12 harg12) K } := by
  refine ⟨⟨?_, ?_, ?_, ?_, ?_, ?_, ?_⟩, fun E K f6 f7 f8 f9 f10 f11 f12 => ?run⟩
  case run =>
    simp only [cc0__proj_body_eq_skeleton]; unfold cc0__proj_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    iintro ⟨H1, H2, H3, H4, H5, H6, H7, H8, H9, H10, H11, H12, Hk⟩
    sl_exec (disch := first | sl_exact hc0 | sl_exact hc1 | sl_exact hc2 | sl_exact hc3 | sl_exact hc4)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option maxHeartbeats 4000000 in
/-- A later grid point of the projection call: the body reads the cast of `x` (`X`) from the scratch and computes its four heads.
    The lists of pieces written to each output are the witness. -/
def run0_B (c : Dev nD) (i : grid0.Coords)
    (arg1 : Memref sig .tc .vmem S2048x1024 .f32) (harg1 : arg1.IsWhole)
    (arg2 : Memref sig .tc .vmem S1024x256 .f32) (harg2 : arg2.IsWhole)
    (arg3 : Memref sig .tc .vmem S1024x256 .f32) (harg3 : arg3.IsWhole)
    (arg4 : Memref sig .tc .vmem S1024x256 .f32) (harg4 : arg4.IsWhole)
    (arg5 : Memref sig .tc .vmem S1024x48 .f32) (harg5 : arg5.IsWhole)
    (arg6 : Memref sig .tc .vmem S4x2048x64 .bf16) (harg6 : arg6.IsWhole)
    (arg7 : Memref sig .tc .vmem S4x2048x64 .bf16) (harg7 : arg7.IsWhole)
    (arg8 : Memref sig .tc .vmem S4x2048x128 .bf16) (harg8 : arg8.IsWhole)
    (arg9 : Memref sig .tc .vmem S4x64x64 .f32) (harg9 : arg9.IsWhole)
    (arg10 : Memref sig .tc .vmem S4x64x64 .f32) (harg10 : arg10.IsWhole)
    (arg11 : Memref sig .tc .vmem S2048x48 .f32) (harg11 : arg11.IsWhole)
    (arg12 : Memref sig .tc .vmem S2048x1024 .bf16) (harg12 : arg12.IsWhole)
    (hc0 : ¬ ((Scalar.cmpi .ne (Scalar.extui (Scalar.cmpi .eq (BitVec.ofNat 32 (i 0).val) 0#32)) 0#32) = 1#1)) (hc1 : ¬ (k0_cond2 i = 1#1)) (hc2 : ¬ (k0_cond3 i = 1#1)) (hc3 : ¬ (k0_cond4 i = 1#1)) (hc4 : ¬ (k0_cond5 i = 1#1))
    (x1 x2 x3 : Vec F S1024x256 .f32) (X : Vec F S2048x1024 .bf16) :
    { L : Pieces F S4x2048x64 .bf16 × Pieces F S4x2048x64 .bf16 × Pieces F S4x2048x128 .bf16 × Pieces F S4x64x64 .f32 × Pieces F S4x64x64 .f32 //
      ∀ (E : Set ℕ) (K : PUnit → sProp 𝕄) f6 f7 f8 f9 f10,
        iprop((pt c arg2 (harg2.unread x1)) ∗ (pt c arg3 (harg3.unread x2)) ∗ (pt c arg4 (harg4.unread x3)) ∗ (pt c arg12 (harg12.unread X)) ∗ (pt c arg6 f6) ∗ (pt c arg7 f7) ∗ (pt c arg8 f8) ∗ (pt c arg9 f9) ∗ (pt c arg10 f10)
          ∗ (iprop((pt c arg2 (harg2.unread x1)) ∗ (pt c arg3 (harg3.unread x2)) ∗ (pt c arg4 (harg4.unread x3)) ∗ (pt c arg12 (harg12.unread X)) ∗ (pt c arg6 (arg6.view.writes (Elt F) f6 L.1)) ∗ (pt c arg7 (arg7.view.writes (Elt F) f7 L.2.1)) ∗ (pt c arg8 (arg8.view.writes (Elt F) f8 L.2.2.1)) ∗ (pt c arg9 (arg9.view.writes (Elt F) f9 L.2.2.2.1)) ∗ (pt c arg10 (arg10.view.writes (Elt F) f10 L.2.2.2.2))) -∗ K ⟨⟩))
        ⊢ wp frame (wpE (defs₀ (F := F)) Variants.none c none) E (cc0__proj_body i arg1 harg1 arg2 harg2 arg3 harg3 arg4 harg4 arg5 harg5 arg6 harg6 arg7 harg7 arg8 harg8 arg9 harg9 arg10 harg10 arg11 harg11 arg12 harg12) K } := by
  refine ⟨⟨?_, ?_, ?_, ?_, ?_⟩, fun E K f6 f7 f8 f9 f10 => ?run⟩
  case run =>
    simp only [cc0__proj_body_eq_skeleton]; unfold cc0__proj_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    iintro ⟨H2, H3, H4, H12, H6, H7, H8, H9, H10, Hk⟩
    sl_exec (disch := first | sl_exact hc0 | sl_exact hc1 | sl_exact hc2 | sl_exact hc3 | sl_exact hc4)
    sl_step
    iapply Hk
    isplitl [H2]; · iexact H2
    isplitl [H3]; · iexact H3
    isplitl [H4]; · iexact H4
    isplitl [H12]; · iexact H12
    isplitl [H6]; · iexact H6
    isplitl [H7]; · iexact H7
    isplitl [H8]; · iexact H8
    isplitl [H9]; · iexact H9
    iexact H10

end Cert.KernelIdeal.Gen

end
-- ==== Proof.KernelIdeal.Region0.lean ====
/- The projection call as a pipeline region: what each grid point finds and leaves, and the body's triple at every point. -/
module

public import proofs.«01_k».proof.Proof.KernelIdeal.Run0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Memrefs owned at a value, and their buffers' raw contents -/

theorem whole_set {sp : Space} {S : Shape} {e : EltTy} {M : Memref sig .tc sp S e} (h : M.IsWhole) : M.view.set = Finset.univ := by
  obtain ⟨b, rfl, rfl, rfl, hm⟩ := h; cases hm
  simp only [Memref.view_whole, View.set_whole]

/-- A whole memref owned at `x` is its buffer at the raw contents that read `x`. -/
theorem own_pt (c : Dev nD) {sp : Space} {S : Shape} {e : EltTy} {M : Memref sig .tc sp S e} (h : M.IsWhole) (x : S.Idx → Elt F e) :
    (owns (c : Thread nD τ) M fullShare x : sProp 𝕄) ⊢ pt c M (h.unread x) := by
  unfold owns pt
  rw [whole_set h]
  iintro ⟨%f, %hf, H⟩
  obtain rfl := h.eq_unread hf
  iexact H

/-- A buffer whose raw contents read `x` through a whole memref is the memref owned at `x`. -/
theorem pt_own (c : Dev nD) {sp : Space} {S : Shape} {e : EltTy} {M : Memref sig .tc sp S e} (h : M.IsWhole)
    (f : Buf (Elt F) (M.view.loc (c : Thread nD τ))) (x : S.Idx → Elt F e) (hx : M.view.read (Elt F) f = x) :
    (pt c M f : sProp 𝕄) ⊢ owns (c : Thread nD τ) M fullShare x := by
  unfold owns pt
  rw [whole_set h]
  iintro H
  iexists f; isplitr; · ipureintro; exact hx
  iexact H

/-- The raw contents that read `x` give the memref owned at `x` back. -/
theorem unread_own (c : Dev nD) {sp : Space} {S : Shape} {e : EltTy} {M : Memref sig .tc sp S e} (h : M.IsWhole) (x : S.Idx → Elt F e) :
    (pt c M (h.unread x) : sProp 𝕄) ⊢ owns (c : Thread nD τ) M fullShare x :=
  pt_own c h _ x (h.read_unread x)

/-- A buffer after writes that cover it is the memref owned at what the writes leave. -/
theorem writes_own (c : Dev nD) {sp : Space} {S : Shape} {e : EltTy} {M : Memref sig .tc sp S e} (h : M.IsWhole)
    (f : Buf (Elt F) (M.view.loc (c : Thread nD τ))) (L : Pieces F S e) (hL : ∀ y, ∃ p ∈ L, y ∈ p.1.set) :
    (pt c M (M.view.writes (Elt F) f L) : sProp 𝕄) ⊢ owns (c : Thread nD τ) M fullShare (View.canon L) :=
  pt_own c h _ _ (View.read_writes_eq_canon M.view f L hL)

/-- A memref owned at a value is its buffer at some raw contents. -/
theorem own_pt_any (c : Dev nD) {sp : Space} {S : Shape} {e : EltTy} {M : Memref sig .tc sp S e} (h : M.IsWhole) (x : S.Idx → Elt F e) :
    (owns (c : Thread nD τ) M fullShare x : sProp 𝕄) ⊢ iprop(∃ f, (pt c M f)) := by
  refine (own_pt c h x).trans ?_
  iintro H; iexists _; iexact H

variable (V : (c : Dev nD) → (b : Ref sig .tc) → Buf (Elt F) ((c : Thread nD τ).loc b))

/-! ## The windows' blocks and the branch conditions -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Branch 0 of the body is taken at the first point only. -/
theorem hcond0_0 : ∀ t : Fin cfg0.N, ((Scalar.cmpi .ne (Scalar.extui (Scalar.cmpi .eq (BitVec.ofNat 32 (grid0.coords t 0).val) 0#32)) 0#32) = 1#1) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [e0]
    word_cmp
   : ∀ t : Fin grid0.N, ((Scalar.cmpi .ne (Scalar.extui (Scalar.cmpi .eq (BitVec.ofNat 32 (grid0.coords t 0).val) 0#32)) 0#32) = 1#1) ↔ t.val % 4 = 0)

/-- Branch 1 of the body is taken at the first point only. -/
theorem hcond0_1 : ∀ t : Fin cfg0.N, (k0_cond2 (grid0.coords t) = 1#1) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond2, e0]
    word_cmp
   : ∀ t : Fin grid0.N, (k0_cond2 (grid0.coords t) = 1#1) ↔ t.val % 4 = 0)

/-- Branch 2 of the body is taken at the first point only. -/
theorem hcond0_2 : ∀ t : Fin cfg0.N, (k0_cond3 (grid0.coords t) = 1#1) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond3, e0]
    word_cmp
   : ∀ t : Fin grid0.N, (k0_cond3 (grid0.coords t) = 1#1) ↔ t.val % 4 = 0)

/-- Branch 3 of the body is taken at the first point only. -/
theorem hcond0_3 : ∀ t : Fin cfg0.N, (k0_cond4 (grid0.coords t) = 1#1) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond4, e0]
    word_cmp
   : ∀ t : Fin grid0.N, (k0_cond4 (grid0.coords t) = 1#1) ↔ t.val % 4 = 0)

/-- Branch 4 of the body is taken at the first point only. -/
theorem hcond0_4 : ∀ t : Fin cfg0.N, (k0_cond5 (grid0.coords t) = 1#1) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond5, e0]
    word_cmp
   : ∀ t : Fin grid0.N, (k0_cond5 (grid0.coords t) = 1#1) ↔ t.val % 4 = 0)

/-! ## The staging memrefs -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x48 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x2048x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x2048x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x64x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x48 .f32 := win0_10.stage (cfg0.slots t 10)
abbrev hs0_10 (t : Fin cfg0.N) : (ms0_10 t).IsWhole := hstage0_10 ((cfg0.slots t 10).cast nbuf0_10)
/-- The scratch that holds the cast of `x`. -/
abbrev scM0 : Memref sig .tc .vmem S2048x1024 .bf16 := Memref.whole cc0_scratch0
abbrev hscM0 : (scM0).IsWhole := Memref.isWhole_whole _

/-! ## What the points leave -/

/-- The body's run at the first point. -/
def at0_A (c : Dev nD) (t : Fin cfg0.N) (h : t.val % 4 = 0) :=
  run0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 hscM0 ((hcond0_0 t).mpr h) ((hcond0_1 t).mpr h) ((hcond0_2 t).mpr h) ((hcond0_3 t).mpr h) ((hcond0_4 t).mpr h) (iblk0 V c 0 t) (iblk0 V c 1 t) (iblk0 V c 2 t) (iblk0 V c 3 t) (iblk0 V c 4 t)

/-- The body's run at a later point, the scratch holding `X`. -/
def at0_B (c : Dev nD) (t : Fin cfg0.N) (h : ¬ t.val % 4 = 0) (X : Vec F S2048x1024 .bf16) :=
  run0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 hscM0 (fun h' => h ((hcond0_0 t).mp h')) (fun h' => h ((hcond0_1 t).mp h')) (fun h' => h ((hcond0_2 t).mp h')) (fun h' => h ((hcond0_3 t).mp h')) (fun h' => h ((hcond0_4 t).mp h')) (iblk0 V c 1 t) (iblk0 V c 2 t) (iblk0 V c 3 t) X

/-- The first point. -/
def z0 : Fin cfg0.N := ⟨0, by decide⟩
theorem z0_val : (z0).val % 4 = 0 := rfl

/-- The scratch after the first point: the cast of `x`. -/
def X0 (c : Dev nD) : Vec F S2048x1024 .bf16 := View.canon (at0_A V c z0 z0_val).1.2.2.2.2.2.2

/-- The gates, which the first point computes. -/
def G0 (c : Dev nD) : Vec F S2048x48 .f32 := View.canon (at0_A V c z0 z0_val).1.2.2.2.2.2.1

/-- What output window 5 holds after point `t`. -/
def o0_5 (c : Dev nD) (t : Fin cfg0.N) : Vec F S4x2048x64 .bf16 :=
  if h : t.val % 4 = 0 then View.canon (at0_A V c t h).1.1 else View.canon (at0_B V c t h (X0 V c)).1.1
/-- What output window 6 holds after point `t`. -/
def o0_6 (c : Dev nD) (t : Fin cfg0.N) : Vec F S4x2048x64 .bf16 :=
  if h : t.val % 4 = 0 then View.canon (at0_A V c t h).1.2.1 else View.canon (at0_B V c t h (X0 V c)).1.2.1
/-- What output window 7 holds after point `t`. -/
def o0_7 (c : Dev nD) (t : Fin cfg0.N) : Vec F S4x2048x128 .bf16 :=
  if h : t.val % 4 = 0 then View.canon (at0_A V c t h).1.2.2.1 else View.canon (at0_B V c t h (X0 V c)).1.2.2.1
/-- What output window 8 holds after point `t`. -/
def o0_8 (c : Dev nD) (t : Fin cfg0.N) : Vec F S4x64x64 .f32 :=
  if h : t.val % 4 = 0 then View.canon (at0_A V c t h).1.2.2.2.1 else View.canon (at0_B V c t h (X0 V c)).1.2.2.2.1
/-- What output window 9 holds after point `t`. -/
def o0_9 (c : Dev nD) (t : Fin cfg0.N) : Vec F S4x64x64 .f32 :=
  if h : t.val % 4 = 0 then View.canon (at0_A V c t h).1.2.2.2.2.1 else View.canon (at0_B V c t h (X0 V c)).1.2.2.2.2

/-! ## The writes cover the buffers -/

theorem cover0_A0 (c : Dev nD) (t : Fin cfg0.N) (h : t.val % 4 = 0) : ∀ y : S4x2048x64.Idx, ∃ p ∈ (at0_A V c t h).1.1, y ∈ p.1.set :=
  View.cover_of_tiledL _ S1x512x64.size (by sl_kernel_rfl)
theorem cover0_B0 (c : Dev nD) (t : Fin cfg0.N) (h : ¬ t.val % 4 = 0) (X : Vec F S2048x1024 .bf16) : ∀ y : S4x2048x64.Idx, ∃ p ∈ (at0_B V c t h X).1.1, y ∈ p.1.set :=
  View.cover_of_tiledL _ S1x512x64.size (by sl_kernel_rfl)
theorem cover0_A1 (c : Dev nD) (t : Fin cfg0.N) (h : t.val % 4 = 0) : ∀ y : S4x2048x64.Idx, ∃ p ∈ (at0_A V c t h).1.2.1, y ∈ p.1.set :=
  View.cover_of_tiledL _ S1x512x64.size (by sl_kernel_rfl)
theorem cover0_B1 (c : Dev nD) (t : Fin cfg0.N) (h : ¬ t.val % 4 = 0) (X : Vec F S2048x1024 .bf16) : ∀ y : S4x2048x64.Idx, ∃ p ∈ (at0_B V c t h X).1.2.1, y ∈ p.1.set :=
  View.cover_of_tiledL _ S1x512x64.size (by sl_kernel_rfl)
theorem cover0_A2 (c : Dev nD) (t : Fin cfg0.N) (h : t.val % 4 = 0) : ∀ y : S4x2048x128.Idx, ∃ p ∈ (at0_A V c t h).1.2.2.1, y ∈ p.1.set :=
  View.cover_of_tiledL _ S1x512x64.size (by sl_kernel_rfl)
theorem cover0_B2 (c : Dev nD) (t : Fin cfg0.N) (h : ¬ t.val % 4 = 0) (X : Vec F S2048x1024 .bf16) : ∀ y : S4x2048x128.Idx, ∃ p ∈ (at0_B V c t h X).1.2.2.1, y ∈ p.1.set :=
  View.cover_of_tiledL _ S1x512x64.size (by sl_kernel_rfl)
theorem cover0_A3 (c : Dev nD) (t : Fin cfg0.N) (h : t.val % 4 = 0) : ∀ y : S4x64x64.Idx, ∃ p ∈ (at0_A V c t h).1.2.2.2.1, y ∈ p.1.set :=
  View.cover_of_tiledL _ S1x16x64.size (by sl_kernel_rfl)
theorem cover0_B3 (c : Dev nD) (t : Fin cfg0.N) (h : ¬ t.val % 4 = 0) (X : Vec F S2048x1024 .bf16) : ∀ y : S4x64x64.Idx, ∃ p ∈ (at0_B V c t h X).1.2.2.2.1, y ∈ p.1.set :=
  View.cover_of_tiledL _ S1x16x64.size (by sl_kernel_rfl)
theorem cover0_A4 (c : Dev nD) (t : Fin cfg0.N) (h : t.val % 4 = 0) : ∀ y : S4x64x64.Idx, ∃ p ∈ (at0_A V c t h).1.2.2.2.2.1, y ∈ p.1.set :=
  View.cover_of_tiledL _ S1x16x64.size (by sl_kernel_rfl)
theorem cover0_B4 (c : Dev nD) (t : Fin cfg0.N) (h : ¬ t.val % 4 = 0) (X : Vec F S2048x1024 .bf16) : ∀ y : S4x64x64.Idx, ∃ p ∈ (at0_B V c t h X).1.2.2.2.2, y ∈ p.1.set :=
  View.cover_of_tiledL _ S1x16x64.size (by sl_kernel_rfl)
theorem cover0_A5 (c : Dev nD) (t : Fin cfg0.N) (h : t.val % 4 = 0) : ∀ y : S2048x48.Idx, ∃ p ∈ (at0_A V c t h).1.2.2.2.2.2.1, y ∈ p.1.set :=
  View.cover_of_tiledL _ S512x48.size (by sl_kernel_rfl)
theorem cover0_A6 (c : Dev nD) (t : Fin cfg0.N) (h : t.val % 4 = 0) : ∀ y : S2048x1024.Idx, ∃ p ∈ (at0_A V c t h).1.2.2.2.2.2.2, y ∈ p.1.set :=
  View.cover_of_tiledL _ S512x1024.size (by sl_kernel_rfl)

/-! ## The region's proof data -/

/-- The invariant: before the first point the scoped buffers at anything, after it the scratch at the cast of `x`. -/
def PhiS0 (c : Dev nD) (n : ℕ) : sProp 𝕄 :=
  if n = 0 then (Pipeline.scopedRest spec0 c)
  else iprop(owns (c : Thread nD τ) scM0 fullShare (X0 V c) ∗ Pipeline.scopedRestBut spec0 c [cc0_scratch0])

/-- The proof data of the projection call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => o0_5 V c t
    | ⟨6, _⟩ => o0_6 V c t
    | ⟨7, _⟩ => o0_7 V c t
    | ⟨8, _⟩ => o0_8 V c t
    | ⟨9, _⟩ => o0_9 V c t
    | ⟨10, _⟩ => G0 V c
  Φ t := PhiS0 V c t.val
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = o0_5 V c t := by dsimp only [dat0]
theorem after0_6 (c : Dev nD) (t : Fin cfg0.N) : (dat0 V c).after 6 t = o0_6 V c t := by dsimp only [dat0]
theorem after0_7 (c : Dev nD) (t : Fin cfg0.N) : (dat0 V c).after 7 t = o0_7 V c t := by dsimp only [dat0]
theorem after0_8 (c : Dev nD) (t : Fin cfg0.N) : (dat0 V c).after 8 t = o0_8 V c t := by dsimp only [dat0]
theorem after0_9 (c : Dev nD) (t : Fin cfg0.N) : (dat0 V c).after 9 t = o0_9 V c t := by dsimp only [dat0]
theorem after0_10 (c : Dev nD) (t : Fin cfg0.N) : (dat0 V c).after 10 t = G0 V c := by dsimp only [dat0]
theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem before0_2 (c : Dev nD) (t : Fin cfg0.N) (d) : (dat0 V c).before 2 t d = iblk0 V c 2 t :=
  before0_2_of V (dat0 V c) (A0_eq V c 2) (after0_2 V c) t d
theorem before0_3 (c : Dev nD) (t : Fin cfg0.N) (d) : (dat0 V c).before 3 t d = iblk0 V c 3 t :=
  before0_3_of V (dat0 V c) (A0_eq V c 3) (after0_3 V c) t d
theorem before0_4 (c : Dev nD) (t : Fin cfg0.N) (d) : (dat0 V c).before 4 t d = iblk0 V c 4 t :=
  before0_4_of V (dat0 V c) (A0_eq V c 4) (after0_4 V c) t d

/-- The gates' window is stored into at the first point only. -/
theorem idle0_10_first (t : Fin cfg0.N) (h : t.val % 4 = 0) : cfg0.idle 10 (cfg0.grid.coords t) = false := by
  have h1 := (hcond0_1 t).mpr h
  change (!(k0_cond2 (grid0.coords t) == 1#1) && !(k0_cond3 (grid0.coords t) == 1#1) && !(k0_cond4 (grid0.coords t) == 1#1) && !(k0_cond5 (grid0.coords t) == 1#1)) = false
  rw [h1]; rfl
theorem idle0_10_later (t : Fin cfg0.N) (h : ¬ t.val % 4 = 0) : cfg0.idle 10 (cfg0.grid.coords t) = true := by
  have h1 : ¬ _ := fun h' => h ((hcond0_1 t).mp h')
  have h2 : ¬ _ := fun h' => h ((hcond0_2 t).mp h')
  have h3 : ¬ _ := fun h' => h ((hcond0_3 t).mp h')
  have h4 : ¬ _ := fun h' => h ((hcond0_4 t).mp h')
  change (!(k0_cond2 (grid0.coords t) == 1#1) && !(k0_cond3 (grid0.coords t) == 1#1) && !(k0_cond4 (grid0.coords t) == 1#1) && !(k0_cond5 (grid0.coords t) == 1#1)) = true
  simp only [beq_eq_false_iff_ne.mpr h1, beq_eq_false_iff_ne.mpr h2, beq_eq_false_iff_ne.mpr h3, beq_eq_false_iff_ne.mpr h4]
  rfl

/-- After the first point the gates' buffer holds the gates. -/
theorem before0_10 (c : Dev nD) : ∀ (n : ℕ) (t : Fin cfg0.N) (_ : t.val = n + 1) (d), (dat0 V c).before 10 t d = G0 V c
  | n, t, hn, d => by
    have hN : t.val < 4 := lt_of_lt_of_eq t.isLt (show cfg0.N = 4 from N_0)
    rw [Dat.before_of_pos _ 10 t (by omega) rfl d, if_neg (by rw [flush0_10]; simp only; omega)]
    unfold Dat.left
    match n, hn with
    | 0, hn =>
      rw [idle0_10_first _ (by simp only; omega)]
      exact after0_10 V c _
    | n + 1, hn =>
      rw [idle0_10_later _ (by simp only; omega)]
      exact before0_10 c n _ (by simp only; omega) d

/-! ## The body's triple at a point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

theorem leaves0_0 (c : Dev nD) (t : Fin cfg0.N) : (dat0 V c).leavesExact 0 t = owns (c : Thread nD τ) (ms0_0 t) fullShare ((dat0 V c).after 0 t) := by
  unfold Dat.leavesExact; rw [show cfg0.idle 0 (cfg0.grid.coords t) = false from rfl]
theorem leaves0_1 (c : Dev nD) (t : Fin cfg0.N) : (dat0 V c).leavesExact 1 t = owns (c : Thread nD τ) (ms0_1 t) fullShare ((dat0 V c).after 1 t) := by
  unfold Dat.leavesExact; rw [show cfg0.idle 1 (cfg0.grid.coords t) = false from rfl]
theorem leaves0_2 (c : Dev nD) (t : Fin cfg0.N) : (dat0 V c).leavesExact 2 t = owns (c : Thread nD τ) (ms0_2 t) fullShare ((dat0 V c).after 2 t) := by
  unfold Dat.leavesExact; rw [show cfg0.idle 2 (cfg0.grid.coords t) = false from rfl]
theorem leaves0_3 (c : Dev nD) (t : Fin cfg0.N) : (dat0 V c).leavesExact 3 t = owns (c : Thread nD τ) (ms0_3 t) fullShare ((dat0 V c).after 3 t) := by
  unfold Dat.leavesExact; rw [show cfg0.idle 3 (cfg0.grid.coords t) = false from rfl]
theorem leaves0_4 (c : Dev nD) (t : Fin cfg0.N) : (dat0 V c).leavesExact 4 t = owns (c : Thread nD τ) (ms0_4 t) fullShare ((dat0 V c).after 4 t) := by
  unfold Dat.leavesExact; rw [show cfg0.idle 4 (cfg0.grid.coords t) = false from rfl]
theorem leaves0_5 (c : Dev nD) (t : Fin cfg0.N) : (dat0 V c).leavesExact 5 t = owns (c : Thread nD τ) (ms0_5 t) fullShare ((dat0 V c).after 5 t) := by
  unfold Dat.leavesExact; rw [show cfg0.idle 5 (cfg0.grid.coords t) = false from rfl]
theorem leaves0_6 (c : Dev nD) (t : Fin cfg0.N) : (dat0 V c).leavesExact 6 t = owns (c : Thread nD τ) (ms0_6 t) fullShare ((dat0 V c).after 6 t) := by
  unfold Dat.leavesExact; rw [show cfg0.idle 6 (cfg0.grid.coords t) = false from rfl]
theorem leaves0_7 (c : Dev nD) (t : Fin cfg0.N) : (dat0 V c).leavesExact 7 t = owns (c : Thread nD τ) (ms0_7 t) fullShare ((dat0 V c).after 7 t) := by
  unfold Dat.leavesExact; rw [show cfg0.idle 7 (cfg0.grid.coords t) = false from rfl]
theorem leaves0_8 (c : Dev nD) (t : Fin cfg0.N) : (dat0 V c).leavesExact 8 t = owns (c : Thread nD τ) (ms0_8 t) fullShare ((dat0 V c).after 8 t) := by
  unfold Dat.leavesExact; rw [show cfg0.idle 8 (cfg0.grid.coords t) = false from rfl]
theorem leaves0_9 (c : Dev nD) (t : Fin cfg0.N) : (dat0 V c).leavesExact 9 t = owns (c : Thread nD τ) (ms0_9 t) fullShare ((dat0 V c).after 9 t) := by
  unfold Dat.leavesExact; rw [show cfg0.idle 9 (cfg0.grid.coords t) = false from rfl]

/-- The gates' buffer at the gates is what the body leaves of it, at every point. -/
theorem leaves0_10 (c : Dev nD) (t : Fin cfg0.N) : owns (c : Thread nD τ) (ms0_10 t) fullShare (G0 V c) ⊢ ((dat0 V c).leavesExact 10 t : sProp 𝕄) := by
  have hN : t.val < 4 := lt_of_lt_of_eq t.isLt (show cfg0.N = 4 from N_0)
  unfold Dat.leavesExact
  by_cases h : t.val % 4 = 0
  · rw [idle0_10_first t h, after0_10]
  · rw [idle0_10_later t h]
    by_cases h3 : t.val % 4 = 3
    · rw [(flush0_10 t).mpr h3, after0_10]
    · rw [Bool.eq_false_iff.mpr fun h' => h3 ((flush0_10 t).mp h')]
      iintro H
      iexists (fun _ => Classical.arbitrary _)
      rw [before0_10 V c (t.val - 1) t (by omega)]
      iexact H

/-- The scratch taken out of the scoped buffers. -/
theorem scoped0 (c : Dev nD) : (Pipeline.scopedRest spec0 c : sProp 𝕄)
    = iprop((∃ f, (pt c scM0 f)) ∗ Pipeline.scopedRestBut spec0 c [cc0_scratch0]) := by
  rw [Pipeline.scopedRest_split_of_list spec0 c [cc0_scratch0] (by decide) (by decide)]
  simp only [bigSepL_singleton]
  rfl

theorem PhiS0_zero (c : Dev nD) : PhiS0 V c 0 = Pipeline.scopedRest spec0 c := by unfold PhiS0; rw [if_pos rfl]
theorem PhiS0_pos (c : Dev nD) (n : ℕ) (h : n ≠ 0) :
    PhiS0 V c n = iprop(owns (c : Thread nD τ) scM0 fullShare (X0 V c) ∗ Pipeline.scopedRestBut spec0 c [cc0_scratch0]) := by
  unfold PhiS0; rw [if_neg h]

theorem Phi0_castSucc (c : Dev nD) (t : Fin cfg0.N) : (dat0 V c).Φ t.castSucc = PhiS0 V c t.val := rfl
theorem Phi0_succ (c : Dev nD) (t : Fin cfg0.N) : (dat0 V c).Φ t.succ = PhiS0 V c (t.val + 1) := rfl

set_option maxHeartbeats 4000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 4 := lt_of_lt_of_eq t.isLt (show cfg0.N = 4 from N_0)
  unfold bodyPre0 bodyPost0 bodyAt0
  simp only [before0_0, before0_1, before0_2, before0_3, before0_4, leaves0_0, leaves0_1, leaves0_2, leaves0_3, leaves0_4, leaves0_5, leaves0_6, leaves0_7, leaves0_8, leaves0_9, after0_0, after0_1, after0_2, after0_3, after0_4, after0_5, after0_6, after0_7, after0_8, after0_9, Phi0_castSucc, Phi0_succ]
  rw [show (dat0 V c).owesAt () t.succ = (dat0 V c).owesAt () t.castSucc from rfl, PhiS0_pos V c (t.val + 1) (by omega)]
  by_cases h : t.val % 4 = 0
  · obtain rfl : t = z0 := Fin.ext (by show t.val = 0; omega)
    rw [show (z0).val = 0 from rfl, PhiS0_zero, scoped0]
    iintro ⟨⟨HS, Hb⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    icases HS with ⟨%fs, HS⟩
    ihave H5 := (own_pt_any c (hs0_5 _) _) $$ H5
    icases H5 with ⟨%f5, H5⟩
    ihave H6 := (own_pt_any c (hs0_6 _) _) $$ H6
    icases H6 with ⟨%f6, H6⟩
    ihave H7 := (own_pt_any c (hs0_7 _) _) $$ H7
    icases H7 with ⟨%f7, H7⟩
    ihave H8 := (own_pt_any c (hs0_8 _) _) $$ H8
    icases H8 with ⟨%f8, H8⟩
    ihave H9 := (own_pt_any c (hs0_9 _) _) $$ H9
    icases H9 with ⟨%f9, H9⟩
    ihave H10 := (own_pt_any c (hs0_10 _) _) $$ H10
    icases H10 with ⟨%f10, H10⟩
    ihave H0 := (own_pt c (hs0_0 _) _) $$ H0
    ihave H1 := (own_pt c (hs0_1 _) _) $$ H1
    ihave H2 := (own_pt c (hs0_2 _) _) $$ H2
    ihave H3 := (own_pt c (hs0_3 _) _) $$ H3
    ihave H4 := (own_pt c (hs0_4 _) _) $$ H4
    iapply ((at0_A V c z0 z0_val).2 Set.univ _ _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, H7, H8, H9, H10, HS⟩
    isplitl [HS Hb]
    · isplitl [HS]
      · iapply (writes_own c hscM0 _ _ (cover0_A6 V c z0 z0_val)); iexact HS
      iexact Hb
    isplitl [Ho]; · iexact Ho
    isplitl [H0]; · iapply (unread_own c (hs0_0 _) _); iexact H0
    isplitl [H1]; · iapply (unread_own c (hs0_1 _) _); iexact H1
    isplitl [H2]; · iapply (unread_own c (hs0_2 _) _); iexact H2
    isplitl [H3]; · iapply (unread_own c (hs0_3 _) _); iexact H3
    isplitl [H4]; · iapply (unread_own c (hs0_4 _) _); iexact H4
    isplitl [H5]; · rw [o0_5, dif_pos z0_val]; iapply (writes_own c (hs0_5 _) _ _ (cover0_A0 V c z0 z0_val)); iexact H5
    isplitl [H6]; · rw [o0_6, dif_pos z0_val]; iapply (writes_own c (hs0_6 _) _ _ (cover0_A1 V c z0 z0_val)); iexact H6
    isplitl [H7]; · rw [o0_7, dif_pos z0_val]; iapply (writes_own c (hs0_7 _) _ _ (cover0_A2 V c z0 z0_val)); iexact H7
    isplitl [H8]; · rw [o0_8, dif_pos z0_val]; iapply (writes_own c (hs0_8 _) _ _ (cover0_A3 V c z0 z0_val)); iexact H8
    isplitl [H9]; · rw [o0_9, dif_pos z0_val]; iapply (writes_own c (hs0_9 _) _ _ (cover0_A4 V c z0 z0_val)); iexact H9
    iapply (leaves0_10 V c z0); unfold G0; iapply (writes_own c (hs0_10 _) _ _ (cover0_A5 V c z0 z0_val)); iexact H10
  · rw [PhiS0_pos V c t.val (by omega)]
    iintro ⟨⟨HS, Hb⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave H5 := (own_pt_any c (hs0_5 _) _) $$ H5
    icases H5 with ⟨%f5, H5⟩
    ihave H6 := (own_pt_any c (hs0_6 _) _) $$ H6
    icases H6 with ⟨%f6, H6⟩
    ihave H7 := (own_pt_any c (hs0_7 _) _) $$ H7
    icases H7 with ⟨%f7, H7⟩
    ihave H8 := (own_pt_any c (hs0_8 _) _) $$ H8
    icases H8 with ⟨%f8, H8⟩
    ihave H9 := (own_pt_any c (hs0_9 _) _) $$ H9
    icases H9 with ⟨%f9, H9⟩
    ihave H1 := (own_pt c (hs0_1 _) _) $$ H1
    ihave H2 := (own_pt c (hs0_2 _) _) $$ H2
    ihave H3 := (own_pt c (hs0_3 _) _) $$ H3
    ihave HS := (own_pt c hscM0 _) $$ HS
    iapply ((at0_B V c t h (X0 V c)).2 Set.univ _ _ _ _ _ _)
    isplitl [H1]; · iexact H1
    isplitl [H2]; · iexact H2
    isplitl [H3]; · iexact H3
    isplitl [HS]; · iexact HS
    isplitl [H5]; · iexact H5
    isplitl [H6]; · iexact H6
    isplitl [H7]; · iexact H7
    isplitl [H8]; · iexact H8
    isplitl [H9]; · iexact H9
    iintro ⟨H1, H2, H3, HS, H5, H6, H7, H8, H9⟩
    isplitl [HS Hb]
    · isplitl [HS]
      · iapply (unread_own c hscM0 _); iexact HS
      iexact Hb
    isplitl [Ho]; · iexact Ho
    isplitl [H0]; · iexact H0
    isplitl [H1]; · iapply (unread_own c (hs0_1 _) _); iexact H1
    isplitl [H2]; · iapply (unread_own c (hs0_2 _) _); iexact H2
    isplitl [H3]; · iapply (unread_own c (hs0_3 _) _); iexact H3
    isplitl [H4]; · iexact H4
    isplitl [H5]; · rw [o0_5, dif_neg h]; iapply (writes_own c (hs0_5 _) _ _ (cover0_B0 V c t h (X0 V c))); iexact H5
    isplitl [H6]; · rw [o0_6, dif_neg h]; iapply (writes_own c (hs0_6 _) _ _ (cover0_B1 V c t h (X0 V c))); iexact H6
    isplitl [H7]; · rw [o0_7, dif_neg h]; iapply (writes_own c (hs0_7 _) _ _ (cover0_B2 V c t h (X0 V c))); iexact H7
    isplitl [H8]; · rw [o0_8, dif_neg h]; iapply (writes_own c (hs0_8 _) _ _ (cover0_B3 V c t h (X0 V c))); iexact H8
    isplitl [H9]; · rw [o0_9, dif_neg h]; iapply (writes_own c (hs0_9 _) _ _ (cover0_B4 V c t h (X0 V c))); iexact H9
    iapply (leaves0_10 V c t); rw [before0_10 V c (t.val - 1) t (by omega)]; iexact H10

theorem defs₀_row0 (t : Fin cfg0.N) :
    defs₀ (F := F) .tc cfg0.body (cfg0.bodyArgs t (cfg0.slots t)) = bodyAt0 t := by
  unfold defs₀; rw [Defs.onTc_tc]

/-- The body obligation of the projection call. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KernelIdeal.Run1.lean ====
/- The body of the attention call, run at symbolic operands. -/
module

public import proofs.«01_k».proof.Proof.KernelIdeal.Run0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The first grid point of the attention call: the body casts `Wo` into the scratch and attends with head 0.
    The lists of pieces written are the witness. -/
def run1_A (c : Dev nD) (i : grid1.Coords)
    (arg1 : Memref sig .tc .vmem S1x2048x64 .bf16) (harg1 : arg1.IsWhole)
    (arg2 : Memref sig .tc .vmem S1x2048x64 .bf16) (harg2 : arg2.IsWhole)
    (arg3 : Memref sig .tc .vmem S1x2048x128 .bf16) (harg3 : arg3.IsWhole)
    (arg4 : Memref sig .tc .vmem S1x64x64 .f32) (harg4 : arg4.IsWhole)
    (arg5 : Memref sig .tc .vmem S1x64x64 .f32) (harg5 : arg5.IsWhole)
    (arg6 : Memref sig .tc .vmem S2048x48 .f32) (harg6 : arg6.IsWhole)
    (arg7 : Memref sig .tc .vmem S1024x1024 .f32) (harg7 : arg7.IsWhole)
    (arg8 : Memref sig .tc .vmem S256x1024 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S16x2048x64 .bf16) (harg11 : arg11.IsWhole)
    (arg12 : Memref sig .tc .vmem S256x1024 .bf16) (harg12 : arg12.IsWhole)
    (arg13 : Memref sig .tc .vmem S1024x1024 .bf16) (harg13 : arg13.IsWhole)
    (hc0 : (Scalar.cmpi .ne (Scalar.extui (Scalar.cmpi .eq (BitVec.ofNat 32 (i 0).val) 0#32)) 0#32) = 1#1) (hc1 : ¬ (k1_cond2 i = 1#1)) (hc2 : k1_cond3 i = 1#1)
    (x0 : Vec F S1x2048x64 .bf16) (x1 : Vec F S1x2048x64 .bf16) (x2 : Vec F S1x2048x128 .bf16) (x3 : Vec F S1x64x64 .f32) (x4 : Vec F S1x64x64 .f32) (x5 : Vec F S2048x48 .f32) (x6 : Vec F S1024x1024 .f32) :
    { L : Pieces F S16x2048x64 .bf16 × Pieces F S1024x1024 .bf16 //
      ∀ (E : Set ℕ) (K : PUnit → sProp 𝕄) f11 f13 f9 f10,
        iprop((pt c arg1 (harg1.unread x0)) ∗ (pt c arg2 (harg2.unread x1)) ∗ (pt c arg3 (harg3.unread x2)) ∗ (pt c arg4 (harg4.unread x3)) ∗ (pt c arg5 (harg5.unread x4)) ∗ (pt c arg6 (harg6.unread x5)) ∗ (pt c arg7 (harg7.unread x6)) ∗ (pt c arg11 f11) ∗ (pt c arg13 f13) ∗ (pt c arg9 f9) ∗ (pt c arg10 f10)
          ∗ (iprop((pt c arg1 (harg1.unread x0)) ∗ (pt c arg2 (harg2.unread x1)) ∗ (pt c arg3 (harg3.unread x2)) ∗ (pt c arg4 (harg4.unread x3)) ∗ (pt c arg5 (harg5.unread x4)) ∗ (pt c arg6 (harg6.unread x5)) ∗ (pt c arg7 (harg7.unread x6)) ∗ (pt c arg11 (arg11.view.writes (Elt F) f11 L.1)) ∗ (pt c arg13 (arg13.view.writes (Elt F) f13 L.2)) ∗ (∃ f, (pt c arg9 f)) ∗ (∃ f, (pt c arg10 f))) -∗ K ⟨⟩))
        ⊢ wp frame (wpE (defs₀ (F := F)) Variants.none c none) E (cc1__attn_body i arg1 harg1 arg2 harg2 arg3 harg3 arg4 harg4 arg5 harg5 arg6 harg6 arg7 harg7 arg8 harg8 arg9 harg9 arg10 harg10 arg11 harg11 arg12 harg12 arg13 harg13) K } := by
  refine ⟨⟨?_, ?_⟩, fun E K f11 f13 f9 f10 => ?run⟩
  case run =>
    simp only [cc1__attn_body_eq_skeleton]; unfold cc1__attn_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
    iintro ⟨H1, H2, H3, H4, H5, H6, H7, H11, H13, H9, H10, Hk⟩
    sl_exec (disch := first | sl_exact hc0 | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H11]; · iexact H11
    isplitl [H13]; · iexact H13
    isplitl [H9]; · iexists _; iexact H9
    iexists _; iexact H10

set_option maxHeartbeats 8000000 in
/-- A later head's grid point of the attention call.
    The lists of pieces written are the witness. -/
def run1_B (c : Dev nD) (i : grid1.Coords)
    (arg1 : Memref sig .tc .vmem S1x2048x64 .bf16) (harg1 : arg1.IsWhole)
    (arg2 : Memref sig .tc .vmem S1x2048x64 .bf16) (harg2 : arg2.IsWhole)
    (arg3 : Memref sig .tc .vmem S1x2048x128 .bf16) (harg3 : arg3.IsWhole)
    (arg4 : Memref sig .tc .vmem S1x64x64 .f32) (harg4 : arg4.IsWhole)
    (arg5 : Memref sig .tc .vmem S1x64x64 .f32) (harg5 : arg5.IsWhole)
    (arg6 : Memref sig .tc .vmem S2048x48 .f32) (harg6 : arg6.IsWhole)
    (arg7 : Memref sig .tc .vmem S1024x1024 .f32) (harg7 : arg7.IsWhole)
    (arg8 : Memref sig .tc .vmem S256x1024 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S16x2048x64 .bf16) (harg11 : arg11.IsWhole)
    (arg12 : Memref sig .tc .vmem S256x1024 .bf16) (harg12 : arg12.IsWhole)
    (arg13 : Memref sig .tc .vmem S1024x1024 .bf16) (harg13 : arg13.IsWhole)
    (hc0 : ¬ ((Scalar.cmpi .ne (Scalar.extui (Scalar.cmpi .eq (BitVec.ofNat 32 (i 0).val) 0#32)) 0#32) = 1#1)) (hc1 : ¬ (k1_cond2 i = 1#1)) (hc2 : k1_cond3 i = 1#1)
    (x0 : Vec F S1x2048x64 .bf16) (x1 : Vec F S1x2048x64 .bf16) (x2 : Vec F S1x2048x128 .bf16) (x3 : Vec F S1x64x64 .f32) (x4 : Vec F S1x64x64 .f32) (x5 : Vec F S2048x48 .f32) :
    { L : Pieces F S16x2048x64 .bf16 //
      ∀ (E : Set ℕ) (K : PUnit → sProp 𝕄) f11 f9 f10,
        iprop((pt c arg1 (harg1.unread x0)) ∗ (pt c arg2 (harg2.unread x1)) ∗ (pt c arg3 (harg3.unread x2)) ∗ (pt c arg4 (harg4.unread x3)) ∗ (pt c arg5 (harg5.unread x4)) ∗ (pt c arg6 (harg6.unread x5)) ∗ (pt c arg11 f11) ∗ (pt c arg9 f9) ∗ (pt c arg10 f10)
          ∗ (iprop((pt c arg1 (harg1.unread x0)) ∗ (pt c arg2 (harg2.unread x1)) ∗ (pt c arg3 (harg3.unread x2)) ∗ (pt c arg4 (harg4.unread x3)) ∗ (pt c arg5 (harg5.unread x4)) ∗ (pt c arg6 (harg6.unread x5)) ∗ (pt c arg11 (arg11.view.writes (Elt F) f11 L)) ∗ (∃ f, (pt c arg9 f)) ∗ (∃ f, (pt c arg10 f))) -∗ K ⟨⟩))
        ⊢ wp frame (wpE (defs₀ (F := F)) Variants.none c none) E (cc1__attn_body i arg1 harg1 arg2 harg2 arg3 harg3 arg4 harg4 arg5 harg5 arg6 harg6 arg7 harg7 arg8 harg8 arg9 harg9 arg10 harg10 arg11 harg11 arg12 harg12 arg13 harg13) K } := by
  refine ⟨?_, fun E K f11 f9 f10 => ?run⟩
  case run =>
    simp only [cc1__attn_body_eq_skeleton]; unfold cc1__attn_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
    iintro ⟨H1, H2, H3, H4, H5, H6, H11, H9, H10, Hk⟩
    sl_exec (disch := first | sl_exact hc0 | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H11]; · iexact H11
    isplitl [H9]; · iexists _; iexact H9
    iexists _; iexact H10

set_option maxHeartbeats 8000000 in
/-- A row chunk's grid point of the attention call: the body lays the heads' results (`X`) side by side and multiplies them with the cast of `Wo` (`B`).
    The lists of pieces written are the witness. -/
def run1_C (c : Dev nD) (i : grid1.Coords)
    (arg1 : Memref sig .tc .vmem S1x2048x64 .bf16) (harg1 : arg1.IsWhole)
    (arg2 : Memref sig .tc .vmem S1x2048x64 .bf16) (harg2 : arg2.IsWhole)
    (arg3 : Memref sig .tc .vmem S1x2048x128 .bf16) (harg3 : arg3.IsWhole)
    (arg4 : Memref sig .tc .vmem S1x64x64 .f32) (harg4 : arg4.IsWhole)
    (arg5 : Memref sig .tc .vmem S1x64x64 .f32) (harg5 : arg5.IsWhole)
    (arg6 : Memref sig .tc .vmem S2048x48 .f32) (harg6 : arg6.IsWhole)
    (arg7 : Memref sig .tc .vmem S1024x1024 .f32) (harg7 : arg7.IsWhole)
    (arg8 : Memref sig .tc .vmem S256x1024 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S16x2048x64 .bf16) (harg11 : arg11.IsWhole)
    (arg12 : Memref sig .tc .vmem S256x1024 .bf16) (harg12 : arg12.IsWhole)
    (arg13 : Memref sig .tc .vmem S1024x1024 .bf16) (harg13 : arg13.IsWhole)
    (hc0 : ¬ ((Scalar.cmpi .ne (Scalar.extui (Scalar.cmpi .eq (BitVec.ofNat 32 (i 0).val) 0#32)) 0#32) = 1#1)) (hc1 : k1_cond2 i = 1#1) (hc2 : ¬ (k1_cond3 i = 1#1))
    (X : Vec F S16x2048x64 .bf16) (B : Vec F S1024x1024 .bf16) :
    { L : Pieces F S256x1024 .f32 //
      ∀ (E : Set ℕ) (K : PUnit → sProp 𝕄) f8 f12,
        iprop((pt c arg11 (harg11.unread X)) ∗ (pt c arg13 (harg13.unread B)) ∗ (pt c arg8 f8) ∗ (pt c arg12 f12)
          ∗ (iprop((pt c arg11 (harg11.unread X)) ∗ (pt c arg13 (harg13.unread B)) ∗ (pt c arg8 (arg8.view.writes (Elt F) f8 L)) ∗ (∃ f, (pt c arg12 f))) -∗ K ⟨⟩))
        ⊢ wp frame (wpE (defs₀ (F := F)) Variants.none c none) E (cc1__attn_body i arg1 harg1 arg2 harg2 arg3 harg3 arg4 harg4 arg5 harg5 arg6 harg6 arg7 harg7 arg8 harg8 arg9 harg9 arg10 harg10 arg11 harg11 arg12 harg12 arg13 harg13) K } := by
  refine ⟨?_, fun E K f8 f12 => ?run⟩
  case run =>
    simp only [cc1__attn_body_eq_skeleton]; unfold cc1__attn_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
    iintro ⟨H11, H13, H8, H12, Hk⟩
    sl_exec (disch := first | sl_exact hc0 | sl_exact hc1 | sl_exact hc2)
    sl_step
    iapply Hk
    isplitl [H11]; · iexact H11
    isplitl [H13]; · iexact H13
    isplitl [H8]; · iexact H8
    iexists _; iexact H12

end Cert.KernelIdeal.Gen

end
-- ==== Proof.KernelIdeal.Region1.lean ====
/- The attention call as a pipeline region: what each grid point finds and leaves, and the body's triple at every point. -/
module

public import proofs.«01_k».proof.Proof.KernelIdeal.Region0
public import proofs.«01_k».proof.Proof.KernelIdeal.Run1

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks and the branch conditions -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The cast of `Wo` is made at the first point only. -/
theorem hcond1_0 : ∀ t : Fin cfg1.N, ((Scalar.cmpi .ne (Scalar.extui (Scalar.cmpi .eq (BitVec.ofNat 32 (grid1.coords t 0).val) 0#32)) 0#32) = 1#1) ↔ t.val = 0 :=
  (fun t => by
    have ht : t.val < 24 := Nat.lt_of_lt_of_eq t.isLt N_1
    have e0 : (grid1.coords t 0).val = t.val / 1 % 24 := Pipeline.Grid.coords_val t 0 (by decide) rfl
    rw [Nat.div_one, Nat.mod_eq_of_lt ht] at e0
    simp only [e0]
    revert ht; generalize t.val = n; intro ht
    revert n; decide +kernel
   : ∀ t : Fin grid1.N, ((Scalar.cmpi .ne (Scalar.extui (Scalar.cmpi .eq (BitVec.ofNat 32 (grid1.coords t 0).val) 0#32)) 0#32) = 1#1) ↔ t.val = 0)

/-- The chunks' points are 16 and later. -/
theorem hcond1_1 : ∀ t : Fin cfg1.N, (k1_cond2 (grid1.coords t) = 1#1) ↔ 16 ≤ t.val :=
  (fun t => by
    have ht : t.val < 24 := Nat.lt_of_lt_of_eq t.isLt N_1
    have e0 : (grid1.coords t 0).val = t.val / 1 % 24 := Pipeline.Grid.coords_val t 0 (by decide) rfl
    rw [Nat.div_one, Nat.mod_eq_of_lt ht] at e0
    simp only [k1_cond2, e0]
    revert ht; generalize t.val = n; intro ht
    revert n; decide +kernel
   : ∀ t : Fin grid1.N, (k1_cond2 (grid1.coords t) = 1#1) ↔ 16 ≤ t.val)

/-- The heads' points are those before 16. -/
theorem hcond1_2 : ∀ t : Fin cfg1.N, (k1_cond3 (grid1.coords t) = 1#1) ↔ t.val < 16 :=
  (fun t => by
    have ht : t.val < 24 := Nat.lt_of_lt_of_eq t.isLt N_1
    have e0 : (grid1.coords t 0).val = t.val / 1 % 24 := Pipeline.Grid.coords_val t 0 (by decide) rfl
    rw [Nat.div_one, Nat.mod_eq_of_lt ht] at e0
    simp only [k1_cond3, e0]
    revert ht; generalize t.val = n; intro ht
    revert n; decide +kernel
   : ∀ t : Fin grid1.N, (k1_cond3 (grid1.coords t) = 1#1) ↔ t.val < 16)

/-! ## The staging memrefs -/

abbrev ms1_0 (t : Fin cfg1.N) : Memref sig .tc .vmem S1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x48 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x1024 .f32 := win1_7.stage (cfg1.slots t 7)
abbrev hs1_7 (t : Fin cfg1.N) : (ms1_7 t).IsWhole := hstage1_7 ((cfg1.slots t 7).cast nbuf1_7)
abbrev sc1_0 : Memref sig .tc .vmem S2048x128 .bf16 := Memref.whole cc1_scratch0
abbrev hsc1_0 : (sc1_0).IsWhole := Memref.isWhole_whole _
abbrev sc1_1 : Memref sig .tc .vmem S2048x128 .bf16 := Memref.whole cc1_scratch1
abbrev hsc1_1 : (sc1_1).IsWhole := Memref.isWhole_whole _
abbrev sc1_2 : Memref sig .tc .vmem S16x2048x64 .bf16 := Memref.whole cc1_scratch2
abbrev hsc1_2 : (sc1_2).IsWhole := Memref.isWhole_whole _
abbrev sc1_3 : Memref sig .tc .vmem S256x1024 .bf16 := Memref.whole cc1_scratch3
abbrev hsc1_3 : (sc1_3).IsWhole := Memref.isWhole_whole _
abbrev sc1_4 : Memref sig .tc .vmem S1024x1024 .bf16 := Memref.whole cc1_scratch4
abbrev hsc1_4 : (sc1_4).IsWhole := Memref.isWhole_whole _

/-! ## What the points leave -/

/-- The body's run at the first point: head 0. -/
def at1_A (c : Dev nD) (t : Fin cfg1.N) (h : t.val = 0) :=
  run1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) sc1_0 hsc1_0 sc1_1 hsc1_1 sc1_2 hsc1_2 sc1_3 hsc1_3 sc1_4 hsc1_4 ((hcond1_0 t).mpr h) (fun h' => absurd ((hcond1_1 t).mp h') (by omega)) ((hcond1_2 t).mpr (by omega)) (iblk1 V c 0 t) (iblk1 V c 1 t) (iblk1 V c 2 t) (iblk1 V c 3 t) (iblk1 V c 4 t) (iblk1 V c 5 t) (iblk1 V c 6 t)

/-- The body's run at a later head's point. -/
def at1_B (c : Dev nD) (t : Fin cfg1.N) (h : ¬ t.val = 0) (h2 : t.val < 16) :=
  run1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) sc1_0 hsc1_0 sc1_1 hsc1_1 sc1_2 hsc1_2 sc1_3 hsc1_3 sc1_4 hsc1_4 (fun h' => h ((hcond1_0 t).mp h')) (fun h' => absurd ((hcond1_1 t).mp h') (by omega)) ((hcond1_2 t).mpr h2) (iblk1 V c 0 t) (iblk1 V c 1 t) (iblk1 V c 2 t) (iblk1 V c 3 t) (iblk1 V c 4 t) (iblk1 V c 5 t)

/-- The body's run at a chunk's point, the heads' results being `X` and the cast of `Wo` `B`. -/
def at1_C (c : Dev nD) (t : Fin cfg1.N) (h : 16 ≤ t.val) (X : Vec F S16x2048x64 .bf16) (B : Vec F S1024x1024 .bf16) :=
  run1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) sc1_0 hsc1_0 sc1_1 hsc1_1 sc1_2 hsc1_2 sc1_3 hsc1_3 sc1_4 hsc1_4 (fun h' => absurd ((hcond1_0 t).mp h') (by omega)) ((hcond1_1 t).mpr h) (fun h' => absurd ((hcond1_2 t).mp h') (by omega)) X B

/-- The first point. -/
def z1 : Fin cfg1.N := ⟨0, by decide⟩
theorem z1_val : (z1).val = 0 := rfl

/-- The cast of `Wo`, which the first point makes. -/
def WB (c : Dev nD) : Vec F S1024x1024 .bf16 := View.canon (at1_A V c z1 z1_val).1.2

/-- The pieces a head's point writes to the heads' results. -/
def Loh (c : Dev nD) (t : Fin cfg1.N) : Pieces F S16x2048x64 .bf16 :=
  if h : t.val = 0 then (at1_A V c t h).1.1 else if h2 : t.val < 16 then (at1_B V c t h h2).1 else []

/-- The point of the head that `y` belongs to. -/
def hpt (y : S16x2048x64.Idx) : Fin cfg1.N := ⟨(y 0).val, lt_of_lt_of_eq (lt_trans (y 0).isLt (by decide : (16 : ℕ) < 24)) N_1.symm⟩

/-- All heads' results. -/
def OH (c : Dev nD) : Vec F S16x2048x64 .bf16 := fun y => View.canon (Loh V c (hpt y)) y

/-- What the result's window holds after a chunk's point `t`. -/
def o1_7 (c : Dev nD) (t : Fin cfg1.N) : Vec F S256x1024 .f32 :=
  if h : 16 ≤ t.val then View.canon (at1_C c t h (OH V c) (WB V c)).1 else View.canon []

/-! ## The writes of a head's point: the head's rows, whole -/

/-- A list of pieces that fills exactly head `t`'s rows. -/
def FillsHead (L : Pieces F S16x2048x64 .bf16) (t : ℕ) : Prop :=
  (∀ p ∈ L, ∀ y ∈ p.1.set, (y 0).val = t) ∧ ∀ y : S16x2048x64.Idx, (y 0).val = t → ∃ p ∈ L, y ∈ p.1.set

theorem off17 : ∀ t : Fin cfg1.N, k1_off17 (grid1.coords t) = ![t.val, 0, 0] :=
  (by decide +kernel : ∀ t : Fin grid1.N, k1_off17 (grid1.coords t) = ![t.val, 0, 0])
theorem off18 : ∀ t : Fin cfg1.N, k1_off18 (grid1.coords t) = ![t.val, 256, 0] :=
  (by decide +kernel : ∀ t : Fin grid1.N, k1_off18 (grid1.coords t) = ![t.val, 256, 0])
theorem off19 : ∀ t : Fin cfg1.N, k1_off19 (grid1.coords t) = ![t.val, 512, 0] :=
  (by decide +kernel : ∀ t : Fin grid1.N, k1_off19 (grid1.coords t) = ![t.val, 512, 0])
theorem off20 : ∀ t : Fin cfg1.N, k1_off20 (grid1.coords t) = ![t.val, 768, 0] :=
  (by decide +kernel : ∀ t : Fin grid1.N, k1_off20 (grid1.coords t) = ![t.val, 768, 0])
theorem off21 : ∀ t : Fin cfg1.N, k1_off21 (grid1.coords t) = ![t.val, 1024, 0] :=
  (by decide +kernel : ∀ t : Fin grid1.N, k1_off21 (grid1.coords t) = ![t.val, 1024, 0])
theorem off22 : ∀ t : Fin cfg1.N, k1_off22 (grid1.coords t) = ![t.val, 1280, 0] :=
  (by decide +kernel : ∀ t : Fin grid1.N, k1_off22 (grid1.coords t) = ![t.val, 1280, 0])
theorem off23 : ∀ t : Fin cfg1.N, k1_off23 (grid1.coords t) = ![t.val, 1536, 0] :=
  (by decide +kernel : ∀ t : Fin grid1.N, k1_off23 (grid1.coords t) = ![t.val, 1536, 0])
theorem off24 : ∀ t : Fin cfg1.N, k1_off24 (grid1.coords t) = ![t.val, 1792, 0] :=
  (by decide +kernel : ∀ t : Fin grid1.N, k1_off24 (grid1.coords t) = ![t.val, 1792, 0])

/-- Eight chunks of 256 rows of head `t` fill its rows. -/
theorem fills_of (t : ℕ) (o0 o1 o2 o3 o4 o5 o6 o7 : Fin 3 → ℕ) (h0 : o0 = ![t, 0, 0]) (h1 : o1 = ![t, 256, 0]) (h2 : o2 = ![t, 512, 0]) (h3 : o3 = ![t, 768, 0]) (h4 : o4 = ![t, 1024, 0]) (h5 : o5 = ![t, 1280, 0]) (h6 : o6 = ![t, 1536, 0]) (h7 : o7 = ![t, 1792, 0])
    (i0 : ∀ a, o0 a + S1x256x64.size a ≤ S16x2048x64.size a) (i1 : ∀ a, o1 a + S1x256x64.size a ≤ S16x2048x64.size a) (i2 : ∀ a, o2 a + S1x256x64.size a ≤ S16x2048x64.size a) (i3 : ∀ a, o3 a + S1x256x64.size a ≤ S16x2048x64.size a) (i4 : ∀ a, o4 a + S1x256x64.size a ≤ S16x2048x64.size a) (i5 : ∀ a, o5 a + S1x256x64.size a ≤ S16x2048x64.size a) (i6 : ∀ a, o6 a + S1x256x64.size a ≤ S16x2048x64.size a) (i7 : ∀ a, o7 a + S1x256x64.size a ≤ S16x2048x64.size a)
    (w0 : S1x256x64.Idx → Elt F .bf16) (w1 : S1x256x64.Idx → Elt F .bf16) (w2 : S1x256x64.Idx → Elt F .bf16) (w3 : S1x256x64.Idx → Elt F .bf16) (w4 : S1x256x64.Idx → Elt F .bf16) (w5 : S1x256x64.Idx → Elt F .bf16) (w6 : S1x256x64.Idx → Elt F .bf16) (w7 : S1x256x64.Idx → Elt F .bf16) :
    FillsHead (F := F) [⟨Rect.unit o7 S1x256x64.size i7, w7⟩, ⟨Rect.unit o6 S1x256x64.size i6, w6⟩, ⟨Rect.unit o5 S1x256x64.size i5, w5⟩, ⟨Rect.unit o4 S1x256x64.size i4, w4⟩, ⟨Rect.unit o3 S1x256x64.size i3, w3⟩, ⟨Rect.unit o2 S1x256x64.size i2, w2⟩, ⟨Rect.unit o1 S1x256x64.size i1, w1⟩, ⟨Rect.unit o0 S1x256x64.size i0, w0⟩] t := by
  subst h0 h1 h2 h3 h4 h5 h6 h7
  constructor
  · intro p hp y hy
    simp only [List.mem_cons, List.not_mem_nil, or_false] at hp
    have row : ∀ (o : ℕ) (inb : ∀ a, (![t, o, 0] : Fin 3 → ℕ) a + S1x256x64.size a ≤ S16x2048x64.size a),
        y ∈ (Rect.unit (s := S16x2048x64) ![t, o, 0] S1x256x64.size inb).set → (y 0).val = t := by
      intro o inb hy
      have a0 : t ≤ (y 0).val ∧ (y 0).val < t + 1 := Rect.mem_set_unit.mp hy 0
      omega
    rcases hp with rfl | rfl | rfl | rfl | rfl | rfl | rfl | rfl <;> first | exact row _ i0 hy | exact row _ i1 hy | exact row _ i2 hy | exact row _ i3 hy | exact row _ i4 hy | exact row _ i5 hy | exact row _ i6 hy | exact row _ i7 hy
  · intro y hy
    have h1 : (y 1).val < 2048 := (y 1).isLt
    have h2 : (y 2).val < 64 := (y 2).isLt
    have key : ∀ (o : ℕ) (inb : ∀ a, (![t, o, 0] : Fin 3 → ℕ) a + S1x256x64.size a ≤ S16x2048x64.size a), o ≤ (y 1).val → (y 1).val < o + 256 →
        y ∈ (Rect.unit (s := S16x2048x64) ![t, o, 0] S1x256x64.size inb).set := by
      intro o inb ha hb
      refine Rect.mem_set_unit.mpr fun a => ?_
      match a with
      | 0 => exact ⟨le_of_eq hy.symm, by show (y 0).val < t + 1; omega⟩
      | 1 => exact ⟨ha, hb⟩
      | 2 => exact ⟨Nat.zero_le _, by show (y 2).val < 0 + 64; omega⟩
    rcases (by omega : (0 ≤ (y 1).val ∧ (y 1).val < 0 + 256) ∨ (256 ≤ (y 1).val ∧ (y 1).val < 256 + 256) ∨ (512 ≤ (y 1).val ∧ (y 1).val < 512 + 256) ∨ (768 ≤ (y 1).val ∧ (y 1).val < 768 + 256) ∨ (1024 ≤ (y 1).val ∧ (y 1).val < 1024 + 256) ∨ (1280 ≤ (y 1).val ∧ (y 1).val < 1280 + 256) ∨ (1536 ≤ (y 1).val ∧ (y 1).val < 1536 + 256) ∨ (1792 ≤ (y 1).val ∧ (y 1).val < 1792 + 256)) with h | h | h | h | h | h | h | h
    · exact ⟨⟨Rect.unit _ S1x256x64.size i0, w0⟩, by simp only [List.mem_cons, _root_.true_or, _root_.or_true], key 0 i0 h.1 h.2⟩
    · exact ⟨⟨Rect.unit _ S1x256x64.size i1, w1⟩, by simp only [List.mem_cons, _root_.true_or, _root_.or_true], key 256 i1 h.1 h.2⟩
    · exact ⟨⟨Rect.unit _ S1x256x64.size i2, w2⟩, by simp only [List.mem_cons, _root_.true_or, _root_.or_true], key 512 i2 h.1 h.2⟩
    · exact ⟨⟨Rect.unit _ S1x256x64.size i3, w3⟩, by simp only [List.mem_cons, _root_.true_or, _root_.or_true], key 768 i3 h.1 h.2⟩
    · exact ⟨⟨Rect.unit _ S1x256x64.size i4, w4⟩, by simp only [List.mem_cons, _root_.true_or, _root_.or_true], key 1024 i4 h.1 h.2⟩
    · exact ⟨⟨Rect.unit _ S1x256x64.size i5, w5⟩, by simp only [List.mem_cons, _root_.true_or, _root_.or_true], key 1280 i5 h.1 h.2⟩
    · exact ⟨⟨Rect.unit _ S1x256x64.size i6, w6⟩, by simp only [List.mem_cons, _root_.true_or, _root_.or_true], key 1536 i6 h.1 h.2⟩
    · exact ⟨⟨Rect.unit _ S1x256x64.size i7, w7⟩, by simp only [List.mem_cons, _root_.true_or, _root_.or_true], key 1792 i7 h.1 h.2⟩

theorem Loh_fills (c : Dev nD) (t : Fin cfg1.N) (h2 : t.val < 16) : FillsHead (Loh V c t) t.val := by
  unfold Loh
  by_cases h : t.val = 0
  · rw [dif_pos h]; exact fills_of t.val _ _ _ _ _ _ _ _ (off17 t) (off18 t) (off19 t) (off20 t) (off21 t) (off22 t) (off23 t) (off24 t) _ _ _ _ _ _ _ _ _ _ _ _ _ _ _ _
  · rw [dif_neg h, dif_pos h2]; exact fills_of t.val _ _ _ _ _ _ _ _ (off17 t) (off18 t) (off19 t) (off20 t) (off21 t) (off22 t) (off23 t) (off24 t) _ _ _ _ _ _ _ _ _ _ _ _ _ _ _ _

/-- A place that no piece holds keeps its contents. -/
theorem read_writes_miss {sp : Space} {S : Shape} {e : EltTy} (v : View sig .tc sp S e) (f : v.ty.Contents (Elt F)) (y : S.Idx) :
    ∀ L : Pieces F S e, (∀ p ∈ L, y ∉ p.1.set) → v.read (Elt F) (v.writes (Elt F) f L) y = v.read (Elt F) f y
  | [], _ => rfl
  | p :: L, h => by
    rw [View.read_writes_cons_miss v f p L y (h p List.mem_cons_self)]
    exact read_writes_miss v f y L fun q hq => h q (List.mem_cons_of_mem _ hq)

/-- After head `t`'s point, the heads up to `t` hold their results. -/
theorem oh_step (c : Dev nD) (t : Fin cfg1.N) (h2 : t.val < 16) (L : Pieces F S16x2048x64 .bf16) (hL : Loh V c t = L) {sp : Space} (v : View sig .tc sp S16x2048x64 .bf16) (f : v.ty.Contents (Elt F))
    (hf : ∀ y : S16x2048x64.Idx, (y 0).val < t.val → v.read (Elt F) f y = OH V c y) (y : S16x2048x64.Idx) (hy : (y 0).val < t.val + 1) :
    v.read (Elt F) (v.writes (Elt F) f L) y = OH V c y := by
  subst hL
  have hF := Loh_fills V c t h2
  by_cases e : (y 0).val = t.val
  · rw [View.read_writes_apply_eq_canon v f y _ (hF.2 y e)]
    unfold OH
    rw [show hpt y = t from Fin.ext e]
  · rw [read_writes_miss v f y _ fun p hp hy' => e (hF.1 p hp y hy')]
    exact hf y (by omega)

theorem Loh_A (c : Dev nD) (t : Fin cfg1.N) (h : t.val = 0) : Loh V c t = (at1_A V c t h).1.1 := by unfold Loh; rw [dif_pos h]
theorem Loh_B (c : Dev nD) (t : Fin cfg1.N) (h : ¬ t.val = 0) (h2 : t.val < 16) : Loh V c t = (at1_B V c t h h2).1 := by unfold Loh; rw [dif_neg h, dif_pos h2]

theorem cover1_A (c : Dev nD) (t : Fin cfg1.N) (h : t.val = 0) : ∀ y : S1024x1024.Idx, ∃ p ∈ (at1_A V c t h).1.2, y ∈ p.1.set :=
  View.cover_of_tiledL _ S1024x1024.size (by sl_kernel_rfl)
theorem cover1_C (c : Dev nD) (t : Fin cfg1.N) (h : 16 ≤ t.val) (X : Vec F S16x2048x64 .bf16) (B : Vec F S1024x1024 .bf16) :
    ∀ y : S256x1024.Idx, ∃ p ∈ (at1_C c t h X B).1, y ∈ p.1.set :=
  View.cover_of_tiledL _ S256x1024.size (by sl_kernel_rfl)

/-! ## The region's proof data -/

/-- The invariant after a point `n - 1`: the heads before `n` have their results in the scratch, the cast of `Wo` is made. -/
def PhiS1 (c : Dev nD) (n : ℕ) : sProp 𝕄 :=
  if n = 0 then (Pipeline.scopedRest spec1 c)
  else iprop(((∃ f, (pt c sc1_0 f)) ∗ (∃ f, (pt c sc1_1 f))
    ∗ (∃ g, ⌜∀ y : S16x2048x64.Idx, (y 0).val < n → g y = OH V c y⌝ ∗ owns (c : Thread nD τ) sc1_2 fullShare g)
    ∗ (∃ f, (pt c sc1_3 f)) ∗ owns (c : Thread nD τ) sc1_4 fullShare (WB V c))
    ∗ Pipeline.scopedRestBut spec1 c [cc1_scratch0, cc1_scratch1, cc1_scratch2, cc1_scratch3, cc1_scratch4])

/-- The proof data of the attention call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => o1_7 V c t
  Φ t := PhiS1 V c t.val
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = o1_7 V c t := by dsimp only [dat1]
theorem before1_0 (c : Dev nD) (t : Fin cfg1.N) (d) : (dat1 V c).before 0 t d = iblk1 V c 0 t :=
  before1_0_of V (dat1 V c) (A1_eq V c 0) (after1_0 V c) t d
theorem before1_1 (c : Dev nD) (t : Fin cfg1.N) (d) : (dat1 V c).before 1 t d = iblk1 V c 1 t :=
  before1_1_of V (dat1 V c) (A1_eq V c 1) (after1_1 V c) t d
theorem before1_2 (c : Dev nD) (t : Fin cfg1.N) (d) : (dat1 V c).before 2 t d = iblk1 V c 2 t :=
  before1_2_of V (dat1 V c) (A1_eq V c 2) (after1_2 V c) t d
theorem before1_3 (c : Dev nD) (t : Fin cfg1.N) (d) : (dat1 V c).before 3 t d = iblk1 V c 3 t :=
  before1_3_of V (dat1 V c) (A1_eq V c 3) (after1_3 V c) t d
theorem before1_4 (c : Dev nD) (t : Fin cfg1.N) (d) : (dat1 V c).before 4 t d = iblk1 V c 4 t :=
  before1_4_of V (dat1 V c) (A1_eq V c 4) (after1_4 V c) t d
theorem before1_5 (c : Dev nD) (t : Fin cfg1.N) (d) : (dat1 V c).before 5 t d = iblk1 V c 5 t :=
  before1_5_of V (dat1 V c) (A1_eq V c 5) (after1_5 V c) t d
theorem before1_6 (c : Dev nD) (t : Fin cfg1.N) (d) : (dat1 V c).before 6 t d = iblk1 V c 6 t :=
  before1_6_of V (dat1 V c) (A1_eq V c 6) (after1_6 V c) t d

/-- The result's window is written back at the chunks' points only. -/
theorem flush1_7 : ∀ t : Fin cfg1.N, (cfg1.win 7).flush t = decide (16 ≤ t.val) :=
  (by decide +kernel : ∀ t : Fin grid1.N, win1_7.flush t = decide (16 ≤ t.val))
theorem idle1_7_chunk (t : Fin cfg1.N) (h : 16 ≤ t.val) : cfg1.idle 7 (cfg1.grid.coords t) = false := by
  have h1 := (hcond1_1 t).mpr h
  change (!(k1_cond2 (grid1.coords t) == 1#1)) = false
  rw [h1]; rfl
theorem idle1_7_head (t : Fin cfg1.N) (h : t.val < 16) : cfg1.idle 7 (cfg1.grid.coords t) = true := by
  have h1 : ¬ _ := fun h' => absurd ((hcond1_1 t).mp h') (by omega)
  change (!(k1_cond2 (grid1.coords t) == 1#1)) = true
  simp only [beq_eq_false_iff_ne.mpr h1]
  rfl

/-! ## The body's triple at a point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) : (dat1 V c).leavesExact 0 t = owns (c : Thread nD τ) (ms1_0 t) fullShare ((dat1 V c).after 0 t) := by
  unfold Dat.leavesExact; rw [show cfg1.idle 0 (cfg1.grid.coords t) = false from rfl]
theorem leaves1_1 (c : Dev nD) (t : Fin cfg1.N) : (dat1 V c).leavesExact 1 t = owns (c : Thread nD τ) (ms1_1 t) fullShare ((dat1 V c).after 1 t) := by
  unfold Dat.leavesExact; rw [show cfg1.idle 1 (cfg1.grid.coords t) = false from rfl]
theorem leaves1_2 (c : Dev nD) (t : Fin cfg1.N) : (dat1 V c).leavesExact 2 t = owns (c : Thread nD τ) (ms1_2 t) fullShare ((dat1 V c).after 2 t) := by
  unfold Dat.leavesExact; rw [show cfg1.idle 2 (cfg1.grid.coords t) = false from rfl]
theorem leaves1_3 (c : Dev nD) (t : Fin cfg1.N) : (dat1 V c).leavesExact 3 t = owns (c : Thread nD τ) (ms1_3 t) fullShare ((dat1 V c).after 3 t) := by
  unfold Dat.leavesExact; rw [show cfg1.idle 3 (cfg1.grid.coords t) = false from rfl]
theorem leaves1_4 (c : Dev nD) (t : Fin cfg1.N) : (dat1 V c).leavesExact 4 t = owns (c : Thread nD τ) (ms1_4 t) fullShare ((dat1 V c).after 4 t) := by
  unfold Dat.leavesExact; rw [show cfg1.idle 4 (cfg1.grid.coords t) = false from rfl]
theorem leaves1_5 (c : Dev nD) (t : Fin cfg1.N) : (dat1 V c).leavesExact 5 t = owns (c : Thread nD τ) (ms1_5 t) fullShare ((dat1 V c).after 5 t) := by
  unfold Dat.leavesExact; rw [show cfg1.idle 5 (cfg1.grid.coords t) = false from rfl]
theorem leaves1_6 (c : Dev nD) (t : Fin cfg1.N) : (dat1 V c).leavesExact 6 t = owns (c : Thread nD τ) (ms1_6 t) fullShare ((dat1 V c).after 6 t) := by
  unfold Dat.leavesExact; rw [show cfg1.idle 6 (cfg1.grid.coords t) = false from rfl]

theorem leaves1_7_head (c : Dev nD) (t : Fin cfg1.N) (h : t.val < 16) :
    (dat1 V c).leavesExact 7 t = iprop(∃ d, owns (c : Thread nD τ) (ms1_7 t) fullShare ((dat1 V c).before 7 t d)) :=
  Dat.leavesExact_idle _ 7 t (idle1_7_head t h) (by rw [flush1_7]; exact decide_eq_false (by omega))
theorem leaves1_7_chunk (c : Dev nD) (t : Fin cfg1.N) (h : 16 ≤ t.val) :
    (dat1 V c).leavesExact 7 t = owns (c : Thread nD τ) (ms1_7 t) fullShare ((dat1 V c).after 7 t) := by
  unfold Dat.leavesExact; rw [idle1_7_chunk t h]

theorem PhiS1_zero (c : Dev nD) : PhiS1 V c 0 = Pipeline.scopedRest spec1 c := by unfold PhiS1; rw [if_pos rfl]
theorem PhiS1_pos (c : Dev nD) (n : ℕ) (h : n ≠ 0) :
    PhiS1 V c n = iprop(((∃ f, (pt c sc1_0 f)) ∗ (∃ f, (pt c sc1_1 f))
    ∗ (∃ g, ⌜∀ y : S16x2048x64.Idx, (y 0).val < n → g y = OH V c y⌝ ∗ owns (c : Thread nD τ) sc1_2 fullShare g)
    ∗ (∃ f, (pt c sc1_3 f)) ∗ owns (c : Thread nD τ) sc1_4 fullShare (WB V c))
    ∗ Pipeline.scopedRestBut spec1 c [cc1_scratch0, cc1_scratch1, cc1_scratch2, cc1_scratch3, cc1_scratch4]) := by
  unfold PhiS1; rw [if_neg h]

theorem Phi1_castSucc (c : Dev nD) (t : Fin cfg1.N) : (dat1 V c).Φ t.castSucc = PhiS1 V c t.val := rfl
theorem Phi1_succ (c : Dev nD) (t : Fin cfg1.N) : (dat1 V c).Φ t.succ = PhiS1 V c (t.val + 1) := rfl

/-- The scratches taken out of the scoped buffers. -/
theorem scoped1 (c : Dev nD) : (Pipeline.scopedRest spec1 c : sProp 𝕄)
    = iprop(((∃ f, (pt c sc1_0 f)) ∗ (∃ f, (pt c sc1_1 f)) ∗ (∃ f, (pt c sc1_2 f)) ∗ (∃ f, (pt c sc1_3 f)) ∗ (∃ f, (pt c sc1_4 f)))
      ∗ Pipeline.scopedRestBut spec1 c [cc1_scratch0, cc1_scratch1, cc1_scratch2, cc1_scratch3, cc1_scratch4]) :=
  scopedRest1_split c

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 24 := lt_of_lt_of_eq t.isLt (show cfg1.N = 24 from N_1)
  unfold bodyPre1 bodyPost1 bodyAt1
  simp only [before1_0, before1_1, before1_2, before1_3, before1_4, before1_5, before1_6, leaves1_0, leaves1_1, leaves1_2, leaves1_3, leaves1_4, leaves1_5, leaves1_6, after1_0, after1_1, after1_2, after1_3, after1_4, after1_5, after1_6, Phi1_castSucc, Phi1_succ]
  rw [show (dat1 V c).owesAt () t.succ = (dat1 V c).owesAt () t.castSucc from rfl, PhiS1_pos V c (t.val + 1) (by omega)]
  by_cases h : t.val = 0
  · obtain rfl : t = z1 := Fin.ext h
    rw [show (z1).val = 0 from rfl, PhiS1_zero, scoped1, leaves1_7_head V c z1 (by decide)]
    iintro ⟨⟨⟨⟨%f9, S0⟩, ⟨%f10, S1⟩, ⟨%f11, S2⟩, S3, ⟨%f13, S4⟩⟩, Hb⟩, Ho, ⟨%d0, H0⟩, ⟨%d1, H1⟩, ⟨%d2, H2⟩, ⟨%d3, H3⟩, ⟨%d4, H4⟩, ⟨%d5, H5⟩, ⟨%d6, H6⟩, H7⟩
    ihave H0 := (own_pt c (hs1_0 _) _) $$ H0
    ihave H1 := (own_pt c (hs1_1 _) _) $$ H1
    ihave H2 := (own_pt c (hs1_2 _) _) $$ H2
    ihave H3 := (own_pt c (hs1_3 _) _) $$ H3
    ihave H4 := (own_pt c (hs1_4 _) _) $$ H4
    ihave H5 := (own_pt c (hs1_5 _) _) $$ H5
    ihave H6 := (own_pt c (hs1_6 _) _) $$ H6
    iapply ((at1_A V c z1 z1_val).2 Set.univ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S2]; · iexact S2
    isplitl [S4]; · iexact S4
    isplitl [S0]; · iexact S0
    isplitl [S1]; · iexact S1
    iintro ⟨H0, H1, H2, H3, H4, H5, H6, S2, S4, S0, S1⟩
    isplitl [S0 S1 S2 S3 S4 Hb]
    · isplitl [S0 S1 S2 S3 S4]
      · isplitl [S0]; · iexact S0
        isplitl [S1]; · iexact S1
        isplitl [S2]
        · iexists _; isplitr; swap; · iapply (pt_own c hsc1_2 _ _ rfl); iexact S2
          ipureintro; exact fun y hy => oh_step V c z1 (by decide) _ (Loh_A V c z1 z1_val) (sc1_2).view _ (fun y h => absurd h (Nat.not_lt_zero _)) y hy
        isplitl [S3]; · iexact S3
        iapply (writes_own c hsc1_4 _ _ (cover1_A V c z1 z1_val)); iexact S4
      iexact Hb
    isplitl [Ho]; · iexact Ho
    isplitl [H0]; · iapply (unread_own c (hs1_0 _) _); iexact H0
    isplitl [H1]; · iapply (unread_own c (hs1_1 _) _); iexact H1
    isplitl [H2]; · iapply (unread_own c (hs1_2 _) _); iexact H2
    isplitl [H3]; · iapply (unread_own c (hs1_3 _) _); iexact H3
    isplitl [H4]; · iapply (unread_own c (hs1_4 _) _); iexact H4
    isplitl [H5]; · iapply (unread_own c (hs1_5 _) _); iexact H5
    isplitl [H6]; · iapply (unread_own c (hs1_6 _) _); iexact H6
    iexact H7
  rw [PhiS1_pos V c t.val h]
  by_cases h2 : t.val < 16
  · rw [leaves1_7_head V c t h2]
    iintro ⟨⟨⟨⟨%f9, S0⟩, ⟨%f10, S1⟩, ⟨%g, %hg, S2⟩, S3, S4⟩, Hb⟩, Ho, ⟨%d0, H0⟩, ⟨%d1, H1⟩, ⟨%d2, H2⟩, ⟨%d3, H3⟩, ⟨%d4, H4⟩, ⟨%d5, H5⟩, ⟨%d6, H6⟩, H7⟩
    ihave H0 := (own_pt c (hs1_0 _) _) $$ H0
    ihave H1 := (own_pt c (hs1_1 _) _) $$ H1
    ihave H2 := (own_pt c (hs1_2 _) _) $$ H2
    ihave H3 := (own_pt c (hs1_3 _) _) $$ H3
    ihave H4 := (own_pt c (hs1_4 _) _) $$ H4
    ihave H5 := (own_pt c (hs1_5 _) _) $$ H5
    ihave S2 := (own_pt c hsc1_2 _) $$ S2
    iapply ((at1_B V c t h h2).2 Set.univ _ _ _ _)
    isplitl [H0]; · iexact H0
    isplitl [H1]; · iexact H1
    isplitl [H2]; · iexact H2
    isplitl [H3]; · iexact H3
    isplitl [H4]; · iexact H4
    isplitl [H5]; · iexact H5
    isplitl [S2]; · iexact S2
    isplitl [S0]; · iexact S0
    isplitl [S1]; · iexact S1
    iintro ⟨H0, H1, H2, H3, H4, H5, S2, S0, S1⟩
    isplitl [S0 S1 S2 S3 S4 Hb]
    · isplitl [S0 S1 S2 S3 S4]
      · isplitl [S0]; · iexact S0
        isplitl [S1]; · iexact S1
        isplitl [S2]
        · iexists _; isplitr; swap; · iapply (pt_own c hsc1_2 _ _ rfl); iexact S2
          ipureintro; exact fun y hy => oh_step V c t h2 _ (Loh_B V c t h h2) (sc1_2).view _ (fun y h => by rw [Memref.IsWhole.read_unread hsc1_2]; exact hg y h) y hy
        isplitl [S3]; · iexact S3
        iexact S4
      iexact Hb
    isplitl [Ho]; · iexact Ho
    isplitl [H0]; · iapply (unread_own c (hs1_0 _) _); iexact H0
    isplitl [H1]; · iapply (unread_own c (hs1_1 _) _); iexact H1
    isplitl [H2]; · iapply (unread_own c (hs1_2 _) _); iexact H2
    isplitl [H3]; · iapply (unread_own c (hs1_3 _) _); iexact H3
    isplitl [H4]; · iapply (unread_own c (hs1_4 _) _); iexact H4
    isplitl [H5]; · iapply (unread_own c (hs1_5 _) _); iexact H5
    isplitl [H6]; · iexact H6
    iexact H7
  · have h16 : 16 ≤ t.val := by omega
    rw [leaves1_7_chunk V c t h16, after1_7]
    iintro ⟨⟨⟨S0, S1, ⟨%g, %hg, S2⟩, ⟨%f12, S3⟩, S4⟩, Hb⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : g = OH V c := funext fun y => hg y (lt_of_lt_of_le (y 0).isLt h16)
    ihave H7 := (own_pt_any c (hs1_7 _) _) $$ H7
    icases H7 with ⟨%f8, H7⟩
    ihave S2 := (own_pt c hsc1_2 _) $$ S2
    ihave S4 := (own_pt c hsc1_4 _) $$ S4
    iapply ((at1_C c t h16 (OH V c) (WB V c)).2 Set.univ _ _ _)
    isplitl [S2]; · iexact S2
    isplitl [S4]; · iexact S4
    isplitl [H7]; · iexact H7
    isplitl [S3]; · iexact S3
    iintro ⟨S2, S4, H7, S3⟩
    isplitl [S0 S1 S2 S3 S4 Hb]
    · isplitl [S0 S1 S2 S3 S4]
      · isplitl [S0]; · iexact S0
        isplitl [S1]; · iexact S1
        isplitl [S2]
        · iexists _; isplitr; swap; · iapply (unread_own c hsc1_2 _); iexact S2
          ipureintro; exact fun y _ => rfl
        isplitl [S3]; · iexact S3
        iapply (unread_own c hsc1_4 _); iexact S4
      iexact Hb
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [o1_7, dif_pos h16]; iapply (writes_own c (hs1_7 _) _ _ (cover1_C c t h16 _ _)); iexact H7

theorem defs₀_row1 (t : Fin cfg1.N) :
    defs₀ (F := F) .tc cfg1.body (cfg1.bodyArgs t (cfg1.slots t)) = bodyAt1 t := by
  unfold defs₀; rw [Defs.onTc_tc]

/-- The body obligation of the attention call. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.KernelIdeal.Main.lean ====
/- The whole program's run: the two calls between the host operations, and what every buffer holds at the end. -/
module

public import proofs.«01_k».proof.Proof.Gen.KernelIdeal.Regions
public import proofs.«01_k».proof.Proof.KernelIdeal.Region0
public import proofs.«01_k».proof.Proof.KernelIdeal.Region1
public import Idealize.ShloMosaic.Lib.Pipeline.FrameTail
public import Idealize.ShloMosaic.Lib.Pipeline.RegionArrays

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## The contents between the calls -/

/-- The contents the first call finds. -/
def VE0 (c : Dev nD) (b : Ref sig .tc) : Buf (Elt F) ((c : Thread nD τ).loc b) := V1 m c b

/-- The contents after the first call: its six results as it leaves them. -/
def VA (c : Dev nD) : Valuation τ sig (Elt F) :=
  Function.update (Function.update (Function.update (Function.update (Function.update (Function.update (V1 m c)
    main_v1_0 ((dat0 (VE0 m) c).arrAt 5 cfg0.N)) main_v1_1 ((dat0 (VE0 m) c).arrAt 6 cfg0.N)) main_v1_2 ((dat0 (VE0 m) c).arrAt 7 cfg0.N))
    main_v1_3 ((dat0 (VE0 m) c).arrAt 8 cfg0.N)) main_v1_4 ((dat0 (VE0 m) c).arrAt 9 cfg0.N)) main_v1_5 ((dat0 (VE0 m) c).arrAt 10 cfg0.N)

/-- The contents the second call finds. -/
def VE1 (c : Dev nD) (b : Ref sig .tc) : Buf (Elt F) ((c : Thread nD τ).loc b) := VA m c b

/-- The contents after the second call. -/
def VB (c : Dev nD) : Valuation τ sig (Elt F) :=
  Function.update (VA m c) main_v2 ((dat1 (VE1 m) c).arrAt 7 cfg1.N)

/-- What the two calls leave, read off these contents. -/
def outs : Outs (F := F) := fun n r c => if n = 2 then VA m c r else VB m c r

theorem outs_two (r : Ref sig .tc) (c : Dev nD) : outs m 2 r c = VA m c r := if_pos rfl
theorem outs_three (r : Ref sig .tc) (c : Dev nD) : outs m 3 r c = VB m c r := if_neg (by decide)

/-- The first call's results, in the contents after it. -/
theorem VA_v1_5 (c : Dev nD) : VA m c main_v1_5 = (dat0 (VE0 m) c).arrAt 10 cfg0.N := by unfold VA; exact Function.update_self _ _ _
theorem VA_v1_4 (c : Dev nD) : VA m c main_v1_4 = (dat0 (VE0 m) c).arrAt 9 cfg0.N := by
  unfold VA
  rw [Function.update_of_ne (StableHlo.devRef_ne_of_ne (by decide))]
  exact Function.update_self _ _ _
theorem VA_v1_3 (c : Dev nD) : VA m c main_v1_3 = (dat0 (VE0 m) c).arrAt 8 cfg0.N := by
  unfold VA
  rw [Function.update_of_ne (StableHlo.devRef_ne_of_ne (by decide)), Function.update_of_ne (StableHlo.devRef_ne_of_ne (by decide))]
  exact Function.update_self _ _ _
theorem VA_v1_2 (c : Dev nD) : VA m c main_v1_2 = (dat0 (VE0 m) c).arrAt 7 cfg0.N := by
  unfold VA
  rw [Function.update_of_ne (StableHlo.devRef_ne_of_ne (by decide)), Function.update_of_ne (StableHlo.devRef_ne_of_ne (by decide)),
    Function.update_of_ne (StableHlo.devRef_ne_of_ne (by decide))]
  exact Function.update_self _ _ _
theorem VA_v1_1 (c : Dev nD) : VA m c main_v1_1 = (dat0 (VE0 m) c).arrAt 6 cfg0.N := by
  unfold VA
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide))]
  exact Function.update_self _ _ _
theorem VA_v1_0 (c : Dev nD) : VA m c main_v1_0 = (dat0 (VE0 m) c).arrAt 5 cfg0.N := by
  unfold VA
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_of_ne (StableHlo.devRef_ne_of_ne (by decide))]
  exact Function.update_self _ _ _

/-- Rewriting a valuation at a buffer's own contents changes nothing. -/
theorem V2_outs (c : Dev nD) : V2 m (outs m) c = VA m c := by
  have hA : ∀ r : Ref sig .tc, outs m 2 r c = VA m c r := fun r => outs_two m r c
  dsimp only [V2]
  rw [hA, hA, hA, hA, hA, hA, VA_v1_0, VA_v1_1, VA_v1_2, VA_v1_3, VA_v1_4, VA_v1_5]
  rfl

theorem V3_outs (c : Dev nD) : V3 m (outs m) c = VB m c := by
  have h : VB m c main_v2 = (dat1 (VE1 m) c).arrAt 7 cfg1.N := by unfold VB; exact Function.update_self _ _ _
  dsimp only [V3]
  rw [V2_outs, outs_three, h]
  rfl

/-- A buffer the first call writes none of keeps its contents. -/
theorem VA_of (c : Dev nD) (r : Ref sig .tc) (h : r ∉ ([main_v1_0, main_v1_1, main_v1_2, main_v1_3, main_v1_4, main_v1_5] : List (Ref sig .tc))) :
    VA m c r = V1 m c r := (congrFun (V2_outs m c) _).symm.trans (V2_of m (outs m) c r h)
theorem VB_of (c : Dev nD) (r : Ref sig .tc) (h : r ∉ ([main_v2] : List (Ref sig .tc))) : VB m c r = VA m c r :=
  (congrFun (V3_outs m c) _).symm.trans ((V3_of m (outs m) c r h).trans (congrFun (V2_outs m c) _))

/-! ## The calls as segments -/

/-- Each call's proof data. -/
def pdats : (p : Fin 2) → (c : Dev nD) → Dat τ (Elt F) Unit ℕ (UR sig nD τ) ℕ (cfgs p) c
  | 0 => fun c => dat0 (VE0 m) c
  | 1 => fun c => dat1 (VE1 m) c

abbrev LL : GSem nD τ sig → Finset Unit := fun g => if g.1.2 = .tc then {()} else ∅
abbrev lvl : GSem nD τ sig → Unit → ℕ := fun _ _ => 0

theorem held_put (c : Dev nD) {S U : Finset (DevRef τ sig)} (hS : S ⊆ U) (W W' : Valuation τ sig (Elt F)) (h : ∀ b ∈ U \ S, W' b = W b) :
    (iprop(StableHlo.held (c : Thread nD τ) S W' ∗ StableHlo.held (c : Thread nD τ) (U \ S) W) : sProp 𝕄) = StableHlo.held (c : Thread nD τ) U W' := by
  rw [StableHlo.held_sub_split (c : Thread nD τ) hS W']
  congr 1
  unfold StableHlo.held
  exact bigSep_congr fun b hb => by rw [h b hb]

theorem outside (S : Finset (DevRef τ sig)) (L : List (Ref sig .tc)) (hL : ∀ r ∈ L, (Proc.devRef .tc r : DevRef τ sig) ∈ S) (W W' : Valuation τ sig (Elt F))
    (h : ∀ r : Ref sig .tc, r ∉ L → W' r = W r) : ∀ b ∈ Pipeline.ucRefs τ sig \ S, W' b = W b := by
  intro b hb
  obtain ⟨hb1, hb2⟩ := Finset.mem_sdiff.mp hb
  obtain ⟨r, -, rfl⟩ := Finset.mem_map.mp (Finset.mem_filter.mp hb1).1
  exact h r fun hr => hb2 (hL r hr)

theorem uc0 : ∀ w, (Pipeline.arrRef spec0 w).isScoped = false := by decide
theorem uc1 : ∀ w, (Pipeline.arrRef spec1 w).isScoped = false := by decide

theorem mem_arrRefs {gr W : Nat} (win : Fin W → Pipeline.WinSpec sig gr) (w : Fin W) :
    (Proc.devRef .tc (Pipeline.arrRef win w) : DevRef τ sig) ∈ Pipeline.arrRefs (τ := τ) win :=
  Finset.mem_map.mpr ⟨_, Finset.mem_image.mpr ⟨w, Finset.mem_univ _, rfl⟩, rfl⟩

theorem hin0 (c : Dev nD) (V : (c : Dev nD) → (b : Ref sig .tc) → Buf (Elt F) ((c : Thread nD τ).loc b)) :
    iprop((Pipeline.scopedRest spec0 c : sProp 𝕄) ∗ emp) ⊢ PhiS0 V c 0 := by
  rw [PhiS0_zero]; iintro ⟨H, -⟩; iexact H
theorem hout0 (c : Dev nD) (V : (c : Dev nD) → (b : Ref sig .tc) → Buf (Elt F) ((c : Thread nD τ).loc b)) :
    (PhiS0 V c 4 : sProp 𝕄) ⊢ iprop((Pipeline.scopedRest spec0 c : sProp 𝕄) ∗ emp) := by
  rw [PhiS0_pos V c 4 (by decide), scoped0]
  iintro ⟨H, Hb⟩
  isplitl
  · isplitl [H]
    · iexists _; iapply (own_pt c hscM0 _); iexact H
    · iexact Hb
  · iempintro
theorem hin1 (c : Dev nD) (V : (c : Dev nD) → (b : Ref sig .tc) → Buf (Elt F) ((c : Thread nD τ).loc b)) :
    iprop((Pipeline.scopedRest spec1 c : sProp 𝕄) ∗ emp) ⊢ PhiS1 V c 0 := by
  rw [PhiS1_zero]; iintro ⟨H, -⟩; iexact H
theorem hout1 (c : Dev nD) (V : (c : Dev nD) → (b : Ref sig .tc) → Buf (Elt F) ((c : Thread nD τ).loc b)) :
    (PhiS1 V c 24 : sProp 𝕄) ⊢ iprop((Pipeline.scopedRest spec1 c : sProp 𝕄) ∗ emp) := by
  rw [PhiS1_pos V c 24 (by decide), scoped1]
  iintro ⟨⟨S0, S1, ⟨%g, -, S2⟩, S3, S4⟩, Hb⟩
  isplitl
  · isplitr [Hb]
    · isplitl [S0]; · iexact S0
      isplitl [S1]; · iexact S1
      isplitl [S2]; · iexists _; iapply (own_pt c hsc1_2 _); iexact S2
      isplitl [S3]; · iexact S3
      iexists _; iapply (own_pt c hsc1_4 _); iexact S4
    · iexact Hb
  · iempintro

theorem cut0 : Pipeline.LevelCut (nD := nD) (τ := τ) (pcfgs (F := F)) adm () LL lvl 0 (fun _ => 0) (fun _ => 0) where
  hι c w s := by show () ∈ (if _ then _ else _); rw [if_pos rfl]; exact Finset.mem_singleton_self _
  hιb c w s := le_refl _
  hD c g i h := absurd h (by show ¬ (0 < 0); decide)
theorem cut1 : Pipeline.LevelCut (nD := nD) (τ := τ) (pcfgs (F := F)) adm () LL lvl 1 (fun _ => 0) (fun _ => 0) where
  hι c w s := by show () ∈ (if _ then _ else _); rw [if_pos rfl]; exact Finset.mem_singleton_self _
  hιb c w s := le_refl _
  hD c g i h := absurd h (by show ¬ (0 < 0); decide)

theorem entry0 (c : Dev nD) (w : Fin cfg0.W) : (dat0 (VE0 m) c).arrAt w 0 = V1 m c (Proc.devRef .tc (Pipeline.arrRef spec0 w)) := by
  show (dat0 (VE0 m) c).A w = _
  rw [A0_eq]; rfl
theorem entry1 (c : Dev nD) (w : Fin cfg1.W) : (dat1 (VE1 m) c).arrAt w 0 = VA m c (Proc.devRef .tc (Pipeline.arrRef spec1 w)) := by
  show (dat1 (VE1 m) c).A w = _
  rw [A1_eq]; rfl

theorem exit0_in (c : Dev nD) (w : Fin cfg0.W) (h : (cfg0.win w).isOut = false)
    (h' : Pipeline.arrRef spec0 w ∉ ([main_v1_0, main_v1_1, main_v1_2, main_v1_3, main_v1_4, main_v1_5] : List (Ref sig .tc))) :
    (dat0 (VE0 m) c).arrAt w cfg0.N = VA m c (Proc.devRef .tc (Pipeline.arrRef spec0 w)) := by
  rw [(dat0 (VE0 m) c).arrAt_in w h, A0_eq]
  exact (VA_of m c _ h').symm
theorem exit1_in (c : Dev nD) (w : Fin cfg1.W) (h : (cfg1.win w).isOut = false) (h' : Pipeline.arrRef spec1 w ∉ ([main_v2] : List (Ref sig .tc))) :
    (dat1 (VE1 m) c).arrAt w cfg1.N = VB m c (Proc.devRef .tc (Pipeline.arrRef spec1 w)) := by
  rw [(dat1 (VE1 m) c).arrAt_in w h, A1_eq]
  exact (VB_of m c _ h').symm

theorem exit0 (c : Dev nD) (w : Fin cfg0.W) : (dat0 (VE0 m) c).arrAt w cfg0.N = VA m c (Proc.devRef .tc (Pipeline.arrRef spec0 w)) := by
  match w with
  | ⟨0, _⟩ => exact exit0_in m c 0 rfl (by decide)
  | ⟨1, _⟩ => exact exit0_in m c 1 rfl (by decide)
  | ⟨2, _⟩ => exact exit0_in m c 2 rfl (by decide)
  | ⟨3, _⟩ => exact exit0_in m c 3 rfl (by decide)
  | ⟨4, _⟩ => exact exit0_in m c 4 rfl (by decide)
  | ⟨5, _⟩ => exact (VA_v1_0 m c).symm
  | ⟨6, _⟩ => exact (VA_v1_1 m c).symm
  | ⟨7, _⟩ => exact (VA_v1_2 m c).symm
  | ⟨8, _⟩ => exact (VA_v1_3 m c).symm
  | ⟨9, _⟩ => exact (VA_v1_4 m c).symm
  | ⟨10, _⟩ => exact (VA_v1_5 m c).symm

theorem VB_v2 (c : Dev nD) : VB m c main_v2 = (dat1 (VE1 m) c).arrAt 7 cfg1.N := by unfold VB; exact Function.update_self _ _ _

theorem exit1 (c : Dev nD) (w : Fin cfg1.W) : (dat1 (VE1 m) c).arrAt w cfg1.N = VB m c (Proc.devRef .tc (Pipeline.arrRef spec1 w)) := by
  match w with
  | ⟨0, _⟩ => exact exit1_in m c 0 rfl (by decide)
  | ⟨1, _⟩ => exact exit1_in m c 1 rfl (by decide)
  | ⟨2, _⟩ => exact exit1_in m c 2 rfl (by decide)
  | ⟨3, _⟩ => exact exit1_in m c 3 rfl (by decide)
  | ⟨4, _⟩ => exact exit1_in m c 4 rfl (by decide)
  | ⟨5, _⟩ => exact exit1_in m c 5 rfl (by decide)
  | ⟨6, _⟩ => exact exit1_in m c 6 rfl (by decide)
  | ⟨7, _⟩ => exact (VB_v2 m c).symm

set_option backward.isDefEq.respectTransparency.types false in
/-- The first call, from the contents it finds to the contents it leaves. -/
def reg0 : RegionSeg (pcfgs (F := F)) adm (pdats m) () defs₀ Variants.none LL lvl 0 :=
  RegionSeg.ofHeld (pcfgs (F := F)) adm (pdats m) () defs₀ Variants.none LL lvl 0 (fun _ => 0) (fun _ => iprop(emp)) (fun _ => iprop(emp))
    launch0.toP rfl (fun c => (body_obligation0 (VE0 m) c).loose) (fun _ _ => rfl) (fun _ => rfl)
    (fun c => (dat0 (VE0 m) c).share_full fun _ => rfl) (fun c => hin0 c (VE0 m)) (fun c => hout0 c (VE0 m)) (fun _ => 0) cut0
    (fun c => StableHlo.held (c : Thread nD τ) (Pipeline.ucRefs τ sig \ Pipeline.arrRefs spec0) (V1 m c)) (V1 m) (VA m) (entry0 m) (exit0 m)

set_option backward.isDefEq.respectTransparency.types false in
/-- The second call likewise. -/
def reg1 : RegionSeg (pcfgs (F := F)) adm (pdats m) () defs₀ Variants.none LL lvl 1 :=
  RegionSeg.ofHeld (pcfgs (F := F)) adm (pdats m) () defs₀ Variants.none LL lvl 1 (fun _ => 0) (fun _ => iprop(emp)) (fun _ => iprop(emp))
    launch1.toP rfl (fun c => (body_obligation1 (VE1 m) c).loose) (fun _ _ => rfl) (fun _ => rfl)
    (fun c => (dat1 (VE1 m) c).share_full fun _ => rfl) (fun c => hin1 c (VE1 m)) (fun c => hout1 c (VE1 m)) (fun _ => 0) cut1
    (fun c => StableHlo.held (c : Thread nD τ) (Pipeline.ucRefs τ sig \ Pipeline.arrRefs spec1) (VA m c)) (VA m) (VB m) (entry1 m) (exit1 m)

/-- What rides beside the buffers: the core owes nothing. -/
abbrev EE : Fin 3 → Dev nD → sProp 𝕄 := fun _ c => iprop(∃ W, owes (c : Thread nD τ) (0 : CellTallies nD τ sig Unit) W)

theorem hpre0 (c : Dev nD) : (iprop(StableHlo.held (c : Thread nD τ) (Pipeline.ucRefs τ sig) (V1 m c) ∗ EE 0 c) : sProp 𝕄) ⊢ (reg0 m).pre c := by
  show _ ⊢ (iprop(StableHlo.held (c : Thread nD τ) (Pipeline.arrRefs spec0) (V1 m c) ∗ emp
    ∗ StableHlo.held (c : Thread nD τ) (Pipeline.ucRefs τ sig \ Pipeline.arrRefs spec0) (V1 m c) ∗ ∃ Wd, owes (c : Thread nD τ) (0 : CellTallies nD τ sig Unit) Wd) : sProp 𝕄)
  rw [← held_put c (Pipeline.arrRefs_sub_ucRefs spec0 uc0) (V1 m c) (V1 m c) fun _ _ => rfl]
  iintro ⟨⟨H1, H2⟩, H3⟩
  isplitl [H1]; · iexact H1
  isplitr; · iempintro
  isplitl [H2]; · iexact H2
  iexact H3

theorem hpost0 (c : Dev nD) : (reg0 m).post c ⊢ (iprop(StableHlo.held (c : Thread nD τ) (Pipeline.ucRefs τ sig) (V2 m (outs m) c) ∗ EE 1 c) : sProp 𝕄) := by
  show (iprop(StableHlo.held (c : Thread nD τ) (Pipeline.arrRefs spec0) (VA m c) ∗ emp
    ∗ StableHlo.held (c : Thread nD τ) (Pipeline.ucRefs τ sig \ Pipeline.arrRefs spec0) (V1 m c) ∗ ∃ Wd, owes (c : Thread nD τ) (0 : CellTallies nD τ sig Unit) Wd) : sProp 𝕄) ⊢ _
  rw [V2_outs, ← held_put c (Pipeline.arrRefs_sub_ucRefs spec0 uc0) (V1 m c) (VA m c)
    (outside (Pipeline.arrRefs spec0) [main_v1_0, main_v1_1, main_v1_2, main_v1_3, main_v1_4, main_v1_5] (by
      intro r hr
      simp only [List.mem_cons, List.not_mem_nil, or_false] at hr
      rcases hr with rfl | rfl | rfl | rfl | rfl | rfl
      · exact mem_arrRefs spec0 5
      · exact mem_arrRefs spec0 6
      · exact mem_arrRefs spec0 7
      · exact mem_arrRefs spec0 8
      · exact mem_arrRefs spec0 9
      · exact mem_arrRefs spec0 10) _ _ fun r h => VA_of m c r h)]
  iintro ⟨H1, -, H2, H3⟩
  isplitr [H3]
  · isplitl [H1]; · iexact H1
    iexact H2
  iexact H3

theorem hpre1 (c : Dev nD) : (iprop(StableHlo.held (c : Thread nD τ) (Pipeline.ucRefs τ sig) (V2 m (outs m) c) ∗ EE 1 c) : sProp 𝕄) ⊢ (reg1 m).pre c := by
  show _ ⊢ (iprop(StableHlo.held (c : Thread nD τ) (Pipeline.arrRefs spec1) (VA m c) ∗ emp
    ∗ StableHlo.held (c : Thread nD τ) (Pipeline.ucRefs τ sig \ Pipeline.arrRefs spec1) (VA m c) ∗ ∃ Wd, owes (c : Thread nD τ) (0 : CellTallies nD τ sig Unit) Wd) : sProp 𝕄)
  rw [V2_outs, ← held_put c (Pipeline.arrRefs_sub_ucRefs spec1 uc1) (VA m c) (VA m c) fun _ _ => rfl]
  iintro ⟨⟨H1, H2⟩, H3⟩
  isplitl [H1]; · iexact H1
  isplitr; · iempintro
  isplitl [H2]; · iexact H2
  iexact H3

theorem hpost1 (c : Dev nD) : (reg1 m).post c ⊢ (iprop(StableHlo.held (c : Thread nD τ) (Pipeline.ucRefs τ sig) (V3 m (outs m) c) ∗ EE 2 c) : sProp 𝕄) := by
  show (iprop(StableHlo.held (c : Thread nD τ) (Pipeline.arrRefs spec1) (VB m c) ∗ emp
    ∗ StableHlo.held (c : Thread nD τ) (Pipeline.ucRefs τ sig \ Pipeline.arrRefs spec1) (VA m c) ∗ ∃ Wd, owes (c : Thread nD τ) (0 : CellTallies nD τ sig Unit) Wd) : sProp 𝕄) ⊢ _
  rw [V3_outs, ← held_put c (Pipeline.arrRefs_sub_ucRefs spec1 uc1) (VA m c) (VB m c)
    (outside (Pipeline.arrRefs spec1) [main_v2] (by
      intro r hr
      simp only [List.mem_cons, List.not_mem_nil, or_false] at hr
      subst hr
      exact mem_arrRefs spec1 7) _ _ fun r h => VB_of m c r h)]
  iintro ⟨H1, -, H2, H3⟩
  isplitr [H3]
  · isplitl [H1]; · iexact H1
    iexact H2
  iexact H3

/-! ## The run -/

set_option backward.isDefEq.respectTransparency.types false in
/-- Every fair execution from memory `m` with zero counters terminates; every buffer that outlives the calls ends at the last contents, and every
    counter at zero. -/
theorem run_main (ρ : Dev nD → PrngReg) : θ_run defs (onTc (τ := τ) (main (F := F))) ⟨m, fun _ => 0, ρ⟩ (fun r =>
    (∀ c : Dev nD, ∀ b ∈ Pipeline.ucRefs τ sig, r.2.mem ((c : Thread nD τ).1, b) = V4 m (outs m) c b) ∧ r.2.sem = fun _ => 0) := by
  refine Pipeline.θ_run_regions_kit_dev_sems (pcfgs (F := F)) adm (pdats m) () cellOf_inj emb₁ defs₀ Variants.none LL lvl m ρ main
    (segs m (outs m) Variants.none LL lvl EE () (pdats m) (reg0 m) (reg1 m))
    (fun c Q => by
      rewrite [main_chain c, Seg.run_eq_chain,
        show (segs m (outs m) Variants.none LL lvl EE () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE 0 c))
    (Tₙ := fun c => StableHlo.held (c : Thread nD τ) (Pipeline.ucRefs τ sig) (V4 m (outs m) c))
    (hch := fun c => ⟨.rfl, hpre0 m c, (hpost0 m c).trans (hpre1 m c), hpost1 m c, .rfl⟩)
    (hinit := ?_)
    (QY := fun c s => ∀ b ∈ Pipeline.ucRefs τ sig, s.mem ((c : Thread nD τ).1, b) = V4 m (outs m) c b)
    (hfin := fun c s' => ?_)
    (hQ := fun _ h hz => ⟨h, funext fun g => hz g (.inr (regions_no_unscoped g.2))⟩)
  · refine Pipeline.initEach LL lvl fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    imodintro; iexact Hr

/-- The frame: the arguments end as launched, every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
    (h.1 c _ (Pipeline.devRef_mem_ucRefs (by decide))).trans (V4_main_arg0 m (outs m) c),
    (h.1 c _ (Pipeline.devRef_mem_ucRefs (by decide))).trans (V4_main_arg1 m (outs m) c),
    (h.1 c _ (Pipeline.devRef_mem_ucRefs (by decide))).trans (V4_main_arg2 m (outs m) c),
    (h.1 c _ (Pipeline.devRef_mem_ucRefs (by decide))).trans (V4_main_arg3 m (outs m) c),
    (h.1 c _ (Pipeline.devRef_mem_ucRefs (by decide))).trans (V4_main_arg4 m (outs m) c),
    (h.1 c _ (Pipeline.devRef_mem_ucRefs (by decide))).trans (V4_main_arg5 m (outs m) c)⟩, h.2⟩) (run_main m ρ)

end Cert.KernelIdeal.Gen

end
-- ==== Proof.KernelIdeal.Value0.lean ====
/- What one grid point of the projection call leaves in its output blocks, over the extended reals. -/
module

public import proofs.«01_k».proof.Proof.KernelIdeal.Region0
public import Idealize.ShloMosaic.Lib.Pointwise
public import Idealize.ShloMosaic.Lib.WholeRead
public import Idealize.ShloMosaic.Lib.WordCmp

@[expose] public section

set_option maxRecDepth 16384

noncomputable section

namespace Cert.KernelIdeal.Gen

open Idealize.ShloMosaic Idealize.ShloMosaic.TcCoe Idealize.ShloMosaic.Tactic

/-- A select on a decided word is an `if`. -/
theorem sel_if {α : Type} {c : BitVec 1} {p : Prop} [Decidable p] (h : c = 1#1 ↔ p) (a b : α) : Scalar.select c a b = if p then a else b := by
  unfold Scalar.select
  by_cases hp : p
  · exact (if_pos (h.mpr hp)).trans (if_pos hp).symm
  · exact (if_neg (fun hc => hp (h.mp hc))).trans (if_neg hp).symm

/-- The rows `X` times the columns `W`, at row `s` and column `c`. -/
def XW (X : Vec Ideal S2048x1024 .bf16) (W : Vec Ideal S1024x256 .f32) (s : Fin 2048) (c : Fin 256) : EReal :=
  ∑ e : Fin 1024, X (ix2 s e) * W (ix2 e c)

/-- The column of head `a` of the group, coordinate `d`. -/
def hcol (a : Fin 4) (d : Fin 64) : Fin 256 := ⟨64 * a.val + d.val, by omega⟩

/-- The scaled queries of a group. -/
def Gq (X : Vec Ideal S2048x1024 .bf16) (W : Vec Ideal S1024x256 .f32) : Vec Ideal S4x2048x64 .bf16 :=
  fun y => XW X W (y 1) (hcol (y 0) (y 2)) * Ideal.ofBits .f32 0x3E000000#32
/-- The keys of a group. -/
def Gk (X : Vec Ideal S2048x1024 .bf16) (W : Vec Ideal S1024x256 .f32) : Vec Ideal S4x2048x64 .bf16 :=
  fun y => XW X W (y 1) (hcol (y 0) (y 2))
/-- The values of a group, followed by a column of ones and zeros. -/
def Gv (X : Vec Ideal S2048x1024 .bf16) (W : Vec Ideal S1024x256 .f32) : Vec Ideal S4x2048x128 .bf16 :=
  fun y => if h : (y 2).val < 64 then XW X W (y 1) (hcol (y 0) ⟨(y 2).val, h⟩) else if (y 2).val = 64 then Ideal.ofBits .f32 0x3F800000#32 else Ideal.ofBits .f32 0x00000000#32
/-- The block means of a group's keys or values, as the products with the averaging matrix. -/
def Gc (X : Vec Ideal S2048x1024 .bf16) (W : Vec Ideal S1024x256 .f32) : Vec Ideal S4x64x64 .f32 :=
  fun y => ∑ k : Fin 512, (if k.val / 32 = (y 1).val % 16 then Ideal.ofBits .f32 0x3D000000#32 else Ideal.ofBits .f32 0x00000000#32)
    * XW X W ⟨512 * ((y 1).val / 16) + k.val, by have h : (y 1).val < 64 := (y 1).isLt; omega⟩ (hcol (y 0) (y 2))
/-- The gates. -/
def Gg (X : Vec Ideal S2048x1024 .f32) (W : Vec Ideal S1024x48 .f32) : Vec Ideal S2048x48 .f32 :=
  fun y => Ideal.logistic (∑ e : Fin 1024, X (ix2 (y 0) e) * W (ix2 e (y 1)))

/-- The averaging matrix's entries. -/
theorem pay2_eq : (k0_pay2 : FVec Ideal S16x512 .f32) = fun y => if (y 1).val / 32 = (y 0).val then Ideal.ofBits .f32 0x3D000000#32 else Ideal.ofBits .f32 0x00000000#32 := by
  funext y
  idx_vars y
  unfold_payloads
  pointwise
  refine sel_if ?_ _ _
  revert y0 y1
  decide +kernel

/-- The column after the values is one, the further ones are zero. -/
theorem ones_if (x : Fin 64) (a b : EReal) : Scalar.select (IntOp.cmpi CmpIPredicate.eq (BitVec.ofNat 32 x.val) 0#32) a b = if 64 + x.val = 64 then a else b := by
  refine sel_if ?_ _ _
  revert x
  decide +kernel

theorem readAt_scr (X : Vec Ideal S2048x1024 .bf16) (B : LoadRect S2048x1024) (x : B.shape.Idx) :
    View.readAt (Elt Ideal) (View.whole cc0_scratch0) B (hscM0.unread X) x = X (B.idx x) := Memref.IsWhole.readAt_unread hscM0 X B x

/-- The scratch's pieces hold the cast of `x`, which over the extended reals is `x`. -/
theorem canH12 (arg1 : Memref sig .tc .vmem S2048x1024 .f32) (harg1 : arg1.IsWhole) (x0 : Vec Ideal S2048x1024 .f32) :
    View.canon (run0_A.sl.H12_4 arg1 harg1 x0) = x0 := by
  funext y
  refine View.canon_apply_of_pieces (Val := Elt Ideal) (e := .bf16) x0 _ ?_ y ((show ∀ y : S2048x1024.Idx, ∃ p ∈ run0_A.sl.H12_4 arg1 harg1 x0, y ∈ p.1.set from View.cover_of_tiledL _ S512x1024.size (by sl_kernel_rfl)) y)
  unfold run0_A.sl.H12_4
  simp only [List.forall_mem_cons, List.not_mem_nil, false_implies, implies_true, and_true]
  repeat' apply And.intro
  all_goals
    intro x
    refine Eq.trans (b := x0 (Rect.toLoadRect _ |>.idx x)) ?_ rfl
    idx_vars x
    unfold_payloads
    pointwise [Memref.IsWhole.readAt_unread]

variable (V : (c : Dev nD) → (b : Ref sig .tc) → Buf (Elt Ideal) ((c : Thread nD τ).loc b))

/-- The scratch holds `x`. -/
theorem X0_eq (c : Dev nD) : X0 V c = iblk0 V c 0 z0 := canH12 _ _ _

set_option maxHeartbeats 4000000 in
/-- Output window 5 after the first point. -/
theorem canonA_5 (c : Dev nD) (t : Fin cfg0.N) (h : t.val % 4 = 0) : View.canon (at0_A V c t h).1.1 = Gq (iblk0 V c 0 t) (iblk0 V c 1 t) := by
  funext y
  refine View.canon_apply_of_pieces (Val := Elt Ideal) (Gq (iblk0 V c 0 t) (iblk0 V c 1 t)) _ ?_ y (cover0_A0 V c t h y)
  unfold at0_A run0_A
  dsimp only
  simp only [List.forall_mem_cons, List.not_mem_nil, false_implies, implies_true, and_true]
  repeat' apply And.intro
  all_goals
    intro x
    refine Eq.trans (b := Gq (iblk0 V c 0 t) (iblk0 V c 1 t) (Rect.toLoadRect _ |>.idx x)) ?_ rfl
    idx_vars x
    unfold_payloads
    simp only [run0_A.sl.r, run0_A.sl.r_1, run0_A.sl.r_10, run0_A.sl.r_11, run0_A.sl.r_12, run0_A.sl.r_13, run0_A.sl.r_14, run0_A.sl.r_15, run0_A.sl.r_16, run0_A.sl.r_17, run0_A.sl.r_18, run0_A.sl.r_19, run0_A.sl.r_2, run0_A.sl.r_20, run0_A.sl.r_21, run0_A.sl.r_22, run0_A.sl.r_23, run0_A.sl.r_24, run0_A.sl.r_25, run0_A.sl.r_26, run0_A.sl.r_27, run0_A.sl.r_28, run0_A.sl.r_29, run0_A.sl.r_3, run0_A.sl.r_30, run0_A.sl.r_31, run0_A.sl.r_32, run0_A.sl.r_4, run0_A.sl.r_5, run0_A.sl.r_6, run0_A.sl.r_7, run0_A.sl.r_8, run0_A.sl.r_9, run0_A.sl.v39, run0_A.sl.v45, run0_A.sl.v173, run0_A.sl.v301, run0_A.sl.v551, pay2_eq, View.readCov_eq_canon', canH12]
    unfold_payloads
    pointwise [Memref.IsWhole.readAt_unread, readAt_scr, Gq, XW, hcol]

set_option maxHeartbeats 4000000 in
/-- Output window 5 after a later point. -/
theorem canonB_5 (c : Dev nD) (t : Fin cfg0.N) (h : ¬ t.val % 4 = 0) (X : Vec Ideal S2048x1024 .bf16) : View.canon (at0_B V c t h X).1.1 = Gq X (iblk0 V c 1 t) := by
  funext y
  refine View.canon_apply_of_pieces (Val := Elt Ideal) (Gq X (iblk0 V c 1 t)) _ ?_ y (cover0_B0 V c t h X y)
  unfold at0_B run0_B
  dsimp only
  simp only [List.forall_mem_cons, List.not_mem_nil, false_implies, implies_true, and_true]
  repeat' apply And.intro
  all_goals
    intro x
    refine Eq.trans (b := Gq X (iblk0 V c 1 t) (Rect.toLoadRect _ |>.idx x)) ?_ rfl
    idx_vars x
    unfold_payloads
    simp only [run0_B.sl.r, run0_B.sl.r_1, run0_B.sl.r_10, run0_B.sl.r_11, run0_B.sl.r_12, run0_B.sl.r_13, run0_B.sl.r_14, run0_B.sl.r_15, run0_B.sl.r_16, run0_B.sl.r_17, run0_B.sl.r_18, run0_B.sl.r_19, run0_B.sl.r_2, run0_B.sl.r_20, run0_B.sl.r_21, run0_B.sl.r_22, run0_B.sl.r_23, run0_B.sl.r_24, run0_B.sl.r_25, run0_B.sl.r_26, run0_B.sl.r_27, run0_B.sl.r_28, run0_B.sl.r_29, run0_B.sl.r_3, run0_B.sl.r_30, run0_B.sl.r_31, run0_B.sl.r_32, run0_B.sl.r_4, run0_B.sl.r_5, run0_B.sl.r_6, run0_B.sl.r_7, run0_B.sl.r_8, run0_B.sl.r_9, pay2_eq, View.readCov_eq_canon', canH12]
    unfold_payloads
    pointwise [Memref.IsWhole.readAt_unread, readAt_scr, Gq, XW, hcol]

set_option maxHeartbeats 4000000 in
/-- Output window 6 after the first point. -/
theorem canonA_6 (c : Dev nD) (t : Fin cfg0.N) (h : t.val % 4 = 0) : View.canon (at0_A V c t h).1.2.1 = Gk (iblk0 V c 0 t) (iblk0 V c 2 t) := by
  funext y
  refine View.canon_apply_of_pieces (Val := Elt Ideal) (Gk (iblk0 V c 0 t) (iblk0 V c 2 t)) _ ?_ y (cover0_A1 V c t h y)
  unfold at0_A run0_A
  dsimp only
  simp only [List.forall_mem_cons, List.not_mem_nil, false_implies, implies_true, and_true]
  repeat' apply And.intro
  all_goals
    intro x
    refine Eq.trans (b := Gk (iblk0 V c 0 t) (iblk0 V c 2 t) (Rect.toLoadRect _ |>.idx x)) ?_ rfl
    idx_vars x
    unfold_payloads
    simp only [run0_A.sl.r, run0_A.sl.r_1, run0_A.sl.r_10, run0_A.sl.r_11, run0_A.sl.r_12, run0_A.sl.r_13, run0_A.sl.r_14, run0_A.sl.r_15, run0_A.sl.r_16, run0_A.sl.r_17, run0_A.sl.r_18, run0_A.sl.r_19, run0_A.sl.r_2, run0_A.sl.r_20, run0_A.sl.r_21, run0_A.sl.r_22, run0_A.sl.r_23, run0_A.sl.r_24, run0_A.sl.r_25, run0_A.sl.r_26, run0_A.sl.r_27, run0_A.sl.r_28, run0_A.sl.r_29, run0_A.sl.r_3, run0_A.sl.r_30, run0_A.sl.r_31, run0_A.sl.r_32, run0_A.sl.r_4, run0_A.sl.r_5, run0_A.sl.r_6, run0_A.sl.r_7, run0_A.sl.r_8, run0_A.sl.r_9, run0_A.sl.v39, run0_A.sl.v45, run0_A.sl.v173, run0_A.sl.v301, run0_A.sl.v551, pay2_eq, View.readCov_eq_canon', canH12]
    unfold_payloads
    pointwise [Memref.IsWhole.readAt_unread, readAt_scr, Gk, XW, hcol]

set_option maxHeartbeats 4000000 in
/-- Output window 6 after a later point. -/
theorem canonB_6 (c : Dev nD) (t : Fin cfg0.N) (h : ¬ t.val % 4 = 0) (X : Vec Ideal S2048x1024 .bf16) : View.canon (at0_B V c t h X).1.2.1 = Gk X (iblk0 V c 2 t) := by
  funext y
  refine View.canon_apply_of_pieces (Val := Elt Ideal) (Gk X (iblk0 V c 2 t)) _ ?_ y (cover0_B1 V c t h X y)
  unfold at0_B run0_B
  dsimp only
  simp only [List.forall_mem_cons, List.not_mem_nil, false_implies, implies_true, and_true]
  repeat' apply And.intro
  all_goals
    intro x
    refine Eq.trans (b := Gk X (iblk0 V c 2 t) (Rect.toLoadRect _ |>.idx x)) ?_ rfl
    idx_vars x
    unfold_payloads
    simp only [run0_B.sl.r, run0_B.sl.r_1, run0_B.sl.r_10, run0_B.sl.r_11, run0_B.sl.r_12, run0_B.sl.r_13, run0_B.sl.r_14, run0_B.sl.r_15, run0_B.sl.r_16, run0_B.sl.r_17, run0_B.sl.r_18, run0_B.sl.r_19, run0_B.sl.r_2, run0_B.sl.r_20, run0_B.sl.r_21, run0_B.sl.r_22, run0_B.sl.r_23, run0_B.sl.r_24, run0_B.sl.r_25, run0_B.sl.r_26, run0_B.sl.r_27, run0_B.sl.r_28, run0_B.sl.r_29, run0_B.sl.r_3, run0_B.sl.r_30, run0_B.sl.r_31, run0_B.sl.r_32, run0_B.sl.r_4, run0_B.sl.r_5, run0_B.sl.r_6, run0_B.sl.r_7, run0_B.sl.r_8, run0_B.sl.r_9, pay2_eq, View.readCov_eq_canon', canH12]
    unfold_payloads
    pointwise [Memref.IsWhole.readAt_unread, readAt_scr, Gk, XW, hcol]

set_option maxHeartbeats 4000000 in
/-- Output window 7 after the first point. -/
theorem canonA_7 (c : Dev nD) (t : Fin cfg0.N) (h : t.val % 4 = 0) : View.canon (at0_A V c t h).1.2.2.1 = Gv (iblk0 V c 0 t) (iblk0 V c 3 t) := by
  funext y
  refine View.canon_apply_of_pieces (Val := Elt Ideal) (Gv (iblk0 V c 0 t) (iblk0 V c 3 t)) _ ?_ y (cover0_A2 V c t h y)
  unfold at0_A run0_A
  dsimp only
  simp only [List.forall_mem_cons, List.not_mem_nil, false_implies, implies_true, and_true]
  repeat' apply And.intro
  all_goals
    intro x
    refine Eq.trans (b := Gv (iblk0 V c 0 t) (iblk0 V c 3 t) (Rect.toLoadRect _ |>.idx x)) ?_ rfl
    idx_vars x
    unfold_payloads
    simp only [run0_A.sl.r, run0_A.sl.r_1, run0_A.sl.r_10, run0_A.sl.r_11, run0_A.sl.r_12, run0_A.sl.r_13, run0_A.sl.r_14, run0_A.sl.r_15, run0_A.sl.r_16, run0_A.sl.r_17, run0_A.sl.r_18, run0_A.sl.r_19, run0_A.sl.r_2, run0_A.sl.r_20, run0_A.sl.r_21, run0_A.sl.r_22, run0_A.sl.r_23, run0_A.sl.r_24, run0_A.sl.r_25, run0_A.sl.r_26, run0_A.sl.r_27, run0_A.sl.r_28, run0_A.sl.r_29, run0_A.sl.r_3, run0_A.sl.r_30, run0_A.sl.r_31, run0_A.sl.r_32, run0_A.sl.r_4, run0_A.sl.r_5, run0_A.sl.r_6, run0_A.sl.r_7, run0_A.sl.r_8, run0_A.sl.r_9, run0_A.sl.v39, run0_A.sl.v45, run0_A.sl.v173, run0_A.sl.v301, run0_A.sl.v551, pay2_eq, View.readCov_eq_canon', canH12]
    unfold_payloads
    pointwise [Memref.IsWhole.readAt_unread, readAt_scr, Gv, XW, hcol]
    first | done | exact ones_if _ _ _

set_option maxHeartbeats 4000000 in
/-- Output window 7 after a later point. -/
theorem canonB_7 (c : Dev nD) (t : Fin cfg0.N) (h : ¬ t.val % 4 = 0) (X : Vec Ideal S2048x1024 .bf16) : View.canon (at0_B V c t h X).1.2.2.1 = Gv X (iblk0 V c 3 t) := by
  funext y
  refine View.canon_apply_of_pieces (Val := Elt Ideal) (Gv X (iblk0 V c 3 t)) _ ?_ y (cover0_B2 V c t h X y)
  unfold at0_B run0_B
  dsimp only
  simp only [List.forall_mem_cons, List.not_mem_nil, false_implies, implies_true, and_true]
  repeat' apply And.intro
  all_goals
    intro x
    refine Eq.trans (b := Gv X (iblk0 V c 3 t) (Rect.toLoadRect _ |>.idx x)) ?_ rfl
    idx_vars x
    unfold_payloads
    simp only [run0_B.sl.r, run0_B.sl.r_1, run0_B.sl.r_10, run0_B.sl.r_11, run0_B.sl.r_12, run0_B.sl.r_13, run0_B.sl.r_14, run0_B.sl.r_15, run0_B.sl.r_16, run0_B.sl.r_17, run0_B.sl.r_18, run0_B.sl.r_19, run0_B.sl.r_2, run0_B.sl.r_20, run0_B.sl.r_21, run0_B.sl.r_22, run0_B.sl.r_23, run0_B.sl.r_24, run0_B.sl.r_25, run0_B.sl.r_26, run0_B.sl.r_27, run0_B.sl.r_28, run0_B.sl.r_29, run0_B.sl.r_3, run0_B.sl.r_30, run0_B.sl.r_31, run0_B.sl.r_32, run0_B.sl.r_4, run0_B.sl.r_5, run0_B.sl.r_6, run0_B.sl.r_7, run0_B.sl.r_8, run0_B.sl.r_9, pay2_eq, View.readCov_eq_canon', canH12]
    unfold_payloads
    pointwise [Memref.IsWhole.readAt_unread, readAt_scr, Gv, XW, hcol]
    first | done | exact ones_if _ _ _

set_option maxHeartbeats 4000000 in
/-- Output window 8 after the first point. -/
theorem canonA_8 (c : Dev nD) (t : Fin cfg0.N) (h : t.val % 4 = 0) : View.canon (at0_A V c t h).1.2.2.2.1 = Gc (iblk0 V c 0 t) (iblk0 V c 2 t) := by
  funext y
  refine View.canon_apply_of_pieces (Val := Elt Ideal) (Gc (iblk0 V c 0 t) (iblk0 V c 2 t)) _ ?_ y (cover0_A3 V c t h y)
  unfold at0_A run0_A
  dsimp only
  simp only [List.forall_mem_cons, List.not_mem_nil, false_implies, implies_true, and_true]
  repeat' apply And.intro
  all_goals
    intro x
    refine Eq.trans (b := Gc (iblk0 V c 0 t) (iblk0 V c 2 t) (Rect.toLoadRect _ |>.idx x)) ?_ rfl
    idx_vars x
    unfold_payloads
    simp only [run0_A.sl.r, run0_A.sl.r_1, run0_A.sl.r_10, run0_A.sl.r_11, run0_A.sl.r_12, run0_A.sl.r_13, run0_A.sl.r_14, run0_A.sl.r_15, run0_A.sl.r_16, run0_A.sl.r_17, run0_A.sl.r_18, run0_A.sl.r_19, run0_A.sl.r_2, run0_A.sl.r_20, run0_A.sl.r_21, run0_A.sl.r_22, run0_A.sl.r_23, run0_A.sl.r_24, run0_A.sl.r_25, run0_A.sl.r_26, run0_A.sl.r_27, run0_A.sl.r_28, run0_A.sl.r_29, run0_A.sl.r_3, run0_A.sl.r_30, run0_A.sl.r_31, run0_A.sl.r_32, run0_A.sl.r_4, run0_A.sl.r_5, run0_A.sl.r_6, run0_A.sl.r_7, run0_A.sl.r_8, run0_A.sl.r_9, run0_A.sl.v39, run0_A.sl.v45, run0_A.sl.v173, run0_A.sl.v301, run0_A.sl.v551, pay2_eq, View.readCov_eq_canon', canH12]
    unfold_payloads
    pointwise [Memref.IsWhole.readAt_unread, readAt_scr, Gc, XW, hcol]
    first | done | (have hx := x1.isLt; refine Finset.sum_congr rfl fun k _ => ?_; have hk := k.isLt; exact congrArg₂ (· * ·) (if_congr (by omega) rfl rfl) (Finset.sum_congr rfl fun e _ => congrArg (· * _) (congrArg (fun s : Fin 2048 => (iblk0 V c 0 t) (ix2 s e)) (Fin.ext (by dsimp only; omega)))))

set_option maxHeartbeats 4000000 in
/-- Output window 8 after a later point. -/
theorem canonB_8 (c : Dev nD) (t : Fin cfg0.N) (h : ¬ t.val % 4 = 0) (X : Vec Ideal S2048x1024 .bf16) : View.canon (at0_B V c t h X).1.2.2.2.1 = Gc X (iblk0 V c 2 t) := by
  funext y
  refine View.canon_apply_of_pieces (Val := Elt Ideal) (Gc X (iblk0 V c 2 t)) _ ?_ y (cover0_B3 V c t h X y)
  unfold at0_B run0_B
  dsimp only
  simp only [List.forall_mem_cons, List.not_mem_nil, false_implies, implies_true, and_true]
  repeat' apply And.intro
  all_goals
    intro x
    refine Eq.trans (b := Gc X (iblk0 V c 2 t) (Rect.toLoadRect _ |>.idx x)) ?_ rfl
    idx_vars x
    unfold_payloads
    simp only [run0_B.sl.r, run0_B.sl.r_1, run0_B.sl.r_10, run0_B.sl.r_11, run0_B.sl.r_12, run0_B.sl.r_13, run0_B.sl.r_14, run0_B.sl.r_15, run0_B.sl.r_16, run0_B.sl.r_17, run0_B.sl.r_18, run0_B.sl.r_19, run0_B.sl.r_2, run0_B.sl.r_20, run0_B.sl.r_21, run0_B.sl.r_22, run0_B.sl.r_23, run0_B.sl.r_24, run0_B.sl.r_25, run0_B.sl.r_26, run0_B.sl.r_27, run0_B.sl.r_28, run0_B.sl.r_29, run0_B.sl.r_3, run0_B.sl.r_30, run0_B.sl.r_31, run0_B.sl.r_32, run0_B.sl.r_4, run0_B.sl.r_5, run0_B.sl.r_6, run0_B.sl.r_7, run0_B.sl.r_8, run0_B.sl.r_9, pay2_eq, View.readCov_eq_canon', canH12]
    unfold_payloads
    pointwise [Memref.IsWhole.readAt_unread, readAt_scr, Gc, XW, hcol]
    first | done | (have hx := x1.isLt; refine Finset.sum_congr rfl fun k _ => ?_; have hk := k.isLt; exact congrArg₂ (· * ·) (if_congr (by omega) rfl rfl) (Finset.sum_congr rfl fun e _ => congrArg (· * _) (congrArg (fun s : Fin 2048 => X (ix2 s e)) (Fin.ext (by dsimp only; omega)))))

set_option maxHeartbeats 4000000 in
/-- Output window 9 after the first point. -/
theorem canonA_9 (c : Dev nD) (t : Fin cfg0.N) (h : t.val % 4 = 0) : View.canon (at0_A V c t h).1.2.2.2.2.1 = Gc (iblk0 V c 0 t) (iblk0 V c 3 t) := by
  funext y
  refine View.canon_apply_of_pieces (Val := Elt Ideal) (Gc (iblk0 V c 0 t) (iblk0 V c 3 t)) _ ?_ y (cover0_A4 V c t h y)
  unfold at0_A run0_A
  dsimp only
  simp only [List.forall_mem_cons, List.not_mem_nil, false_implies, implies_true, and_true]
  repeat' apply And.intro
  all_goals
    intro x
    refine Eq.trans (b := Gc (iblk0 V c 0 t) (iblk0 V c 3 t) (Rect.toLoadRect _ |>.idx x)) ?_ rfl
    idx_vars x
    unfold_payloads
    simp only [run0_A.sl.r, run0_A.sl.r_1, run0_A.sl.r_10, run0_A.sl.r_11, run0_A.sl.r_12, run0_A.sl.r_13, run0_A.sl.r_14, run0_A.sl.r_15, run0_A.sl.r_16, run0_A.sl.r_17, run0_A.sl.r_18, run0_A.sl.r_19, run0_A.sl.r_2, run0_A.sl.r_20, run0_A.sl.r_21, run0_A.sl.r_22, run0_A.sl.r_23, run0_A.sl.r_24, run0_A.sl.r_25, run0_A.sl.r_26, run0_A.sl.r_27, run0_A.sl.r_28, run0_A.sl.r_29, run0_A.sl.r_3, run0_A.sl.r_30, run0_A.sl.r_31, run0_A.sl.r_32, run0_A.sl.r_4, run0_A.sl.r_5, run0_A.sl.r_6, run0_A.sl.r_7, run0_A.sl.r_8, run0_A.sl.r_9, run0_A.sl.v39, run0_A.sl.v45, run0_A.sl.v173, run0_A.sl.v301, run0_A.sl.v551, pay2_eq, View.readCov_eq_canon', canH12]
    unfold_payloads
    pointwise [Memref.IsWhole.readAt_unread, readAt_scr, Gc, XW, hcol]
    first | done | (have hx := x1.isLt; refine Finset.sum_congr rfl fun k _ => ?_; have hk := k.isLt; exact congrArg₂ (· * ·) (if_congr (by omega) rfl rfl) (Finset.sum_congr rfl fun e _ => congrArg (· * _) (congrArg (fun s : Fin 2048 => (iblk0 V c 0 t) (ix2 s e)) (Fin.ext (by dsimp only; omega)))))

set_option maxHeartbeats 4000000 in
/-- Output window 9 after a later point. -/
theorem canonB_9 (c : Dev nD) (t : Fin cfg0.N) (h : ¬ t.val % 4 = 0) (X : Vec Ideal S2048x1024 .bf16) : View.canon (at0_B V c t h X).1.2.2.2.2 = Gc X (iblk0 V c 3 t) := by
  funext y
  refine View.canon_apply_of_pieces (Val := Elt Ideal) (Gc X (iblk0 V c 3 t)) _ ?_ y (cover0_B4 V c t h X y)
  unfold at0_B run0_B
  dsimp only
  simp only [List.forall_mem_cons, List.not_mem_nil, false_implies, implies_true, and_true]
  repeat' apply And.intro
  all_goals
    intro x
    refine Eq.trans (b := Gc X (iblk0 V c 3 t) (Rect.toLoadRect _ |>.idx x)) ?_ rfl
    idx_vars x
    unfold_payloads
    simp only [run0_B.sl.r, run0_B.sl.r_1, run0_B.sl.r_10, run0_B.sl.r_11, run0_B.sl.r_12, run0_B.sl.r_13, run0_B.sl.r_14, run0_B.sl.r_15, run0_B.sl.r_16, run0_B.sl.r_17, run0_B.sl.r_18, run0_B.sl.r_19, run0_B.sl.r_2, run0_B.sl.r_20, run0_B.sl.r_21, run0_B.sl.r_22, run0_B.sl.r_23, run0_B.sl.r_24, run0_B.sl.r_25, run0_B.sl.r_26, run0_B.sl.r_27, run0_B.sl.r_28, run0_B.sl.r_29, run0_B.sl.r_3, run0_B.sl.r_30, run0_B.sl.r_31, run0_B.sl.r_32, run0_B.sl.r_4, run0_B.sl.r_5, run0_B.sl.r_6, run0_B.sl.r_7, run0_B.sl.r_8, run0_B.sl.r_9, pay2_eq, View.readCov_eq_canon', canH12]
    unfold_payloads
    pointwise [Memref.IsWhole.readAt_unread, readAt_scr, Gc, XW, hcol]
    first | done | (have hx := x1.isLt; refine Finset.sum_congr rfl fun k _ => ?_; have hk := k.isLt; exact congrArg₂ (· * ·) (if_congr (by omega) rfl rfl) (Finset.sum_congr rfl fun e _ => congrArg (· * _) (congrArg (fun s : Fin 2048 => X (ix2 s e)) (Fin.ext (by dsimp only; omega)))))

set_option maxHeartbeats 4000000 in
/-- The gates after the first point. -/
theorem G0_eq (c : Dev nD) : G0 V c = Gg (iblk0 V c 0 z0) (iblk0 V c 4 z0) := by
  funext y
  unfold G0
  refine View.canon_apply_of_pieces (Val := Elt Ideal) (Gg (iblk0 V c 0 z0) (iblk0 V c 4 z0)) _ ?_ y (cover0_A5 V c z0 z0_val y)
  unfold at0_A run0_A
  dsimp only
  simp only [List.forall_mem_cons, List.not_mem_nil, false_implies, implies_true, and_true]
  repeat' apply And.intro
  all_goals
    intro x
    refine Eq.trans (b := Gg (iblk0 V c 0 z0) (iblk0 V c 4 z0) (Rect.toLoadRect _ |>.idx x)) ?_ rfl
    idx_vars x
    unfold_payloads
    simp only [run0_A.sl.r, run0_A.sl.r_1, run0_A.sl.r_10, run0_A.sl.r_11, run0_A.sl.r_12, run0_A.sl.r_13, run0_A.sl.r_14, run0_A.sl.r_15, run0_A.sl.r_16, run0_A.sl.r_17, run0_A.sl.r_18, run0_A.sl.r_19, run0_A.sl.r_2, run0_A.sl.r_20, run0_A.sl.r_21, run0_A.sl.r_22, run0_A.sl.r_23, run0_A.sl.r_24, run0_A.sl.r_25, run0_A.sl.r_26, run0_A.sl.r_27, run0_A.sl.r_28, run0_A.sl.r_29, run0_A.sl.r_3, run0_A.sl.r_30, run0_A.sl.r_31, run0_A.sl.r_32, run0_A.sl.r_4, run0_A.sl.r_5, run0_A.sl.r_6, run0_A.sl.r_7, run0_A.sl.r_8, run0_A.sl.r_9, run0_A.sl.v39, run0_A.sl.v45, run0_A.sl.v173, run0_A.sl.v301, run0_A.sl.v551, View.readCov_eq_canon', canH12]
    unfold_payloads
    pointwise [Memref.IsWhole.readAt_unread, Gg]
end Cert.KernelIdeal.Gen

end
-- ==== Proof.KernelIdeal.Arrays0.lean ====
/- The arrays the projection call leaves, over the extended reals, as functions of its operands. -/
module

public import proofs.«01_k».proof.Proof.KernelIdeal.Value0
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

/-- A row of `x` times a column of a weight matrix. -/
def xw (x : Vec Ideal S2048x1024 .f32) (W : Vec Ideal S1024x1024 .f32) (s : Fin 2048) (k : Fin 1024) : EReal :=
  ∑ e : Fin 1024, x (ix2 s e) * W (ix2 e k)
/-- The column of head `h`, coordinate `d`. -/
def fcol (h : Fin 16) (d : Fin 64) : Fin 1024 := ⟨64 * h.val + d.val, by omega⟩
/-- All scaled queries. -/
def AQ (x : Vec Ideal S2048x1024 .f32) (W : Vec Ideal S1024x1024 .f32) : Vec Ideal S16x2048x64 .bf16 :=
  fun y => xw x W (y 1) (fcol (y 0) (y 2)) * Ideal.ofBits .f32 0x3E000000#32
/-- All keys. -/
def AK (x : Vec Ideal S2048x1024 .f32) (W : Vec Ideal S1024x1024 .f32) : Vec Ideal S16x2048x64 .bf16 :=
  fun y => xw x W (y 1) (fcol (y 0) (y 2))
/-- All values, each followed by a one and zeros. -/
def AV (x : Vec Ideal S2048x1024 .f32) (W : Vec Ideal S1024x1024 .f32) : Vec Ideal S16x2048x128 .bf16 :=
  fun y => if h : (y 2).val < 64 then xw x W (y 1) (fcol (y 0) ⟨(y 2).val, h⟩) else if (y 2).val = 64 then Ideal.ofBits .f32 0x3F800000#32 else Ideal.ofBits .f32 0x00000000#32
/-- All block means, as products with the averaging matrix. -/
def AC (x : Vec Ideal S2048x1024 .f32) (W : Vec Ideal S1024x1024 .f32) : Vec Ideal S16x64x64 .f32 :=
  fun y => ∑ k : Fin 512, (if k.val / 32 = (y 1).val % 16 then Ideal.ofBits .f32 0x3D000000#32 else Ideal.ofBits .f32 0x00000000#32)
    * xw x W ⟨512 * ((y 1).val / 16) + k.val, by have h : (y 1).val < 64 := (y 1).isLt; omega⟩ (fcol (y 0) (y 2))
/-- The products of a group's columns are those of the whole matrix. -/
theorem XW_of (x : Vec Ideal S2048x1024 .f32) (Wb : Vec Ideal S1024x256 .f32) (W : Vec Ideal S1024x1024 .f32) (n : Fin 4)
    (hb : ∀ (e : Fin 1024) (k : Fin 256), Wb (ix2 e k) = W (ix2 e ⟨256 * n.val + k.val, by omega⟩))
    (s : Fin 2048) (a : Fin 4) (d : Fin 64) (h : Fin 16) (hh : h.val = 4 * n.val + a.val) : XW x Wb s (hcol a d) = xw x W s (fcol h d) := by
  unfold XW xw
  refine Finset.sum_congr rfl fun e _ => ?_
  rw [hb]
  refine congrArg (fun k : Fin 1024 => x (ix2 s e) * W (ix2 e k)) (Fin.ext ?_)
  show 256 * n.val + (64 * a.val + d.val) = 64 * h.val + d.val
  omega

theorem idx0_0 : ∀ t : Fin cfg0.N, win0_0.index t = ![0, 0] := (by decide +kernel : ∀ t : Fin grid0.N, _)
theorem idx0_4 : ∀ t : Fin cfg0.N, win0_4.index t = ![0, 0] := (by decide +kernel : ∀ t : Fin grid0.N, _)
theorem idx0_10 : ∀ t : Fin cfg0.N, win0_10.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, t.val] := (by decide +kernel : ∀ t : Fin grid0.N, _)
theorem idx0_5 : ∀ t : Fin cfg0.N, win0_5.index t = ![t.val, 0, 0] := (by decide +kernel : ∀ t : Fin grid0.N, _)
theorem idx0_6 : ∀ t : Fin cfg0.N, win0_6.index t = ![t.val, 0, 0] := (by decide +kernel : ∀ t : Fin grid0.N, _)
theorem idx0_7 : ∀ t : Fin cfg0.N, win0_7.index t = ![t.val, 0, 0] := (by decide +kernel : ∀ t : Fin grid0.N, _)
theorem idx0_8 : ∀ t : Fin cfg0.N, win0_8.index t = ![t.val, 0, 0] := (by decide +kernel : ∀ t : Fin grid0.N, _)
theorem idx0_9 : ∀ t : Fin cfg0.N, win0_9.index t = ![t.val, 0, 0] := (by decide +kernel : ∀ t : Fin grid0.N, _)

variable (V : (c : Dev nD) → (b : Ref sig .tc) → Buf (Elt Ideal) ((c : Thread nD τ).loc b))

/-- The first window reads the whole of `x`. -/
theorem blk0_0 (c : Dev nD) (t : Fin cfg0.N) : iblk0 V c 0 t = V c main_v0 := by
  funext j
  blk_simp [iblk0]
  refine congrArg (V c main_v0) ?_
  blk_ext [idx0_0]
/-- The gate weights' window reads them whole. -/
theorem blk0_4 (c : Dev nD) (t : Fin cfg0.N) : iblk0 V c 4 t = V c main_arg4 := by
  funext j
  blk_simp [iblk0]
  refine congrArg (V c main_arg4) ?_
  blk_ext [idx0_4]
/-- A column block of a weight matrix. -/
theorem blk0_1 (c : Dev nD) (t : Fin cfg0.N) (e : Fin 1024) (k : Fin 256) : iblk0 V c 1 t (ix2 e k) = V c main_arg1 (ix2 e ⟨256 * t.val + k.val, by have : t.val < 4 := t.isLt; omega⟩) := by
  blk_simp [iblk0]
  refine congrArg (V c main_arg1) ?_
  blk_ext [idx0_1]
/-- The products of a group's columns are those of the whole matrix. -/
theorem XW_1 (c : Dev nD) (t : Fin cfg0.N) (s : Fin 2048) (a : Fin 4) (d : Fin 64) (h : Fin 16) (hh : h.val = 4 * t.val + a.val) :
    XW (V c main_v0) (iblk0 V c 1 t) s (hcol a d) = xw (V c main_v0) (V c main_arg1) s (fcol h d) := by
  exact XW_of _ _ _ _ (fun e k => blk0_1 V c t e k) s a d h hh

/-- A column block of a weight matrix. -/
theorem blk0_2 (c : Dev nD) (t : Fin cfg0.N) (e : Fin 1024) (k : Fin 256) : iblk0 V c 2 t (ix2 e k) = V c main_arg2 (ix2 e ⟨256 * t.val + k.val, by have : t.val < 4 := t.isLt; omega⟩) := by
  blk_simp [iblk0]
  refine congrArg (V c main_arg2) ?_
  blk_ext [idx0_2]
/-- The products of a group's columns are those of the whole matrix. -/
theorem XW_2 (c : Dev nD) (t : Fin cfg0.N) (s : Fin 2048) (a : Fin 4) (d : Fin 64) (h : Fin 16) (hh : h.val = 4 * t.val + a.val) :
    XW (V c main_v0) (iblk0 V c 2 t) s (hcol a d) = xw (V c main_v0) (V c main_arg2) s (fcol h d) := by
  exact XW_of _ _ _ _ (fun e k => blk0_2 V c t e k) s a d h hh

/-- A column block of a weight matrix. -/
theorem blk0_3 (c : Dev nD) (t : Fin cfg0.N) (e : Fin 1024) (k : Fin 256) : iblk0 V c 3 t (ix2 e k) = V c main_arg3 (ix2 e ⟨256 * t.val + k.val, by have : t.val < 4 := t.isLt; omega⟩) := by
  blk_simp [iblk0]
  refine congrArg (V c main_arg3) ?_
  blk_ext [idx0_3]
/-- The products of a group's columns are those of the whole matrix. -/
theorem XW_3 (c : Dev nD) (t : Fin cfg0.N) (s : Fin 2048) (a : Fin 4) (d : Fin 64) (h : Fin 16) (hh : h.val = 4 * t.val + a.val) :
    XW (V c main_v0) (iblk0 V c 3 t) s (hcol a d) = xw (V c main_v0) (V c main_arg3) s (fcol h d) := by
  exact XW_of _ _ _ _ (fun e k => blk0_3 V c t e k) s a d h hh

/-- Window 5 at every point. -/
theorem o0_5_eq (c : Dev nD) (t : Fin cfg0.N) : o0_5 V c t = Gq (V c main_v0) (iblk0 V c 1 t) := by
  unfold o0_5
  split
  · rw [canonA_5, blk0_0]
  · rw [canonB_5, X0_eq, blk0_0]
/-- A block of the array of window 5. -/
theorem blkarr_5 (c : Dev nD) (t : Fin cfg0.N) (y : S4x2048x64.Idx) (i : S16x2048x64.Idx) (h0 : (i 0).val = 4 * t.val + (y 0).val) (h1 : (i 1).val = (y 1).val)
    (h2 : (i 2).val = (y 2).val) : Gq (V c main_v0) (iblk0 V c 1 t) y = AQ (V c main_v0) (V c main_arg1) i := by
  idx_vars y
  idx_vars i
  obtain rfl : i1 = y1 := Fin.ext h1
  obtain rfl : i2 = y2 := Fin.ext h2
  exact congrArg (· * _) (XW_1 V c t i1 y0 i2 i0 h0)
/-- The array of window 5. -/
theorem arr0_5 (c : Dev nD) : (dat0 V c).arrAt 5 cfg0.N = AQ (V c main_v0) (V c main_arg1) := by
  refine (dat0 V c).arrAt_eq_of_covers 5 _ (by decide +kernel) fun t hf y => ?_
  blk_simp
  rw [after0_5, o0_5_eq]
  refine blkarr_5 V c t y _ ?_ ?_ ?_
  · blk_simp [idx0_5]; exact congrArg (· + _) (Nat.mul_comm _ _)
  · blk_simp [idx0_5]
  · blk_simp [idx0_5]

/-- Window 6 at every point. -/
theorem o0_6_eq (c : Dev nD) (t : Fin cfg0.N) : o0_6 V c t = Gk (V c main_v0) (iblk0 V c 2 t) := by
  unfold o0_6
  split
  · rw [canonA_6, blk0_0]
  · rw [canonB_6, X0_eq, blk0_0]
/-- A block of the array of window 6. -/
theorem blkarr_6 (c : Dev nD) (t : Fin cfg0.N) (y : S4x2048x64.Idx) (i : S16x2048x64.Idx) (h0 : (i 0).val = 4 * t.val + (y 0).val) (h1 : (i 1).val = (y 1).val)
    (h2 : (i 2).val = (y 2).val) : Gk (V c main_v0) (iblk0 V c 2 t) y = AK (V c main_v0) (V c main_arg2) i := by
  idx_vars y
  idx_vars i
  obtain rfl : i1 = y1 := Fin.ext h1
  obtain rfl : i2 = y2 := Fin.ext h2
  exact congrArg (·) (XW_2 V c t i1 y0 i2 i0 h0)
/-- The array of window 6. -/
theorem arr0_6 (c : Dev nD) : (dat0 V c).arrAt 6 cfg0.N = AK (V c main_v0) (V c main_arg2) := by
  refine (dat0 V c).arrAt_eq_of_covers 6 _ (by decide +kernel) fun t hf y => ?_
  blk_simp
  rw [after0_6, o0_6_eq]
  refine blkarr_6 V c t y _ ?_ ?_ ?_
  · blk_simp [idx0_6]; exact congrArg (· + _) (Nat.mul_comm _ _)
  · blk_simp [idx0_6]
  · blk_simp [idx0_6]

/-- Window 7 at every point. -/
theorem o0_7_eq (c : Dev nD) (t : Fin cfg0.N) : o0_7 V c t = Gv (V c main_v0) (iblk0 V c 3 t) := by
  unfold o0_7
  split
  · rw [canonA_7, blk0_0]
  · rw [canonB_7, X0_eq, blk0_0]
/-- A block of the array of window 7. -/
theorem blkarr_7 (c : Dev nD) (t : Fin cfg0.N) (y : S4x2048x128.Idx) (i : S16x2048x128.Idx) (h0 : (i 0).val = 4 * t.val + (y 0).val) (h1 : (i 1).val = (y 1).val)
    (h2 : (i 2).val = (y 2).val) : Gv (V c main_v0) (iblk0 V c 3 t) y = AV (V c main_v0) (V c main_arg3) i := by
  idx_vars y
  idx_vars i
  obtain rfl : i1 = y1 := Fin.ext h1
  obtain rfl : i2 = y2 := Fin.ext h2
  unfold Gv AV
  by_cases hy : i2.val < 64
  · refine Eq.trans (dif_pos (show ((ix3 y0 i1 i2 : S4x2048x128.Idx) 2).val < 64 from hy)) (Eq.trans (XW_3 V c t i1 y0 ⟨i2.val, hy⟩ i0 h0) (Eq.symm ?_))
    exact dif_pos (show ((ix3 i0 i1 i2 : S16x2048x128.Idx) 2).val < 64 from hy)
  · refine Eq.trans (dif_neg (show ¬ ((ix3 y0 i1 i2 : S4x2048x128.Idx) 2).val < 64 from hy)) (Eq.symm ?_)
    exact dif_neg (show ¬ ((ix3 i0 i1 i2 : S16x2048x128.Idx) 2).val < 64 from hy)
/-- The array of window 7. -/
theorem arr0_7 (c : Dev nD) : (dat0 V c).arrAt 7 cfg0.N = AV (V c main_v0) (V c main_arg3) := by
  refine (dat0 V c).arrAt_eq_of_covers 7 _ (by decide +kernel) fun t hf y => ?_
  blk_simp
  rw [after0_7, o0_7_eq]
  refine blkarr_7 V c t y _ ?_ ?_ ?_
  · blk_simp [idx0_7]; exact congrArg (· + _) (Nat.mul_comm _ _)
  · blk_simp [idx0_7]
  · blk_simp [idx0_7]

/-- Window 8 at every point. -/
theorem o0_8_eq (c : Dev nD) (t : Fin cfg0.N) : o0_8 V c t = Gc (V c main_v0) (iblk0 V c 2 t) := by
  unfold o0_8
  split
  · rw [canonA_8, blk0_0]
  · rw [canonB_8, X0_eq, blk0_0]
/-- A block of the array of window 8. -/
theorem blkarr_8 (c : Dev nD) (t : Fin cfg0.N) (y : S4x64x64.Idx) (i : S16x64x64.Idx) (h0 : (i 0).val = 4 * t.val + (y 0).val) (h1 : (i 1).val = (y 1).val)
    (h2 : (i 2).val = (y 2).val) : Gc (V c main_v0) (iblk0 V c 2 t) y = AC (V c main_v0) (V c main_arg2) i := by
  idx_vars y
  idx_vars i
  obtain rfl : i1 = y1 := Fin.ext h1
  obtain rfl : i2 = y2 := Fin.ext h2
  exact Finset.sum_congr rfl fun k _ => congrArg (_ * ·) (XW_2 V c t _ y0 i2 i0 h0)
/-- The array of window 8. -/
theorem arr0_8 (c : Dev nD) : (dat0 V c).arrAt 8 cfg0.N = AC (V c main_v0) (V c main_arg2) := by
  refine (dat0 V c).arrAt_eq_of_covers 8 _ (by decide +kernel) fun t hf y => ?_
  blk_simp
  rw [after0_8, o0_8_eq]
  refine blkarr_8 V c t y _ ?_ ?_ ?_
  · blk_simp [idx0_8]; exact congrArg (· + _) (Nat.mul_comm _ _)
  · blk_simp [idx0_8]
  · blk_simp [idx0_8]

/-- Window 9 at every point. -/
theorem o0_9_eq (c : Dev nD) (t : Fin cfg0.N) : o0_9 V c t = Gc (V c main_v0) (iblk0 V c 3 t) := by
  unfold o0_9
  split
  · rw [canonA_9, blk0_0]
  · rw [canonB_9, X0_eq, blk0_0]
/-- A block of the array of window 9. -/
theorem blkarr_9 (c : Dev nD) (t : Fin cfg0.N) (y : S4x64x64.Idx) (i : S16x64x64.Idx) (h0 : (i 0).val = 4 * t.val + (y 0).val) (h1 : (i 1).val = (y 1).val)
    (h2 : (i 2).val = (y 2).val) : Gc (V c main_v0) (iblk0 V c 3 t) y = AC (V c main_v0) (V c main_arg3) i := by
  idx_vars y
  idx_vars i
  obtain rfl : i1 = y1 := Fin.ext h1
  obtain rfl : i2 = y2 := Fin.ext h2
  exact Finset.sum_congr rfl fun k _ => congrArg (_ * ·) (XW_3 V c t _ y0 i2 i0 h0)
/-- The array of window 9. -/
theorem arr0_9 (c : Dev nD) : (dat0 V c).arrAt 9 cfg0.N = AC (V c main_v0) (V c main_arg3) := by
  refine (dat0 V c).arrAt_eq_of_covers 9 _ (by decide +kernel) fun t hf y => ?_
  blk_simp
  rw [after0_9, o0_9_eq]
  refine blkarr_9 V c t y _ ?_ ?_ ?_
  · blk_simp [idx0_9]; exact congrArg (· + _) (Nat.mul_comm _ _)
  · blk_simp [idx0_9]
  · blk_simp [idx0_9]

/-- The array of the gates. -/
theorem arr0_10 (c : Dev nD) : (dat0 V c).arrAt 10 cfg0.N = Gg (V c main_v0) (V c main_arg4) := by
  refine (dat0 V c).arrAt_eq_of_covers 10 _ (by decide +kernel) fun t hf y => ?_
  blk_simp
  rw [after0_10, G0_eq, blk0_0, blk0_4]
  refine congrArg (Gg _ _) ?_
  blk_ext [idx0_10]

end Cert.KernelIdeal.Gen

end
-- ==== Proof.KernelIdeal.Head.lean ====
/- One head of the attention call over the extended reals: the compressed scores, the block scores and their selection,
   the extended queries and keys, the compressed branch's result and the gates. -/
module

public import proofs.«01_k».proof.Proof.KernelIdeal.Arrays0
public import proofs.«01_k».proof.Proof.KernelIdeal.Region1

@[expose] public section

set_option maxRecDepth 16384

noncomputable section

namespace Cert.KernelIdeal.Gen

open Idealize.ShloMosaic Idealize.ShloMosaic.TcCoe Idealize.ShloMosaic.Tactic

/-! ## The named constants and index words -/

theorem named_m : Named.named (F := Ideal) κ "masked" (φ := .f32) 0xCE6E6B28#32 = ⊥ := IdealRules.named_const.ideal_named_scalar _ _ _ _ rfl
theorem named_c : Named.named (F := Ideal) κ "chosen" (φ := .f32) 0x4E6E6B28#32 = ⊤ := IdealRules.named_const.ideal_named_scalar _ _ _ _ rfl
theorem named_t : Named.named (F := Ideal) κ "taken" (φ := .f32) 0xCF32D05E#32 = ⊥ := IdealRules.named_const.ideal_named_scalar _ _ _ _ rfl

/-- The floor of a row number over 32, as the kernel computes it on words. -/
theorem floor32 : ∀ x : Fin 2048, (Scalar.select
      (IntOp.andi (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 32#32 0#32)) (Scalar.extui (Scalar.cmpi CmpIPredicate.slt 32#32 0#32))))
        (IntOp.cmpi CmpIPredicate.ne (IntOp.remsi ArithUnit.vector (BitVec.ofNat 32 x.val) 32#32) 0#32))
      (IntOp.subi (IntOp.divsi ArithUnit.vector (BitVec.ofNat 32 x.val) 32#32) 1#32)
      (IntOp.divsi ArithUnit.vector (BitVec.ofNat 32 x.val) 32#32) : BitVec 32) = BitVec.ofNat 32 (x.val / 32) := by decide +kernel

theorem eq_words (a b : ℕ) (ha : a < 4096) (hb : b < 4096) : IntOp.cmpi CmpIPredicate.eq (BitVec.ofNat 32 a) (BitVec.ofNat 32 b) = 1#1 ↔ a = b := by word_cmp
theorem sle_words (a b : ℕ) (ha : a < 4096) (hb : b < 4096) : IntOp.cmpi CmpIPredicate.sle (BitVec.ofNat 32 a) (BitVec.ofNat 32 b) = 1#1 ↔ a ≤ b := by word_cmp
theorem sge_words (a b : ℕ) (ha : a < 4096) (hb : b < 4096) : IntOp.cmpi CmpIPredicate.sge (BitVec.ofNat 32 a) (BitVec.ofNat 32 b) = 1#1 ↔ b ≤ a := by word_cmp

theorem cmp_words (s : Fin 2048) (j : Fin 64) : IntOp.cmpi CmpIPredicate.sle (IntOp.addi (IntOp.muli 32#32 (BitVec.ofNat 32 j.val)) 31#32) (BitVec.ofNat 32 s.val) = 1#1 ↔ 32 * j.val + 31 ≤ s.val := by
  have e : IntOp.addi (IntOp.muli 32#32 (BitVec.ofNat 32 j.val)) 31#32 = BitVec.ofNat 32 (32 * j.val + 31) := by
    show 32#32 * BitVec.ofNat 32 j.val + 31#32 = _
    rw [BitVec.ofNat_add, BitVec.ofNat_mul]
  rw [e]
  exact sle_words _ _ (by omega) (by omega)
theorem gate_words (h j k : ℕ) (hh : h < 16) (hj : j < 48) (hk : k < 3) : IntOp.cmpi CmpIPredicate.eq (BitVec.ofNat 32 j) (Scalar.addi (Scalar.muli 3#32 (BitVec.ofNat 32 h)) (BitVec.ofNat 32 k)) = 1#1 ↔ j = 3 * h + k := by
  have e : Scalar.addi (Scalar.muli 3#32 (BitVec.ofNat 32 h)) (BitVec.ofNat 32 k) = BitVec.ofNat 32 (3 * h + k) := by
    show 3#32 * BitVec.ofNat 32 h + BitVec.ofNat 32 k = _
    rw [BitVec.ofNat_add, BitVec.ofNat_mul]
  rw [e]
  exact eq_words _ _ (by omega) (by omega)
theorem gate_words0 (h j : ℕ) (hh : h < 16) (hj : j < 48) : IntOp.cmpi CmpIPredicate.eq (BitVec.ofNat 32 j) (Scalar.muli 3#32 (BitVec.ofNat 32 h)) = 1#1 ↔ j = 3 * h + 0 := by
  have e : Scalar.muli 3#32 (BitVec.ofNat 32 h) = BitVec.ofNat 32 (3 * h + 0) := by
    show 3#32 * BitVec.ofNat 32 h = _
    rw [Nat.add_zero, BitVec.ofNat_mul]
  rw [e]
  exact eq_words _ _ (by omega) (by omega)

/-! ## The functions of a head -/

/-- The compressed score of row `s` against block `j`. -/
def SIMC (q : Vec Ideal S1x2048x64 .bf16) (kc : Vec Ideal S1x64x64 .f32) (s : Fin 2048) (j : Fin 64) : EReal :=
  if 32 * j.val + 31 ≤ s.val then ∑ x : Fin 64, q (ix3 0 s x) * kc (ix3 0 j x) else ⊥
/-- The score of block `j` for the rows of block `r`. -/
def SCORE (q : Vec Ideal S1x2048x64 .bf16) (kc : Vec Ideal S1x64x64 .f32) (r j : Fin 64) : EReal :=
  if j.val = r.val then ⊤ else if j.val ≤ r.val then ∑ x : Fin 2048, (if x.val / 32 = r.val then SIMC q kc x j * Ideal.ofBits .f32 0x3D000000#32 else 0) else ⊥
/-- The greatest of a family. -/
def topF (w : Fin 64 → EReal) : EReal := Finset.univ.fold max (Ideal.ofBits .f32 0xFF800000#32) w
/-- The family with its greatest members struck out. -/
def stepF (w : Fin 64 → EReal) : Fin 64 → EReal := fun j => if topF w ≤ w j then ⊥ else w j
/-- Block `j` is selected for the rows of block `r`. -/
def SELF (q : Vec Ideal S1x2048x64 .bf16) (kc : Vec Ideal S1x64x64 .f32) (r j : Fin 64) : Prop :=
  topF (stepF^[15] (SCORE q kc r)) ≤ SCORE q kc r j ∧ j.val ≤ r.val
/-- The block of a row. -/
def blk (s : Fin 2048) : Fin 64 := ⟨s.val / 32, by omega⟩
open Classical in
/-- The queries, extended by the selection as an additive mask. -/
def QA (q : Vec Ideal S1x2048x64 .bf16) (kc : Vec Ideal S1x64x64 .f32) : Vec Ideal S2048x128 .bf16 :=
  fun y => if h : (y 1).val < 64 then q (ix3 0 (y 0) ⟨(y 1).val, h⟩)
    else ((if SELF q kc (blk (y 0)) ⟨(y 1).val - 64, by have h1 : (y 1).val < 128 := (y 1).isLt; omega⟩ then 1 else 0) - 1) * ⊤
/-- The keys, extended by their block's indicator. -/
def KA (k : Vec Ideal S1x2048x64 .bf16) : Vec Ideal S2048x128 .bf16 :=
  fun y => if h : (y 1).val < 64 then k (ix3 0 (y 0) ⟨(y 1).val, h⟩) else if (y 0).val / 32 = (y 1).val - 64 then 1 else 0
/-- The compressed branch's result. -/
def OUTC (q : Vec Ideal S1x2048x64 .bf16) (kc vc : Vec Ideal S1x64x64 .f32) : Vec Ideal S2048x64 .f32 :=
  fun y => if 31 ≤ (y 0).val then Ideal.div (∑ j : Fin 64, Ideal.exp (SIMC q kc (y 0) j) * vc (ix3 0 j (y 1))) (∑ j : Fin 64, Ideal.exp (SIMC q kc (y 0) j)) else 0

/-! ## The payloads -/

theorem pay22_eq (kc : Vec Ideal S1x64x64 .f32) (q : Vec Ideal S1x2048x64 .bf16) : k1_pay22 (F := Ideal) kc q = fun y => SIMC q kc (y 0) (y 1) := by
  funext y
  idx_vars y
  unfold_payloads
  pointwise [named_m]
  exact sel_if (cmp_words y0 y1) _ _

theorem pay26_eq (kc : Vec Ideal S1x64x64 .f32) (q : Vec Ideal S1x2048x64 .bf16) :
    k1_pay26 (F := Ideal) (fun y => SIMC q kc (y 0) (y 1)) run1_B.sl.v28 k1_pay23 k1_pay24 k1_pay25 = fun y => SCORE q kc (y 1) (y 0) := by
  funext y
  idx_vars y
  unfold_payloads
  unfold run1_B.sl.v28
  pointwise [named_m, named_c]
  simp only [floor32]
  refine (sel_if (eq_words _ _ (by omega) (by omega)) _ _).trans ?_
  unfold SCORE
  refine if_congr Iff.rfl rfl ?_
  refine (sel_if (sle_words _ _ (by omega) (by omega)) _ _).trans ?_
  refine if_congr Iff.rfl ?_ rfl
  exact Finset.sum_congr rfl fun x _ => sel_if (eq_words _ _ (by omega) (by omega)) _ _

/-- One round: the greatest entries of every column struck out. -/
def stepV (w : FVec Ideal S64x64 .f32) : FVec Ideal S64x64 .f32 :=
  select (cmpf .oge w (broadcastTo S64x64 (shapeCast S1x64 (multiReduction .maximumf [0] S64 w 0xFF800000#32 reduces_S64x64_S64 (.inl rfl) rfl) shapeCasts_S64_S1x64) broadcasts_S1x64_S64x64))
    (broadcast S64x64 (Named.named κ "taken" 0xCF32D05E#32)) w

theorem stepV_eq (w : Fin 64 → Fin 64 → EReal) : stepV (fun y => w (y 1) (y 0)) = fun y => stepF (w (y 1)) (y 0) := by
  funext y
  idx_vars y
  unfold stepV
  pointwise [named_t]
  rfl

theorem steps_eq (w : Fin 64 → Fin 64 → EReal) (n : ℕ) : stepV^[n] (fun y => w (y 1) (y 0)) = fun y => stepF^[n] (w (y 1)) (y 0) := by
  induction n with
  | zero => rfl
  | succ n ih =>
    rw [Function.iterate_succ_apply', ih]
    refine (stepV_eq (fun r => stepF^[n] (w r))).trans ?_
    funext y
    rw [Function.iterate_succ_apply']

/-- The rows' selection from the scores and the last round. -/
def selV (sc w : FVec Ideal S64x64 .f32) : FVec Ideal S2048x64 .f32 :=
  shapeCast S2048x64 (broadcastTo S64x32x64 (shapeCast S64x1x64 (shapeCast S64x1x64 (transpose S64x64 [1, 0] (sitofp .f32 (extui 32
    (andi (cmpf .oge sc (broadcastTo S64x64 (shapeCast S1x64 (multiReduction .maximumf [0] S64 w 0xFF800000#32 reduces_S64x64_S64 (.inl rfl) rfl) shapeCasts_S64_S1x64) broadcasts_S1x64_S64x64))
      (cmpi .sle run1_B.sl.v59 run1_B.sl.v60)) natLt_1_32)) transposes_S64x64_p1_0_S64x64) shapeCasts_S64x64_S64x1x64) shapeCasts_S64x1x64_S64x1x64)
    broadcasts_S64x1x64_S64x32x64) shapeCasts_S64x32x64_S2048x64

theorem rounds_eq (sc : FVec Ideal S64x64 .f32) (r1 : FVec Ideal S2048x64 .f32) (h : k1_pay26 (F := Ideal) r1 run1_B.sl.v28 k1_pay23 k1_pay24 k1_pay25 = sc) :
    k1_pay30 run1_B.sl.v59 run1_B.sl.v60 sc (k1_pay29 (k1_pay27 r1 run1_B.sl.v28 k1_pay23 k1_pay24 k1_pay25) (k1_pay28 r1 run1_B.sl.v28 k1_pay23 k1_pay24 k1_pay25))
      = selV sc (stepV^[15] sc) := by
  have e27 : k1_pay27 (F := Ideal) r1 run1_B.sl.v28 k1_pay23 k1_pay24 k1_pay25 = stepV^[4] sc := by
    unfold k1_pay27
    rw [h]
    rfl
  unfold k1_pay28
  rw [e27]
  rfl

theorem word_true (p : Prop) [Decidable p] : FloatOps.sitofp (F := Ideal) FTy.f32 (BitVec.setWidth 32 (BitVec.ofBool (decide p))) = if p then (1 : EReal) else 0 := by
  by_cases h : p
  · rw [if_pos h, decide_eq_true h, show FloatOps.sitofp (F := Ideal) FTy.f32 (BitVec.setWidth 32 (BitVec.ofBool _)) = (((BitVec.setWidth 32 (BitVec.ofBool _)).toInt : ℝ) : EReal) from rfl]
    have e : (BitVec.setWidth 32 (BitVec.ofBool true)).toInt = 1 := by decide
    rw [e]
    norm_num
  · rw [if_neg h, decide_eq_false h, show FloatOps.sitofp (F := Ideal) FTy.f32 (BitVec.setWidth 32 (BitVec.ofBool _)) = (((BitVec.setWidth 32 (BitVec.ofBool _)).toInt : ℝ) : EReal) from rfl]
    norm_num

open Classical in
theorem selV_eq (q : Vec Ideal S1x2048x64 .bf16) (kc : Vec Ideal S1x64x64 .f32) (w : Fin 64 → Fin 64 → EReal) :
    selV (fun y => SCORE q kc (y 1) (y 0)) (fun y => w (y 1) (y 0))
      = fun y => if topF (w (blk (y 0))) ≤ SCORE q kc (blk (y 0)) (y 1) ∧ (y 1).val ≤ (blk (y 0)).val then 1 else 0 := by
  funext y
  idx_vars y
  unfold selV run1_B.sl.v59 run1_B.sl.v60
  pointwise
  have e : IntOp.cmpi CmpIPredicate.sle (BitVec.ofNat 32 y1.val) (BitVec.ofNat 32 (y0.val / 32)) = BitVec.ofBool (decide (y1.val ≤ y0.val / 32)) := by word_cmp
  rw [e]
  have ea : ∀ (p r : Prop) [Decidable p] [Decidable r], IntOp.andi (BitVec.ofBool (decide p)) (BitVec.ofBool (decide r)) = BitVec.ofBool (decide (p ∧ r)) := by
    intro p r _ _
    by_cases hp : p <;> by_cases hr : r <;> simp [hp, hr, IntOp.andi]
  rw [ea, word_true]
  exact if_congr Iff.rfl rfl rfl

section Blocks

variable (i : grid1.Coords)
  (arg1 : Memref sig .tc .vmem S1x2048x64 .bf16) (harg1 : arg1.IsWhole) (arg2 : Memref sig .tc .vmem S1x2048x64 .bf16) (harg2 : arg2.IsWhole)
  (arg4 : Memref sig .tc .vmem S1x64x64 .f32) (harg4 : arg4.IsWhole) (arg5 : Memref sig .tc .vmem S1x64x64 .f32) (harg5 : arg5.IsWhole)
  (arg6 : Memref sig .tc .vmem S2048x48 .f32) (harg6 : arg6.IsWhole)
  (x0 x1 : Vec Ideal S1x2048x64 .bf16) (x3 x4 : Vec Ideal S1x64x64 .f32) (x5 : Vec Ideal S2048x48 .f32)

theorem read_q (a : Memref sig .tc .vmem S1x2048x64 .bf16) (ha : a.IsWhole) (x : Vec Ideal S1x2048x64 .bf16) :
    View.readAt (Elt Ideal) a.view (Rect.unit ![0, 0, 0] S1x2048x64.size inb_S1x2048x64_S1x2048x64_0_0_0).toLoadRect (ha.unread x) = x := by
  funext y
  idx_vars y
  pointwise [Memref.IsWhole.readAt_unread]
  rw [Subsingleton.elim y0 0]
theorem read_c (a : Memref sig .tc .vmem S1x64x64 .f32) (ha : a.IsWhole) (x : Vec Ideal S1x64x64 .f32) :
    View.readAt (Elt Ideal) a.view (Rect.unit ![0, 0, 0] S1x64x64.size inb_S1x64x64_S1x64x64_0_0_0).toLoadRect (ha.unread x) = x := by
  funext y
  idx_vars y
  pointwise [Memref.IsWhole.readAt_unread]
  rw [Subsingleton.elim y0 0]

theorem r1_eq : run1_B.sl.r_1 (F := Ideal) arg1 harg1 arg4 harg4 x0 x3 = fun y => SIMC x0 x3 (y 0) (y 1) := by
  unfold run1_B.sl.r_1
  rw [read_q, read_c]
  exact pay22_eq _ _

theorem r2_eq : run1_B.sl.r_2 (F := Ideal) arg1 harg1 arg4 harg4 x0 x3 = fun y => SCORE x0 x3 (y 1) (y 0) := by
  unfold run1_B.sl.r_2
  rw [r1_eq]
  exact pay26_eq _ _

open Classical in
theorem r6_eq : run1_B.sl.r_6 (F := Ideal) arg1 harg1 arg4 harg4 x0 x3 = fun y => if SELF x0 x3 (blk (y 0)) (y 1) then 1 else 0 := by
  unfold run1_B.sl.r_6 run1_B.sl.r_5 run1_B.sl.r_3 run1_B.sl.r_4
  rw [rounds_eq (run1_B.sl.r_2 (F := Ideal) arg1 harg1 arg4 harg4 x0 x3) _ rfl, r2_eq, steps_eq]
  refine (selV_eq x0 x3 fun r => stepF^[15] (SCORE x0 x3 r)).trans ?_
  funext y
  exact if_congr Iff.rfl rfl rfl

/-- The extended queries in the scratch. -/
theorem canH9 : View.canon (run1_B.sl.H9_2 (F := Ideal) arg1 harg1 arg4 harg4 x0 x3) = QA x0 x3 := by
  funext y
  refine View.canon_apply_of_pieces (Val := Elt Ideal) (e := .bf16) (QA x0 x3) _ ?_ y ((show ∀ y : S2048x128.Idx, ∃ p ∈ run1_B.sl.H9_2 (F := Ideal) arg1 harg1 arg4 harg4 x0 x3, y ∈ p.1.set from View.cover_of_tiledL _ S2048x64.size (by sl_kernel_rfl)) y)
  unfold run1_B.sl.H9_2
  simp only [List.forall_mem_cons, List.not_mem_nil, false_implies, implies_true, and_true]
  refine ⟨?_, ?_⟩
  · intro x
    refine Eq.trans (b := QA x0 x3 (Rect.toLoadRect _ |>.idx x)) ?_ rfl
    rw [r6_eq]
    idx_vars x
    unfold_payloads
    pointwise [named_c]
    refine Eq.symm (Eq.trans (dif_neg (show ¬ ((ix2 x0 ⟨64 + x1.val, by omega⟩ : S2048x128.Idx) 1).val < 64 from by show ¬ 64 + x1.val < 64; omega)) ?_)
    have e : ∀ h, (⟨64 + x1.val - 64, h⟩ : Fin 64) = x1 := fun h => Fin.ext (by show 64 + x1.val - 64 = x1.val; omega)
    exact congrArg (fun j => (((@ite EReal (SELF _ x3 (blk x0) j) (Classical.propDecidable _) 1 0) - 1) * ⊤ : EReal)) (e _)
  · intro x
    refine Eq.trans (b := QA x0 x3 (Rect.toLoadRect _ |>.idx x)) ?_ rfl
    rw [read_q]
    idx_vars x
    unfold_payloads
    pointwise
    exact Eq.symm (dif_pos (show ((ix2 x0 ⟨x1.val, by omega⟩ : S2048x128.Idx) 1).val < 64 from x1.isLt))

/-- The extended keys in the scratch. -/
theorem canH10 : View.canon (run1_B.sl.H10_2 (F := Ideal) arg2 harg2 x1) = KA x1 := by
  funext y
  refine View.canon_apply_of_pieces (Val := Elt Ideal) (e := .bf16) (KA x1) _ ?_ y ((show ∀ y : S2048x128.Idx, ∃ p ∈ run1_B.sl.H10_2 (F := Ideal) arg2 harg2 x1, y ∈ p.1.set from View.cover_of_tiledL _ S2048x64.size (by sl_kernel_rfl)) y)
  unfold run1_B.sl.H10_2
  simp only [List.forall_mem_cons, List.not_mem_nil, false_implies, implies_true, and_true]
  refine ⟨?_, ?_⟩
  · intro x
    refine Eq.trans (b := KA x1 (Rect.toLoadRect _ |>.idx x)) ?_ rfl
    idx_vars x
    unfold_payloads
    unfold run1_B.sl.v170 run1_B.sl.v171
    pointwise
    simp only [floor32]
    have e : IntOp.cmpi CmpIPredicate.eq (BitVec.ofNat 32 (x0.val / 32)) (BitVec.ofNat 32 x1.val) = BitVec.ofBool (decide (x0.val / 32 = x1.val)) := by word_cmp
    rw [e, word_true]
    refine Eq.symm (Eq.trans (dif_neg (show ¬ ((ix2 x0 ⟨64 + x1.val, by omega⟩ : S2048x128.Idx) 1).val < 64 from by show ¬ 64 + x1.val < 64; omega)) ?_)
    exact if_congr (by show x0.val / 32 = 64 + x1.val - 64 ↔ _; omega) rfl rfl
  · intro x
    refine Eq.trans (b := KA x1 (Rect.toLoadRect _ |>.idx x)) ?_ rfl
    rw [read_q]
    idx_vars x
    unfold_payloads
    pointwise
    exact Eq.symm (dif_pos (show ((ix2 x0 ⟨x1.val, by omega⟩ : S2048x128.Idx) 1).val < 64 from x1.isLt))

/-- Gate `n` of head `h`. -/
def GT (g : Vec Ideal S2048x48 .f32) (h n : ℕ) (hh : 3 * h + n < 48) : Vec Ideal S2048x1 .f32 := fun y => g (ix2 (y 0) ⟨3 * h + n, hh⟩)

theorem pick_sum (f : Fin 48 → EReal) (k : ℕ) (hk : k < 48) (c : Fin 48 → BitVec 1) (hc : ∀ j, c j = 1#1 ↔ j.val = k) :
    ∑ j : Fin 48, Scalar.select (c j) (f j) 0 = f ⟨k, hk⟩ := by
  refine (Finset.sum_eq_single (⟨k, hk⟩ : Fin 48) ?_ ?_).trans ?_
  · intro j _ hj
    exact (sel_if (hc j) _ _).trans (if_neg fun h => hj (Fin.ext h))
  · intro h; exact absurd (Finset.mem_univ _) h
  · exact (sel_if (hc _) _ _).trans (if_pos rfl)

theorem v254_eq (hi : (i 0).val < 16) : run1_B.sl.v254 (F := Ideal) i arg6 harg6 x5 = GT x5 (i 0).val 0 (by omega) := by
  funext y
  idx_vars y
  simp only [run1_B.sl.v254, run1_B.sl.v253, run1_B.sl.v252, run1_B.sl.v251, run1_B.sl.v250, run1_B.sl.v249, run1_B.sl.v248, run1_B.sl.v247, run1_B.sl.v246, run1_B.sl.v245, run1_B.sl.v244, run1_B.sl.cst_79]
  pointwise [Memref.IsWhole.readAt_unread]
  exact pick_sum _ _ (by omega) _ fun j => gate_words0 _ _ (by omega) (by omega)

theorem v264_eq (hi : (i 0).val < 16) : run1_B.sl.v264 (F := Ideal) i arg6 harg6 x5 = GT x5 (i 0).val 1 (by omega) := by
  funext y
  idx_vars y
  simp only [run1_B.sl.v264, run1_B.sl.v263, run1_B.sl.v262, run1_B.sl.v251, run1_B.sl.v260, run1_B.sl.v259, run1_B.sl.v258, run1_B.sl.v257, run1_B.sl.v256, run1_B.sl.v246, run1_B.sl.v245, run1_B.sl.v244, run1_B.sl.cst_79]
  pointwise [Memref.IsWhole.readAt_unread]
  exact pick_sum _ _ (by omega) _ fun j => gate_words _ _ 1 (by omega) (by omega) (by omega)

theorem r7_eq (hi : (i 0).val < 16) : run1_B.sl.r_7 (F := Ideal) i arg6 harg6 x5 = GT x5 (i 0).val 2 (by omega) := by
  funext y
  idx_vars y
  simp only [run1_B.sl.r_7, run1_B.sl.v268, run1_B.sl.v267, run1_B.sl.v266, run1_B.sl.v246, run1_B.sl.v245, run1_B.sl.v244]
  unfold_payloads
  pointwise [Memref.IsWhole.readAt_unread]
  exact pick_sum _ _ (by omega) _ fun j => gate_words _ _ 2 (by omega) (by omega) (by omega)

set_option maxHeartbeats 2000000 in
theorem v242_eq : run1_B.sl.v242 (F := Ideal) arg1 harg1 arg4 harg4 arg5 harg5 x0 x3 x4 = OUTC x0 x3 x4 := by
  funext y
  idx_vars y
  simp only [run1_B.sl.v242, run1_B.sl.v236, run1_B.sl.v233, run1_B.sl.v235, run1_B.sl.v234, run1_B.sl.v232, run1_B.sl.v231, run1_B.sl.v230, run1_B.sl.v229, run1_B.sl.v228, run1_B.sl.v227, run1_B.sl.v226, run1_B.sl.v225, run1_B.sl.v224, run1_B.sl.v241, run1_B.sl.v239, run1_B.sl.v237, run1_B.sl.v9, run1_B.sl.r, run1_B.sl.cst_78, run1_B.sl.cst_79, run1_B.sl.cst_80, r1_eq, read_c]
  unfold_payloads
  pointwise [Memref.IsWhole.readAt_unread]
  exact (sel_if (sge_words _ 31 (by omega) (by omega)) _ _)

end Blocks

end Cert.KernelIdeal.Gen

end
-- ==== Proof.KernelIdeal.Chunk.lean ====
/- One chunk of a head's rows in the attention call: the kernel's sums over key blocks are sums over all keys. -/
module

public import proofs.«01_k».proof.Proof.KernelIdeal.Head

@[expose] public section

set_option maxRecDepth 16384

noncomputable section

namespace Cert.KernelIdeal.Gen

open Idealize.ShloMosaic Idealize.ShloMosaic.TcCoe Idealize.ShloMosaic.Tactic

/-! ## Sums over a stretch of the keys -/

/-- A sum over a stretch of keys off which the terms vanish is the sum over all keys. -/
theorem sum_stretch (b n : ℕ) (hb : b + n ≤ 2048) (F : Fin 2048 → EReal) (h : ∀ κ : Fin 2048, κ.val < b ∨ b + n ≤ κ.val → F κ = 0) :
    ∑ x : Fin n, F ⟨b + x.val, by omega⟩ = ∑ κ : Fin 2048, F κ := by
  refine Finset.sum_of_injOn (fun x : Fin n => (⟨b + x.val, by omega⟩ : Fin 2048)) ?_ ?_ ?_ ?_
  · intro x _ y _ e
    have := congrArg Fin.val e
    exact Fin.ext (by simpa using this)
  · intro x _; exact Finset.mem_coe.mpr (Finset.mem_univ _)
  · intro κ _ hκ
    refine h κ ?_
    by_contra hc
    exact hκ ⟨⟨κ.val - b, by omega⟩, Finset.mem_coe.mpr (Finset.mem_univ _), Fin.ext (by show b + (κ.val - b) = κ.val; omega)⟩
  · intro x _; rfl

/-- A chunk's own keys and the keys before it. -/
theorem sum_two (a n : ℕ) (ha : a + n ≤ 2048) (F : Fin 2048 → EReal) (h : ∀ κ : Fin 2048, a + n ≤ κ.val → F κ = 0) :
    ∑ x : Fin n, F ⟨a + x.val, by omega⟩ + ∑ x : Fin a, F ⟨x.val, by omega⟩ = ∑ κ : Fin 2048, F κ := by
  rw [← sum_stretch 0 (a + n) (by omega) F (fun κ hκ => h κ (by omega)), add_comm]
  refine Eq.trans ?_ (Fin.sum_univ_add (fun x : Fin (a + n) => F ⟨0 + x.val, by omega⟩)).symm
  refine congrArg₂ (· + ·) (Finset.sum_congr rfl fun x _ => congrArg F (Fin.ext ?_)) (Finset.sum_congr rfl fun x _ => congrArg F (Fin.ext ?_))
  · show x.val = 0 + x.val; omega
  · show a + x.val = 0 + (a + x.val); omega

/-! ## The masks' words -/

theorem add_words (a b : ℕ) : IntOp.addi (BitVec.ofNat 32 a) (BitVec.ofNat 32 b) = BitVec.ofNat 32 (a + b) := (BitVec.ofNat_add _ _).symm

theorem and_words (c d : BitVec 1) (p q : Prop) (hc : c = 1#1 ↔ p) (hd : d = 1#1 ↔ q) : IntOp.andi c d = 1#1 ↔ p ∧ q := by
  rw [← hc, ← hd]
  revert c d
  intro c d hc hd
  clear hc hd
  revert c d
  decide

theorem causal_words (a b x y : ℕ) (hx : a + x < 2048) (hy : b + y < 2048) :
    IntOp.cmpi CmpIPredicate.sle (IntOp.addi (BitVec.ofNat 32 a) (BitVec.ofNat 32 x)) (IntOp.addi (BitVec.ofNat 32 b) (BitVec.ofNat 32 y)) = 1#1 ↔ a + x ≤ b + y := by
  rw [add_words, add_words]
  exact sle_words _ _ (by omega) (by omega)

theorem back_words (a b x y : ℕ) (hx : a + x < 2048) (hy : b + y < 2048) (hb : 64 ≤ b) :
    IntOp.cmpi CmpIPredicate.sgt (IntOp.addi (BitVec.ofNat 32 a) (BitVec.ofNat 32 x)) (IntOp.subi (IntOp.addi (BitVec.ofNat 32 b) (BitVec.ofNat 32 y)) 64#32) = 1#1 ↔ b + y < a + x + 64 := by
  rw [add_words, add_words]
  have e : IntOp.subi (BitVec.ofNat 32 (b + y)) 64#32 = BitVec.ofNat 32 (b + y - 64) := by
    show BitVec.ofNat 32 (b + y) - 64#32 = _
    obtain ⟨d, rfl⟩ := Nat.exists_eq_add_of_le hb
    rw [show 64 + d + y = 64 + (d + y) by omega, BitVec.ofNat_add, show 64 + (d + y) - 64 = d + y by omega, BitVec.add_comm, BitVec.add_sub_cancel]
  rw [e]
  have : IntOp.cmpi CmpIPredicate.sgt (BitVec.ofNat 32 (a + x)) (BitVec.ofNat 32 (b + y - 64)) = 1#1 ↔ b + y - 64 < a + x := by word_cmp
  rw [this]
  omega

theorem back_words0 (x y : Fin 256) :
    IntOp.cmpi CmpIPredicate.sgt (IntOp.addi 0#32 (BitVec.ofNat 32 x.val)) (IntOp.subi (IntOp.addi 0#32 (BitVec.ofNat 32 y.val)) 64#32) = 1#1 ↔ y.val < x.val + 64 := by
  have e1 : ∀ x : Fin 256, (IntOp.addi 0#32 (BitVec.ofNat 32 x.val)).toInt = (x.val : ℤ) := by decide +kernel
  have e2 : ∀ y : Fin 256, (IntOp.subi (IntOp.addi 0#32 (BitVec.ofNat 32 y.val)) 64#32).toInt = (y.val : ℤ) - 64 := by decide +kernel
  have e3 : ∀ a b : BitVec 32, IntOp.cmpi CmpIPredicate.sgt a b = BitVec.ofBool (decide (b.toInt < a.toInt)) := fun _ _ => rfl
  rw [e3, e1, e2]
  by_cases h : (y.val : ℤ) - 64 < x.val
  · rw [decide_eq_true h]; exact ⟨fun _ => by omega, fun _ => rfl⟩
  · rw [decide_eq_false h]; exact ⟨fun h' => absurd h' (by decide), fun h' => absurd h' (by omega)⟩

/-! ## A head's rows -/

/-- The score of a key with the selection's mask. -/
def QK (q k : Vec Ideal S1x2048x64 .bf16) (kc : Vec Ideal S1x64x64 .f32) (s κ : Fin 2048) : EReal := ∑ e : Fin 128, QA q kc (ix2 s e) * KA k (ix2 κ e)
/-- The score of a key. -/
def LOC (q k : Vec Ideal S1x2048x64 .bf16) (s κ : Fin 2048) : EReal := ∑ e : Fin 64, q (ix3 0 s e) * k (ix3 0 κ e)
/-- The selected branch's weighted values. -/
def AVS (q k : Vec Ideal S1x2048x64 .bf16) (ve : Vec Ideal S1x2048x128 .bf16) (kc : Vec Ideal S1x64x64 .f32) (s : Fin 2048) (d : Fin 128) : EReal :=
  ∑ κ : Fin 2048, (if κ.val ≤ s.val then Ideal.exp (QK q k kc s κ) else 0) * ve (ix3 0 κ d)
/-- The window branch's weighted values. -/
def AVW (q k : Vec Ideal S1x2048x64 .bf16) (ve : Vec Ideal S1x2048x128 .bf16) (s : Fin 2048) (d : Fin 128) : EReal :=
  ∑ κ : Fin 2048, (if κ.val ≤ s.val ∧ s.val < κ.val + 64 then Ideal.exp (LOC q k s κ) else 0) * ve (ix3 0 κ d)
/-- A head's result. -/
def HEADV (q k : Vec Ideal S1x2048x64 .bf16) (ve : Vec Ideal S1x2048x128 .bf16) (kc vc : Vec Ideal S1x64x64 .f32) (g : Vec Ideal S2048x48 .f32) (h : ℕ) (hh : h < 16) (s : Fin 2048) (d : Fin 64) : EReal :=
  GT g h 0 (by omega) (ix2 s 0) * OUTC q kc vc (ix2 s d)
    + Ideal.div (GT g h 1 (by omega) (ix2 s 0)) (AVS q k ve kc s 64) * AVS q k ve kc s ⟨d.val, by omega⟩
    + Ideal.div (GT g h 2 (by omega) (ix2 s 0)) (AVW q k ve s 64) * AVW q k ve s ⟨d.val, by omega⟩

section

variable (q k : Vec Ideal S1x2048x64 .bf16) (ve : Vec Ideal S1x2048x128 .bf16) (kc : Vec Ideal S1x64x64 .f32)

theorem exp_sel (c : BitVec 1) (p : Prop) [Decidable p] (h : c = 1#1 ↔ p) (e : EReal) : Ideal.exp (Scalar.select c e (Named.named (F := Ideal) κ "masked" (φ := .f32) 3463342888#32)) = if p then Ideal.exp e else 0 := by
  rw [sel_if h, named_m]
  by_cases hp : p
  · rw [if_pos hp, if_pos hp]
  · rw [if_neg hp, if_neg hp]; rfl

/-- The selected branch's sums of a chunk. -/
theorem avs_chunk (a : ℕ) (ha : a + 256 ≤ 2048) (y : Fin 256) (d : Fin 128) :
    (∑ x : Fin 256, Ideal.exp (Scalar.select (IntOp.cmpi CmpIPredicate.sle (IntOp.addi (BitVec.ofNat 32 a) (BitVec.ofNat 32 x.val)) (IntOp.addi (BitVec.ofNat 32 a) (BitVec.ofNat 32 y.val)))
        (∑ e : Fin 128, QA q kc (ix2 ⟨a + y.val, by omega⟩ e) * KA k (ix2 ⟨a + x.val, by omega⟩ e)) (Named.named (F := Ideal) κ "masked" (φ := .f32) 3463342888#32)) * ve (ix3 0 ⟨a + x.val, by omega⟩ d))
      + ∑ x : Fin a, Ideal.exp (∑ e : Fin 128, QA q kc (ix2 ⟨a + y.val, by omega⟩ e) * KA k (ix2 ⟨x.val, by omega⟩ e)) * ve (ix3 0 ⟨x.val, by omega⟩ d)
    = AVS q k ve kc ⟨a + y.val, by omega⟩ d := by
  unfold AVS
  rw [← sum_two a 256 ha _ fun κ hκ => by rw [if_neg (by show ¬ κ.val ≤ a + y.val; omega), zero_mul]]
  refine congrArg₂ (· + ·) (Finset.sum_congr rfl fun x _ => ?_) (Finset.sum_congr rfl fun x _ => ?_)
  · rw [exp_sel _ _ (causal_words a a x.val y.val (by omega) (by omega))]; rfl
  · rw [if_pos (by show x.val ≤ a + y.val; omega)]; rfl

theorem avs_chunk0 (y : Fin 256) (d : Fin 128) :
    (∑ x : Fin 256, Ideal.exp (Scalar.select (IntOp.cmpi CmpIPredicate.sle (IntOp.addi 0#32 (BitVec.ofNat 32 x.val)) (IntOp.addi 0#32 (BitVec.ofNat 32 y.val)))
        (∑ e : Fin 128, QA q kc (ix2 ⟨y.val, by omega⟩ e) * KA k (ix2 ⟨x.val, by omega⟩ e)) (Named.named (F := Ideal) κ "masked" (φ := .f32) 3463342888#32)) * ve (ix3 0 ⟨x.val, by omega⟩ d))
    = AVS q k ve kc ⟨y.val, by omega⟩ d := by
  unfold AVS
  rw [← sum_stretch 0 256 (by omega) _ fun κ hκ => by rw [if_neg (by show ¬ κ.val ≤ y.val; omega), zero_mul]]
  refine Finset.sum_congr rfl fun x _ => ?_
  rw [exp_sel _ _ (causal_words 0 0 x.val y.val (by omega) (by omega))]
  have e : ∀ h h', (⟨0 + x.val, h⟩ : Fin 2048) = ⟨x.val, h'⟩ := fun _ _ => Fin.ext (Nat.zero_add _)
  rw [e _ (by omega)]
  exact congrArg (· * _) (if_congr (by show 0 + x.val ≤ 0 + y.val ↔ x.val ≤ y.val; omega) rfl rfl)

/-- The window branch's sums of a chunk. -/
theorem avw_chunk (b : ℕ) (ha : b + 320 ≤ 2048) (y : Fin 256) (d : Fin 128) :
    (∑ x : Fin 320, Ideal.exp (Scalar.select (IntOp.andi (IntOp.cmpi CmpIPredicate.sle (IntOp.addi (BitVec.ofNat 32 b) (BitVec.ofNat 32 x.val)) (IntOp.addi (BitVec.ofNat 32 (b + 64)) (BitVec.ofNat 32 y.val)))
          (IntOp.cmpi CmpIPredicate.sgt (IntOp.addi (BitVec.ofNat 32 b) (BitVec.ofNat 32 x.val)) (IntOp.subi (IntOp.addi (BitVec.ofNat 32 (b + 64)) (BitVec.ofNat 32 y.val)) 64#32)))
        (∑ e : Fin 64, q (ix3 0 ⟨b + 64 + y.val, by omega⟩ e) * k (ix3 0 ⟨b + x.val, by omega⟩ e)) (Named.named (F := Ideal) κ "masked" (φ := .f32) 3463342888#32)) * ve (ix3 0 ⟨b + x.val, by omega⟩ d))
    = AVW q k ve ⟨b + 64 + y.val, by omega⟩ d := by
  unfold AVW
  rw [← sum_stretch b 320 ha _ fun κ hκ => by rw [if_neg (by show ¬ (κ.val ≤ b + 64 + y.val ∧ b + 64 + y.val < κ.val + 64); omega), zero_mul]]
  refine Finset.sum_congr rfl fun x _ => ?_
  rw [exp_sel _ _ (and_words _ _ _ _ (causal_words b (b + 64) x.val y.val (by omega) (by omega)) (back_words b (b + 64) x.val y.val (by omega) (by omega) (by omega)))]
  rfl

theorem avw_chunk0 (y : Fin 256) (d : Fin 128) :
    (∑ x : Fin 256, Ideal.exp (Scalar.select (IntOp.andi (IntOp.cmpi CmpIPredicate.sle (IntOp.addi 0#32 (BitVec.ofNat 32 x.val)) (IntOp.addi 0#32 (BitVec.ofNat 32 y.val)))
          (IntOp.cmpi CmpIPredicate.sgt (IntOp.addi 0#32 (BitVec.ofNat 32 x.val)) (IntOp.subi (IntOp.addi 0#32 (BitVec.ofNat 32 y.val)) 64#32)))
        (∑ e : Fin 64, q (ix3 0 ⟨y.val, by omega⟩ e) * k (ix3 0 ⟨x.val, by omega⟩ e)) (Named.named (F := Ideal) κ "masked" (φ := .f32) 3463342888#32)) * ve (ix3 0 ⟨x.val, by omega⟩ d))
    = AVW q k ve ⟨y.val, by omega⟩ d := by
  unfold AVW
  rw [← sum_stretch 0 256 (by omega) _ fun κ hκ => by rw [if_neg (by show ¬ (κ.val ≤ y.val ∧ y.val < κ.val + 64); omega), zero_mul]]
  refine Finset.sum_congr rfl fun x _ => ?_
  rw [exp_sel _ _ (and_words _ _ _ _ (causal_words 0 0 x.val y.val (by omega) (by omega)) (back_words0 x y))]
  have e : ∀ h h', (⟨0 + x.val, h⟩ : Fin 2048) = ⟨x.val, h'⟩ := fun _ _ => Fin.ext (Nat.zero_add _)
  rw [e _ (by omega)]
  exact congrArg (· * _) (if_congr (by show 0 + x.val ≤ 0 + y.val ∧ _ ↔ x.val ≤ y.val ∧ y.val < x.val + 64; omega) rfl rfl)

end

/-- Three gated branches agree when their parts do. -/
theorem headv_of {g0 oc g1 a a' g2 w w' A A' W W' : EReal} (h1 : a = A) (h2 : a' = A') (h3 : w = W) (h4 : w' = W') :
    g0 * oc + Ideal.div g1 a * a' + Ideal.div g2 w * w' = g0 * oc + Ideal.div g1 A * A' + Ideal.div g2 W * W' := by rw [h1, h2, h3, h4]

end Cert.KernelIdeal.Gen

end
-- ==== Proof.KernelIdeal.Heads.lean ====
/- The attention call's heads: what the scratch of the heads' results holds. -/
module

public import proofs.«01_k».proof.Proof.KernelIdeal.Chunk

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- The results of every head as the attention call computes them, from the blocks that head `t` sees. -/
def HV (c : Dev nD) (t : Fin cfg1.N) (ht : t.val < 16) (s : Fin 2048) (d : Fin 64) : EReal :=
  HEADV (iblk1 V c 0 t) (iblk1 V c 1 t) (iblk1 V c 2 t) (iblk1 V c 3 t) (iblk1 V c 4 t) (iblk1 V c 5 t) t.val ht s d

theorem gt_coords {g : Vec Ideal S2048x48 .f32} {n n' m : ℕ} {hn hn'} (e : n = n') : GT g n m hn = GT g n' m hn' := by subst e; rfl

theorem idx_piece {o : Fin 3 → ℕ} {t a : ℕ} (e : o = ![t, a, 0]) (inb : ∀ i, o i + S1x256x64.size i ≤ S16x2048x64.size i) (x0 : Fin 1) (x1 : Fin 256) (x2 : Fin 64) (h1 : a + x1.val < 2048) :
    (Rect.unit (s := S16x2048x64) o S1x256x64.size inb).toLoadRect.idx (ix3 x0 x1 x2) 1 = ⟨a + x1.val, h1⟩ ∧ (Rect.unit (s := S16x2048x64) o S1x256x64.size inb).toLoadRect.idx (ix3 x0 x1 x2) 2 = x2 := by
  subst e
  exact ⟨Fin.ext (by simp [Rect.toLoadRect, LoadRect.idx, Rect.unit]), Fin.ext (by simp [Rect.toLoadRect, LoadRect.idx, Rect.unit])⟩

/-- A head's rows after its point. -/
def GG (c : Dev nD) (t : Fin cfg1.N) (ht : t.val < 16) : Vec Ideal S16x2048x64 .bf16 := fun y => HV V c t ht (y 1) (y 2)

theorem gg_piece (c : Dev nD) (t : Fin cfg1.N) (ht : t.val < 16) {o : Fin 3 → ℕ} {a : ℕ} (e : o = ![t.val, a, 0]) (inb : ∀ i, o i + S1x256x64.size i ≤ S16x2048x64.size i) (x0 : Fin 1) (x1 : Fin 256) (x2 : Fin 64) (h1 : a + x1.val < 2048) :
    GG V c t ht ((Rect.unit (s := S16x2048x64) o S1x256x64.size inb).toLoadRect.idx (ix3 x0 x1 x2)) = HV V c t ht ⟨a + x1.val, h1⟩ x2 := by
  unfold GG
  obtain ⟨e1, e2⟩ := idx_piece e inb x0 x1 x2 h1
  exact congrArg₂ (HV V c t ht) e1 e2

theorem gg_piece0 (c : Dev nD) (t : Fin cfg1.N) (ht : t.val < 16) {o : Fin 3 → ℕ} (e : o = ![t.val, 0, 0]) (inb : ∀ i, o i + S1x256x64.size i ≤ S16x2048x64.size i) (x0 : Fin 1) (x1 : Fin 256) (x2 : Fin 64) :
    GG V c t ht ((Rect.unit (s := S16x2048x64) o S1x256x64.size inb).toLoadRect.idx (ix3 x0 x1 x2)) = HV V c t ht ⟨x1.val, by omega⟩ x2 := by
  rw [gg_piece V c t ht e inb x0 x1 x2 (by omega)]
  exact congrArg (HV V c t ht · x2) (Fin.ext (Nat.zero_add _))

section First

variable (i : grid1.Coords)
  (arg1 : Memref sig .tc .vmem S1x2048x64 .bf16) (harg1 : arg1.IsWhole) (arg2 : Memref sig .tc .vmem S1x2048x64 .bf16) (harg2 : arg2.IsWhole)
  (arg4 : Memref sig .tc .vmem S1x64x64 .f32) (harg4 : arg4.IsWhole) (arg5 : Memref sig .tc .vmem S1x64x64 .f32) (harg5 : arg5.IsWhole)
  (arg6 : Memref sig .tc .vmem S2048x48 .f32) (harg6 : arg6.IsWhole)
  (x0 x1 : Vec Ideal S1x2048x64 .bf16) (x3 x4 : Vec Ideal S1x64x64 .f32) (x5 : Vec Ideal S2048x48 .f32)

/-! The first point's intermediate values are the later points'. -/

theorem canH9_A : View.canon (run1_A.sl.H9_2 (F := Ideal) arg1 harg1 arg4 harg4 x0 x3) = QA x0 x3 := canH9 arg1 harg1 arg4 harg4 x0 x3
theorem canH10_A : View.canon (run1_A.sl.H10_2 (F := Ideal) arg2 harg2 x1) = KA x1 := canH10 arg2 harg2 x1
theorem v242_eq_A : run1_A.sl.v242 (F := Ideal) arg1 harg1 arg4 harg4 arg5 harg5 x0 x3 x4 = OUTC x0 x3 x4 := v242_eq arg1 harg1 arg4 harg4 arg5 harg5 x0 x3 x4
theorem v254_eq_A (hi : (i 0).val < 16) : run1_A.sl.v254 (F := Ideal) i arg6 harg6 x5 = GT x5 (i 0).val 0 (by omega) := v254_eq i arg6 harg6 x5 hi
theorem v264_eq_A (hi : (i 0).val < 16) : run1_A.sl.v264 (F := Ideal) i arg6 harg6 x5 = GT x5 (i 0).val 1 (by omega) := v264_eq i arg6 harg6 x5 hi
theorem r7_eq_A (hi : (i 0).val < 16) : run1_A.sl.r_7 (F := Ideal) i arg6 harg6 x5 = GT x5 (i 0).val 2 (by omega) := r7_eq i arg6 harg6 x5 hi

end First

set_option maxHeartbeats 4000000 in
/-- Every piece that a head's point writes is the head's result there. -/
theorem pieces_oh (c : Dev nD) (t : Fin cfg1.N) (h2 : t.val < 16) : ∀ p ∈ Loh V c t, ∀ x, p.2 x = GG V c t h2 (p.1.emb x) := by
  have e0 : (grid1.coords t 0).val = t.val := by
    have e0 : (grid1.coords t 0).val = t.val / 1 % 24 := Pipeline.Grid.coords_val t 0 (by decide) rfl
    omega
  have hi : (grid1.coords t 0).val < 16 := by omega
  by_cases h : t.val = 0
  on_goal 1 => rw [Loh_A V c t h]; unfold at1_A run1_A
  on_goal 2 => rw [Loh_B V c t h h2]; unfold at1_B run1_B
  all_goals
    dsimp only
    simp only [List.forall_mem_cons, List.not_mem_nil, false_implies, implies_true, and_true]
  repeat' apply And.intro
  all_goals
    intro x
    simp only [run1_A.sl.cst_198, run1_A.sl.cst_78, run1_A.sl.cst_79, run1_A.sl.cst_80, run1_A.sl.cst_86, run1_A.sl.r_10, run1_A.sl.r_11, run1_A.sl.r_12, run1_A.sl.r_13, run1_A.sl.r_14, run1_A.sl.r_15, run1_A.sl.r_16, run1_A.sl.r_17, run1_A.sl.r_18, run1_A.sl.r_19, run1_A.sl.r_20, run1_A.sl.r_21, run1_A.sl.r_22, run1_A.sl.r_23, run1_A.sl.r_24, run1_A.sl.r_25, run1_A.sl.r_26, run1_A.sl.r_27, run1_A.sl.r_28, run1_A.sl.r_29, run1_A.sl.r_30, run1_A.sl.r_31, run1_A.sl.r_32, run1_A.sl.r_33, run1_A.sl.r_34, run1_A.sl.r_35, run1_A.sl.r_36, run1_A.sl.r_37, run1_A.sl.r_38, run1_A.sl.r_39, run1_A.sl.r_40, run1_A.sl.r_41, run1_A.sl.r_8, run1_A.sl.r_9, run1_A.sl.v275, run1_A.sl.v276, run1_A.sl.v283, run1_A.sl.v284, run1_A.sl.v346, run1_A.sl.v347, run1_A.sl.v417, run1_A.sl.v418, run1_A.sl.v488, run1_A.sl.v489, run1_A.sl.v559, run1_A.sl.v560, run1_A.sl.v630, run1_A.sl.v631, run1_A.sl.v701, run1_A.sl.v702, run1_A.sl.v795, run1_B.sl.cst_198, run1_B.sl.cst_78, run1_B.sl.cst_79, run1_B.sl.cst_80, run1_B.sl.cst_86, run1_B.sl.r_10, run1_B.sl.r_11, run1_B.sl.r_12, run1_B.sl.r_13, run1_B.sl.r_14, run1_B.sl.r_15, run1_B.sl.r_16, run1_B.sl.r_17, run1_B.sl.r_18, run1_B.sl.r_19, run1_B.sl.r_20, run1_B.sl.r_21, run1_B.sl.r_22, run1_B.sl.r_23, run1_B.sl.r_24, run1_B.sl.r_25, run1_B.sl.r_26, run1_B.sl.r_27, run1_B.sl.r_28, run1_B.sl.r_29, run1_B.sl.r_30, run1_B.sl.r_31, run1_B.sl.r_32, run1_B.sl.r_33, run1_B.sl.r_34, run1_B.sl.r_35, run1_B.sl.r_36, run1_B.sl.r_37, run1_B.sl.r_38, run1_B.sl.r_39, run1_B.sl.r_40, run1_B.sl.r_41, run1_B.sl.r_8, run1_B.sl.r_9, run1_B.sl.v275, run1_B.sl.v276, run1_B.sl.v283, run1_B.sl.v284, run1_B.sl.v346, run1_B.sl.v347, run1_B.sl.v417, run1_B.sl.v418, run1_B.sl.v488, run1_B.sl.v489, run1_B.sl.v559, run1_B.sl.v560, run1_B.sl.v630, run1_B.sl.v631, run1_B.sl.v701, run1_B.sl.v702, run1_B.sl.v795, View.readCov_eq_canon', canH9, canH10, v242_eq, v254_eq _ _ _ _ hi, v264_eq _ _ _ _ hi, r7_eq _ _ _ _ hi, canH9_A, canH10_A, v242_eq_A, v254_eq_A _ _ _ _ hi, v264_eq_A _ _ _ _ hi, r7_eq_A _ _ _ _ hi]
    rw [gt_coords (hn' := by omega) e0, gt_coords (hn' := by omega) e0, gt_coords (hn' := by omega) e0]
    refine Eq.trans (b := GG V c t h2 (Rect.toLoadRect _ |>.idx x)) ?_ rfl
    idx_vars x
    first
    | rw [gg_piece V c t h2 (off24 t) _ _ _ _ (by omega)]
    | rw [gg_piece V c t h2 (off23 t) _ _ _ _ (by omega)]
    | rw [gg_piece V c t h2 (off22 t) _ _ _ _ (by omega)]
    | rw [gg_piece V c t h2 (off21 t) _ _ _ _ (by omega)]
    | rw [gg_piece V c t h2 (off20 t) _ _ _ _ (by omega)]
    | rw [gg_piece V c t h2 (off19 t) _ _ _ _ (by omega)]
    | rw [gg_piece V c t h2 (off18 t) _ _ _ _ (by omega)]
    | rw [gg_piece0 V c t h2 (off17 t) _ _ _ _]
    generalize eR : HV V c t h2 _ _ = RHS
    unfold_payloads
    pointwise [Memref.IsWhole.readAt_unread]
    rw [← eR]
    unfold HV HEADV
    first
    | exact headv_of (avs_chunk _ _ _ _ _ (by omega) x1 _) (avs_chunk _ _ _ _ _ (by omega) x1 _) (avw_chunk _ _ _ _ (by omega) x1 _) (avw_chunk _ _ _ _ (by omega) x1 _)
    | exact headv_of (avs_chunk0 _ _ _ _ x1 _) (avs_chunk0 _ _ _ _ x1 _) (avw_chunk0 _ _ _ x1 _) (avw_chunk0 _ _ _ x1 _)

/-- The scratch of the heads' results. -/
theorem OH_eq (c : Dev nD) (y : S16x2048x64.Idx) : OH V c y = HV V c (hpt y) (y 0).isLt (y 1) (y 2) := by
  unfold OH
  exact View.canon_apply_of_pieces (Val := Elt Ideal) (e := .bf16) (GG V c (hpt y) (y 0).isLt) _ (pieces_oh V c (hpt y) (y 0).isLt) y ((Loh_fills V c (hpt y) (y 0).isLt).2 y rfl)

end Cert.KernelIdeal.Gen

end
-- ==== Proof.KernelIdeal.Arrays1.lean ====
/- The attention call: what its result holds. -/
module

public import proofs.«01_k».proof.Proof.KernelIdeal.Heads

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-! ## The final product of a chunk -/

theorem off1 : ∀ t : Fin cfg1.N, k1_off1 (grid1.coords t) = ![0, if 16 ≤ t.val then 256 * (t.val - 16) else (k1_off1 (grid1.coords t)) 1, 0] :=
  (by decide +kernel : ∀ t : Fin grid1.N, k1_off1 (grid1.coords t) = ![0, if 16 ≤ t.val then 256 * (t.val - 16) else (k1_off1 (grid1.coords t)) 1, 0])
theorem off2 : ∀ t : Fin cfg1.N, k1_off2 (grid1.coords t) = ![1, if 16 ≤ t.val then 256 * (t.val - 16) else (k1_off2 (grid1.coords t)) 1, 0] :=
  (by decide +kernel : ∀ t : Fin grid1.N, k1_off2 (grid1.coords t) = ![1, if 16 ≤ t.val then 256 * (t.val - 16) else (k1_off2 (grid1.coords t)) 1, 0])
theorem off3 : ∀ t : Fin cfg1.N, k1_off3 (grid1.coords t) = ![2, if 16 ≤ t.val then 256 * (t.val - 16) else (k1_off3 (grid1.coords t)) 1, 0] :=
  (by decide +kernel : ∀ t : Fin grid1.N, k1_off3 (grid1.coords t) = ![2, if 16 ≤ t.val then 256 * (t.val - 16) else (k1_off3 (grid1.coords t)) 1, 0])
theorem off4 : ∀ t : Fin cfg1.N, k1_off4 (grid1.coords t) = ![3, if 16 ≤ t.val then 256 * (t.val - 16) else (k1_off4 (grid1.coords t)) 1, 0] :=
  (by decide +kernel : ∀ t : Fin grid1.N, k1_off4 (grid1.coords t) = ![3, if 16 ≤ t.val then 256 * (t.val - 16) else (k1_off4 (grid1.coords t)) 1, 0])
theorem off5 : ∀ t : Fin cfg1.N, k1_off5 (grid1.coords t) = ![4, if 16 ≤ t.val then 256 * (t.val - 16) else (k1_off5 (grid1.coords t)) 1, 0] :=
  (by decide +kernel : ∀ t : Fin grid1.N, k1_off5 (grid1.coords t) = ![4, if 16 ≤ t.val then 256 * (t.val - 16) else (k1_off5 (grid1.coords t)) 1, 0])
theorem off6 : ∀ t : Fin cfg1.N, k1_off6 (grid1.coords t) = ![5, if 16 ≤ t.val then 256 * (t.val - 16) else (k1_off6 (grid1.coords t)) 1, 0] :=
  (by decide +kernel : ∀ t : Fin grid1.N, k1_off6 (grid1.coords t) = ![5, if 16 ≤ t.val then 256 * (t.val - 16) else (k1_off6 (grid1.coords t)) 1, 0])
theorem off7 : ∀ t : Fin cfg1.N, k1_off7 (grid1.coords t) = ![6, if 16 ≤ t.val then 256 * (t.val - 16) else (k1_off7 (grid1.coords t)) 1, 0] :=
  (by decide +kernel : ∀ t : Fin grid1.N, k1_off7 (grid1.coords t) = ![6, if 16 ≤ t.val then 256 * (t.val - 16) else (k1_off7 (grid1.coords t)) 1, 0])
theorem off8 : ∀ t : Fin cfg1.N, k1_off8 (grid1.coords t) = ![7, if 16 ≤ t.val then 256 * (t.val - 16) else (k1_off8 (grid1.coords t)) 1, 0] :=
  (by decide +kernel : ∀ t : Fin grid1.N, k1_off8 (grid1.coords t) = ![7, if 16 ≤ t.val then 256 * (t.val - 16) else (k1_off8 (grid1.coords t)) 1, 0])
theorem off9 : ∀ t : Fin cfg1.N, k1_off9 (grid1.coords t) = ![8, if 16 ≤ t.val then 256 * (t.val - 16) else (k1_off9 (grid1.coords t)) 1, 0] :=
  (by decide +kernel : ∀ t : Fin grid1.N, k1_off9 (grid1.coords t) = ![8, if 16 ≤ t.val then 256 * (t.val - 16) else (k1_off9 (grid1.coords t)) 1, 0])
theorem off10 : ∀ t : Fin cfg1.N, k1_off10 (grid1.coords t) = ![9, if 16 ≤ t.val then 256 * (t.val - 16) else (k1_off10 (grid1.coords t)) 1, 0] :=
  (by decide +kernel : ∀ t : Fin grid1.N, k1_off10 (grid1.coords t) = ![9, if 16 ≤ t.val then 256 * (t.val - 16) else (k1_off10 (grid1.coords t)) 1, 0])
theorem off11 : ∀ t : Fin cfg1.N, k1_off11 (grid1.coords t) = ![10, if 16 ≤ t.val then 256 * (t.val - 16) else (k1_off11 (grid1.coords t)) 1, 0] :=
  (by decide +kernel : ∀ t : Fin grid1.N, k1_off11 (grid1.coords t) = ![10, if 16 ≤ t.val then 256 * (t.val - 16) else (k1_off11 (grid1.coords t)) 1, 0])
theorem off12 : ∀ t : Fin cfg1.N, k1_off12 (grid1.coords t) = ![11, if 16 ≤ t.val then 256 * (t.val - 16) else (k1_off12 (grid1.coords t)) 1, 0] :=
  (by decide +kernel : ∀ t : Fin grid1.N, k1_off12 (grid1.coords t) = ![11, if 16 ≤ t.val then 256 * (t.val - 16) else (k1_off12 (grid1.coords t)) 1, 0])
theorem off13 : ∀ t : Fin cfg1.N, k1_off13 (grid1.coords t) = ![12, if 16 ≤ t.val then 256 * (t.val - 16) else (k1_off13 (grid1.coords t)) 1, 0] :=
  (by decide +kernel : ∀ t : Fin grid1.N, k1_off13 (grid1.coords t) = ![12, if 16 ≤ t.val then 256 * (t.val - 16) else (k1_off13 (grid1.coords t)) 1, 0])
theorem off14 : ∀ t : Fin cfg1.N, k1_off14 (grid1.coords t) = ![13, if 16 ≤ t.val then 256 * (t.val - 16) else (k1_off14 (grid1.coords t)) 1, 0] :=
  (by decide +kernel : ∀ t : Fin grid1.N, k1_off14 (grid1.coords t) = ![13, if 16 ≤ t.val then 256 * (t.val - 16) else (k1_off14 (grid1.coords t)) 1, 0])
theorem off15 : ∀ t : Fin cfg1.N, k1_off15 (grid1.coords t) = ![14, if 16 ≤ t.val then 256 * (t.val - 16) else (k1_off15 (grid1.coords t)) 1, 0] :=
  (by decide +kernel : ∀ t : Fin grid1.N, k1_off15 (grid1.coords t) = ![14, if 16 ≤ t.val then 256 * (t.val - 16) else (k1_off15 (grid1.coords t)) 1, 0])
theorem off16 : ∀ t : Fin cfg1.N, k1_off16 (grid1.coords t) = ![15, if 16 ≤ t.val then 256 * (t.val - 16) else (k1_off16 (grid1.coords t)) 1, 0] :=
  (by decide +kernel : ∀ t : Fin grid1.N, k1_off16 (grid1.coords t) = ![15, if 16 ≤ t.val then 256 * (t.val - 16) else (k1_off16 (grid1.coords t)) 1, 0])

/-- The chunk's rows of all heads' results, side by side. -/
def CAT (X : Vec Ideal S16x2048x64 .bf16) (a : ℕ) (ha : a + 256 ≤ 2048) : Vec Ideal S256x1024 .bf16 :=
  fun y => X (ix3 ⟨(y 1).val / 64, by have h : (y 1).val < 1024 := (y 1).isLt; omega⟩ ⟨a + (y 0).val, by have h : (y 0).val < 256 := (y 0).isLt; omega⟩ ⟨(y 1).val % 64, by omega⟩)

theorem cat_piece (X : Vec Ideal S16x2048x64 .bf16) (t a : ℕ) (ht : 16 ≤ t) (ea : a = 256 * (t - 16)) (ha : a + 256 ≤ 2048) {o : Fin 3 → ℕ} (j n : ℕ) (hj : j < 16) (e : o = ![j, if 16 ≤ t then 256 * (t - 16) else n, 0])
    (x0 : Fin 256) (x1 : Fin 64) (k : Fin 1024) (hk : k.val = 64 * j + x1.val) (h0 h1 h2) :
    X (ix3 ⟨o 0, h0⟩ ⟨o 1 + x0.val, h1⟩ ⟨o 2 + x1.val, h2⟩) = CAT X a ha (ix2 x0 k) := by
  rw [if_pos ht, ← ea] at e
  subst e
  refine congrArg X (congr (congrArg₂ ix3 (Fin.ext ?_) (Fin.ext ?_)) (Fin.ext ?_))
  · show j = k.val / 64; omega
  · show a + x0.val = a + x0.val; rfl
  · show 0 + x1.val = k.val % 64; omega

set_option maxHeartbeats 2000000 in
theorem canH12_C (t : Fin cfg1.N) (ht : 16 ≤ t.val) (arg11 : Memref sig .tc .vmem S16x2048x64 .bf16) (harg11 : arg11.IsWhole) (hc1) (X : Vec Ideal S16x2048x64 .bf16) (ha : 256 * (t.val - 16) + 256 ≤ 2048) :
    View.canon (run1_C.sl.H12_16 (grid1.coords t) arg11 harg11 hc1 X) = CAT X (256 * (t.val - 16)) ha := by
  funext y
  refine View.canon_apply_of_pieces (Val := Elt Ideal) (e := .bf16) (CAT X _ ha) _ ?_ y ((show ∀ y : S256x1024.Idx, ∃ p ∈ run1_C.sl.H12_16 (grid1.coords t) arg11 harg11 hc1 X, y ∈ p.1.set from View.cover_of_tiledL _ S256x64.size (by sl_kernel_rfl)) y)
  unfold run1_C.sl.H12_16 run1_C.sl.r_1 run1_C.sl.r
  simp only [List.forall_mem_cons, List.not_mem_nil, false_implies, implies_true, and_true]
  repeat' apply And.intro
  all_goals
    intro x
    refine Eq.trans (b := CAT X _ ha (Rect.toLoadRect _ |>.idx x)) ?_ rfl
    idx_vars x
    unfold_payloads
    pointwise [Memref.IsWhole.readAt_unread]
  · exact cat_piece X t.val _ ht rfl ha 15 _ (by omega) (off16 t) x0 x1 _ (by first | rfl | exact (Nat.zero_add _).symm) _ _ _
  · exact cat_piece X t.val _ ht rfl ha 14 _ (by omega) (off15 t) x0 x1 _ (by first | rfl | exact (Nat.zero_add _).symm) _ _ _
  · exact cat_piece X t.val _ ht rfl ha 13 _ (by omega) (off14 t) x0 x1 _ (by first | rfl | exact (Nat.zero_add _).symm) _ _ _
  · exact cat_piece X t.val _ ht rfl ha 12 _ (by omega) (off13 t) x0 x1 _ (by first | rfl | exact (Nat.zero_add _).symm) _ _ _
  · exact cat_piece X t.val _ ht rfl ha 11 _ (by omega) (off12 t) x0 x1 _ (by first | rfl | exact (Nat.zero_add _).symm) _ _ _
  · exact cat_piece X t.val _ ht rfl ha 10 _ (by omega) (off11 t) x0 x1 _ (by first | rfl | exact (Nat.zero_add _).symm) _ _ _
  · exact cat_piece X t.val _ ht rfl ha 9 _ (by omega) (off10 t) x0 x1 _ (by first | rfl | exact (Nat.zero_add _).symm) _ _ _
  · exact cat_piece X t.val _ ht rfl ha 8 _ (by omega) (off9 t) x0 x1 _ (by first | rfl | exact (Nat.zero_add _).symm) _ _ _
  · exact cat_piece X t.val _ ht rfl ha 7 _ (by omega) (off8 t) x0 x1 _ (by first | rfl | exact (Nat.zero_add _).symm) _ _ _
  · exact cat_piece X t.val _ ht rfl ha 6 _ (by omega) (off7 t) x0 x1 _ (by first | rfl | exact (Nat.zero_add _).symm) _ _ _
  · exact cat_piece X t.val _ ht rfl ha 5 _ (by omega) (off6 t) x0 x1 _ (by first | rfl | exact (Nat.zero_add _).symm) _ _ _
  · exact cat_piece X t.val _ ht rfl ha 4 _ (by omega) (off5 t) x0 x1 _ (by first | rfl | exact (Nat.zero_add _).symm) _ _ _
  · exact cat_piece X t.val _ ht rfl ha 3 _ (by omega) (off4 t) x0 x1 _ (by first | rfl | exact (Nat.zero_add _).symm) _ _ _
  · exact cat_piece X t.val _ ht rfl ha 2 _ (by omega) (off3 t) x0 x1 _ (by first | rfl | exact (Nat.zero_add _).symm) _ _ _
  · exact cat_piece X t.val _ ht rfl ha 1 _ (by omega) (off2 t) x0 x1 _ (by first | rfl | exact (Nat.zero_add _).symm) _ _ _
  · exact cat_piece X t.val _ ht rfl ha 0 _ (by omega) (off1 t) x0 x1 _ (by first | rfl | exact (Nat.zero_add _).symm) _ _ _

/-- The result's window after a chunk's point. -/
theorem canonC (c : Dev nD) (t : Fin cfg1.N) (ht : 16 ≤ t.val) (X : Vec Ideal S16x2048x64 .bf16) (B : Vec Ideal S1024x1024 .bf16) (ha : 256 * (t.val - 16) + 256 ≤ 2048) :
    View.canon (at1_C c t ht X B).1 = fun y => ∑ e : Fin 1024, CAT X (256 * (t.val - 16)) ha (ix2 (y 0) e) * B (ix2 e (y 1)) := by
  funext y
  refine View.canon_apply_of_pieces (Val := Elt Ideal) (e := .f32) (fun y => ∑ e : Fin 1024, CAT X (256 * (t.val - 16)) ha (ix2 (y 0) e) * B (ix2 e (y 1))) _ ?_ y (cover1_C c t ht X B y)
  unfold at1_C run1_C
  dsimp only
  simp only [List.forall_mem_cons, List.not_mem_nil, false_implies, implies_true, and_true]
  intro x
  refine Eq.trans (b := (fun y : S256x1024.Idx => ∑ e : Fin 1024, CAT X (256 * (t.val - 16)) ha (ix2 (y 0) e) * B (ix2 e (y 1))) (Rect.toLoadRect _ |>.idx x)) ?_ rfl
  simp only [run1_C.sl.v108, View.readCov_eq_canon', canH12_C t ht _ _ _ _ ha]
  idx_vars x
  unfold_payloads
  pointwise
  refine Finset.sum_congr rfl fun e _ => congrArg (CAT X (256 * (t.val - 16)) ha (ix2 x0 e) * ·) ?_
  refine (Memref.IsWhole.readAt_unread hsc1_4 B _ _).trans (congrArg B ?_)
  pointwise

/-! ## The windows' blocks -/

theorem idx1_0 : ∀ t : Fin cfg1.N, win1_0.index t = ![min t.val 15, 0, 0] := (by decide +kernel : ∀ t : Fin grid1.N, _)
theorem idx1_1 : ∀ t : Fin cfg1.N, win1_1.index t = ![min t.val 15, 0, 0] := (by decide +kernel : ∀ t : Fin grid1.N, _)
theorem idx1_2 : ∀ t : Fin cfg1.N, win1_2.index t = ![min t.val 15, 0, 0] := (by decide +kernel : ∀ t : Fin grid1.N, _)
theorem idx1_3 : ∀ t : Fin cfg1.N, win1_3.index t = ![min t.val 15, 0, 0] := (by decide +kernel : ∀ t : Fin grid1.N, _)
theorem idx1_4 : ∀ t : Fin cfg1.N, win1_4.index t = ![min t.val 15, 0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![t.val - 16, 0] := (by decide +kernel : ∀ t : Fin grid1.N, _)

/-- Head `h` of an array of queries or keys. -/
def hq (A : Vec Ideal S16x2048x64 .bf16) (h : Fin 16) : Vec Ideal S1x2048x64 .bf16 := fun j => A (ix3 h (j 1) (j 2))
/-- Head `h` of the extended values. -/
def hv (A : Vec Ideal S16x2048x128 .bf16) (h : Fin 16) : Vec Ideal S1x2048x128 .bf16 := fun j => A (ix3 h (j 1) (j 2))
/-- Head `h` of an array of block means. -/
def hc (A : Vec Ideal S16x64x64 .f32) (h : Fin 16) : Vec Ideal S1x64x64 .f32 := fun j => A (ix3 h (j 1) (j 2))

theorem blk1_0 (c : Dev nD) (t : Fin cfg1.N) (h : Fin 16) (e : t.val = h.val) : iblk1 V c 0 t = hq (V c main_v1_0) h := by
  funext j
  blk_simp [iblk1]
  refine congrArg (V c main_v1_0) ?_
  blk_ext [idx1_0]
theorem blk1_1 (c : Dev nD) (t : Fin cfg1.N) (h : Fin 16) (e : t.val = h.val) : iblk1 V c 1 t = hq (V c main_v1_1) h := by
  funext j
  blk_simp [iblk1]
  refine congrArg (V c main_v1_1) ?_
  blk_ext [idx1_1]
theorem blk1_2 (c : Dev nD) (t : Fin cfg1.N) (h : Fin 16) (e : t.val = h.val) : iblk1 V c 2 t = hv (V c main_v1_2) h := by
  funext j
  blk_simp [iblk1]
  refine congrArg (V c main_v1_2) ?_
  blk_ext [idx1_2]
theorem blk1_3 (c : Dev nD) (t : Fin cfg1.N) (h : Fin 16) (e : t.val = h.val) : iblk1 V c 3 t = hc (V c main_v1_3) h := by
  funext j
  blk_simp [iblk1]
  refine congrArg (V c main_v1_3) ?_
  blk_ext [idx1_3]
theorem blk1_4 (c : Dev nD) (t : Fin cfg1.N) (h : Fin 16) (e : t.val = h.val) : iblk1 V c 4 t = hc (V c main_v1_4) h := by
  funext j
  blk_simp [iblk1]
  refine congrArg (V c main_v1_4) ?_
  blk_ext [idx1_4]
theorem blk1_5 (c : Dev nD) (t : Fin cfg1.N) : iblk1 V c 5 t = V c main_v1_5 := by
  funext j
  blk_simp [iblk1]
  refine congrArg (V c main_v1_5) ?_
  blk_ext [idx1_5]
theorem blk1_6 (c : Dev nD) (t : Fin cfg1.N) : iblk1 V c 6 t = V c main_arg5 := by
  funext j
  blk_simp [iblk1]
  refine congrArg (V c main_arg5) ?_
  blk_ext [idx1_6]

/-- The cast of the output weights is themselves. -/
theorem WB_eq (c : Dev nD) : WB V c = V c main_arg5 := by
  funext y
  unfold WB
  rw [← blk1_6 V c z1]
  refine View.canon_apply_of_pieces (Val := Elt Ideal) (e := .bf16) (iblk1 V c 6 z1) _ ?_ y (cover1_A V c z1 z1_val y)
  unfold at1_A run1_A
  dsimp only
  simp only [List.forall_mem_cons, List.not_mem_nil, false_implies, implies_true, and_true]
  intro x
  refine Eq.trans (b := iblk1 V c 6 z1 (Rect.toLoadRect _ |>.idx x)) ?_ rfl
  idx_vars x
  unfold_payloads
  pointwise [Memref.IsWhole.readAt_unread]

/-! ## The result -/

/-- The result from the first call's arrays. -/
def OUTV (q k : Vec Ideal S16x2048x64 .bf16) (ve : Vec Ideal S16x2048x128 .bf16) (kc vc : Vec Ideal S16x64x64 .f32) (g : Vec Ideal S2048x48 .f32) (wo : Vec Ideal S1024x1024 .f32) : Vec Ideal S2048x1024 .f32 :=
  fun y => ∑ e : Fin 1024, HEADV (hq q ⟨e.val / 64, by omega⟩) (hq k ⟨e.val / 64, by omega⟩) (hv ve ⟨e.val / 64, by omega⟩) (hc kc ⟨e.val / 64, by omega⟩) (hc vc ⟨e.val / 64, by omega⟩) g (e.val / 64) (by omega) (y 0) ⟨e.val % 64, by omega⟩ * wo (ix2 e (y 1))

theorem arr1_7 (c : Dev nD) : (dat1 V c).arrAt 7 cfg1.N = OUTV (V c main_v1_0) (V c main_v1_1) (V c main_v1_2) (V c main_v1_3) (V c main_v1_4) (V c main_v1_5) (V c main_arg5) := by
  refine (dat1 V c).arrAt_eq_of_covers 7 _ (by decide +kernel) fun t hf y => ?_
  have ht : 16 ≤ t.val := by rw [flush1_7] at hf; exact of_decide_eq_true hf
  have hN : t.val < 24 := t.isLt
  blk_simp
  rw [after1_7]
  unfold o1_7
  rw [dif_pos ht, canonC c t ht _ _ (by omega), WB_eq]
  have e1 : ∀ (x : Fin 1024), CAT (OH V c) (256 * (t.val - 16)) (by omega) (ix2 (y 0) x) = HEADV (hq (V c main_v1_0) ⟨x.val / 64, by omega⟩) (hq (V c main_v1_1) ⟨x.val / 64, by omega⟩) (hv (V c main_v1_2) ⟨x.val / 64, by omega⟩) (hc (V c main_v1_3) ⟨x.val / 64, by omega⟩) (hc (V c main_v1_4) ⟨x.val / 64, by omega⟩) (V c main_v1_5) (x.val / 64) (by omega) ⟨256 * (t.val - 16) + (y 0).val, by have h : (y 0).val < 256 := (y 0).isLt; omega⟩ ⟨x.val % 64, by omega⟩ := by
    intro x
    unfold CAT
    rw [OH_eq]
    unfold HV
    rw [blk1_0 V c _ ⟨x.val / 64, by omega⟩ rfl, blk1_1 V c _ ⟨x.val / 64, by omega⟩ rfl, blk1_2 V c _ ⟨x.val / 64, by omega⟩ rfl, blk1_3 V c _ ⟨x.val / 64, by omega⟩ rfl, blk1_4 V c _ ⟨x.val / 64, by omega⟩ rfl, blk1_5]
    rfl
  have e0 : (win1_7.blk t).view.emb y = ix2 ⟨256 * (t.val - 16) + (y 0).val, by have h : (y 0).val < 256 := (y 0).isLt; omega⟩ (y 1) := by
    blk_ext [idx1_7]
  rw [e0]
  refine Eq.trans (b := (∑ x : Fin 1024, (CAT (OH V c) (256 * (t.val - 16)) (by omega) (ix2 (y 0) x) : EReal) * V c main_arg5 (ix2 x (y 1)) : EReal)) rfl ?_
  simp only [e1]
  rfl

end Cert.KernelIdeal.Gen

end
-- ==== Proof.Math.Ranks.lean ====
module

public import Idealize.ShloMosaic.Lib.SortFacts
public import Mathlib.Data.EReal.Basic
public import Mathlib.Data.Finset.Card
public import Mathlib.Data.Fintype.Card

@[expose] public section

noncomputable section

open Classical

/-! # The sixteen greatest of a list of scores: by rounds, and by a sort

An entry is among the sixteen greatest when fewer than sixteen entries are greater. Dropping the greatest entries
fifteen times and comparing with the greatest of the rest says the same, and so does a sort: either when at most sixteen
entries are above minus infinity or when those are pairwise different. -/

namespace Cert.Ranks

variable {n : ℕ}

/-- The greatest entry. -/
def top (w : Fin n → EReal) : EReal := Finset.univ.fold max ⊥ w

/-- One round: the greatest entries are dropped. -/
def drop (w : Fin n → EReal) (j : Fin n) : EReal := if top w ≤ w j then ⊥ else w j

/-- The different values above entry `j`. -/
def above (w : Fin n → EReal) (j : Fin n) : Finset EReal := (Finset.univ.filter fun i => w j < w i).image w

theorem le_top (w : Fin n → EReal) (j : Fin n) : w j ≤ top w :=
  (Finset.le_fold_max (w j)).mpr (Or.inr ⟨j, Finset.mem_univ j, le_rfl⟩)

theorem top_le {w : Fin n → EReal} {c : EReal} : top w ≤ c ↔ ∀ j, w j ≤ c := by
  unfold top
  rw [Finset.fold_max_le]
  simp

theorem drop_le (w : Fin n → EReal) (j : Fin n) : drop w j ≤ w j := by
  unfold drop
  split
  · exact bot_le
  · exact le_rfl

theorem top_drop_le (w : Fin n → EReal) : top (drop w) ≤ top w :=
  top_le.mpr fun j => (drop_le w j).trans (le_top w j)

theorem top_iter_le (t : ℕ) (w : Fin n → EReal) : top (drop^[t] w) ≤ top w := by
  induction t generalizing w with
  | zero => exact le_rfl
  | succ t ih => exact (ih (drop w)).trans (top_drop_le w)

/-- Some entry is the greatest, when one is above minus infinity. -/
theorem exists_top (w : Fin n → EReal) (j : Fin n) : ∃ i, w i = top w := by
  obtain ⟨i, -, hi⟩ := Finset.exists_max_image Finset.univ w ⟨j, Finset.mem_univ j⟩
  exact ⟨i, le_antisymm (le_top w i) (top_le.mpr fun k => hi k (Finset.mem_univ k))⟩

theorem above_drop (w : Fin n → EReal) (j : Fin n) (hj : w j ≠ ⊥) (h : w j < top w) :
    above w j = insert (top w) (above (drop w) j) ∧ top w ∉ above (drop w) j := by
  have e : drop w j = w j := if_neg (not_le.mpr h)
  constructor
  · ext x
    simp only [above, Finset.mem_insert, Finset.mem_image, Finset.mem_filter, Finset.mem_univ, true_and, e]
    constructor
    · rintro ⟨i, hi, rfl⟩
      by_cases ht : top w ≤ w i
      · exact Or.inl (le_antisymm (le_top w i) ht)
      · have e' : drop w i = w i := if_neg ht
        exact Or.inr ⟨i, by rw [e']; exact hi, e'⟩
    · rintro (rfl | ⟨i, hi, rfl⟩)
      · obtain ⟨i, hi⟩ := exists_top w j
        exact ⟨i, by rw [hi]; exact h, hi⟩
      · have e' : drop w i = w i := by
          unfold drop at hi ⊢
          split at hi
          · exact absurd hi not_lt_bot
          · rename_i h'; rw [if_neg h']
        exact ⟨i, by rw [← e']; exact hi, e'.symm⟩
  · simp only [above, Finset.mem_image, Finset.mem_filter, Finset.mem_univ, true_and, e, not_exists, not_and]
    intro i hi he
    unfold drop at hi he
    split at hi
    · exact absurd hi not_lt_bot
    · rename_i h'
      rw [if_neg h'] at he
      exact h' he.ge

/-- After `t` rounds the greatest entry left is at most `w j` when at most `t` different values are above it. -/
theorem rounds (t : ℕ) (w : Fin n → EReal) (j : Fin n) (hj : w j ≠ ⊥) :
    top (drop^[t] w) ≤ w j ↔ (above w j).card ≤ t := by
  induction t generalizing w with
  | zero =>
    rw [Nat.le_zero, Finset.card_eq_zero]
    show top w ≤ w j ↔ _
    rw [top_le]
    unfold above
    rw [Finset.image_eq_empty, Finset.filter_eq_empty_iff]
    simp
  | succ t ih =>
    by_cases h : w j < top w
    · obtain ⟨e1, e2⟩ := above_drop w j hj h
      have e : drop w j = w j := if_neg (not_le.mpr h)
      rw [e1, Finset.card_insert_of_notMem e2, Function.iterate_succ_apply, ← e, ih (drop w) (by rw [e]; exact hj)]
      omega
    · have h' : top w ≤ w j := not_lt.mp h
      refine iff_of_true ((top_iter_le _ _).trans h') ?_
      have : above w j = ∅ := by
        unfold above
        rw [Finset.image_eq_empty, Finset.filter_eq_empty_iff]
        intro i _
        exact not_lt.mpr ((le_top w i).trans h')
      rw [this]
      simp

/-- Either few entries are above minus infinity, or those differ. -/
def Clear (w : Fin n → EReal) : Prop :=
  (Finset.univ.filter fun i => w i ≠ ⊥).card ≤ 16 ∨ ∀ i j, w i ≠ ⊥ → w i = w j → i = j

theorem ne_bot_of_lt {a b : EReal} (h : a < b) : b ≠ ⊥ := fun e => not_lt_bot (e ▸ h)

/-- Fifteen rounds find the entries with fewer than sixteen above. -/
theorem rounds_iff (w : Fin n → EReal) (hw : Clear w) (j : Fin n) (hj : w j ≠ ⊥) :
    top (drop^[15] w) ≤ w j ↔ (Finset.univ.filter fun i => w j < w i).card < 16 := by
  rw [rounds 15 w j hj]
  rcases hw with hw | hw
  · have h1 : (Finset.univ.filter fun i => w j < w i).card < (Finset.univ.filter fun i => w i ≠ ⊥).card := by
      refine Finset.card_lt_card ⟨fun i hi => ?_, fun h => ?_⟩
      · simp only [Finset.mem_filter, Finset.mem_univ, true_and] at hi ⊢
        exact ne_bot_of_lt hi
      · have := h (Finset.mem_filter.mpr ⟨Finset.mem_univ j, hj⟩)
        exact lt_irrefl _ (Finset.mem_filter.mp this).2
    have h2 : (above w j).card ≤ (Finset.univ.filter fun i => w j < w i).card := Finset.card_image_le
    omega
  · have : (above w j).card = (Finset.univ.filter fun i => w j < w i).card := by
      refine Finset.card_image_of_injOn fun a ha b hb e => hw a b ?_ e
      exact ne_bot_of_lt (Finset.mem_filter.mp ha).2
    omega

/-- The first sixteen of a bijection without an inversion are the entries with fewer than sixteen above. -/
theorem sorted_iff (w : Fin n → EReal) (hw : Clear w) (σ : Fin n → Fin n) (inj : Function.Injective σ) (sur : Function.Surjective σ)
    (hσ : ∀ a b, a < b → w (σ b) ≤ w (σ a)) (j : Fin n) (hj : w j ≠ ⊥) :
    (∃ t, t.val < 16 ∧ σ t = j) ↔ (Finset.univ.filter fun i => w j < w i).card < 16 := by
  obtain ⟨p, rfl⟩ := sur j
  have hp : (∃ t, t.val < 16 ∧ σ t = σ p) ↔ p.val < 16 :=
    ⟨fun ⟨t, h, e⟩ => inj e ▸ h, fun h => ⟨p, h, rfl⟩⟩
  rw [hp]
  have hcard : ((Finset.univ.filter fun i : Fin n => i < p).image σ).card = p.val := by
    rw [Finset.card_image_of_injective _ inj]
    have : (Finset.univ.filter fun i : Fin n => i < p) = Finset.Iio p := by ext; simp
    rw [this, Fin.card_Iio]
  constructor
  · intro h
    refine lt_of_le_of_lt (Finset.card_le_card fun i hi => ?_) (hcard.trans_lt h)
    obtain ⟨q, rfl⟩ := sur i
    have h1 := (Finset.mem_filter.mp hi).2
    refine Finset.mem_image_of_mem σ (Finset.mem_filter.mpr ⟨Finset.mem_univ q, ?_⟩)
    by_contra hq
    rcases lt_or_eq_of_le (not_lt.mp hq) with h2 | h2
    · exact absurd (hσ p q h2) (not_le.mpr h1)
    · subst h2; exact lt_irrefl _ h1
  · intro h
    by_contra hq
    have hq : 16 ≤ p.val := not_lt.mp hq
    rcases hw with hw | hw
    · have : insert (σ p) ((Finset.univ.filter fun i : Fin n => i < p).image σ) ⊆ Finset.univ.filter fun i => w i ≠ ⊥ := by
        intro i hi
        refine Finset.mem_filter.mpr ⟨Finset.mem_univ i, ?_⟩
        rcases Finset.mem_insert.mp hi with rfl | hi
        · exact hj
        · obtain ⟨q, hq, rfl⟩ := Finset.mem_image.mp hi
          intro e
          exact hj (le_bot_iff.mp (e ▸ hσ q p (Finset.mem_filter.mp hq).2))
      have h3 := Finset.card_le_card this
      rw [Finset.card_insert_of_notMem, hcard] at h3
      · omega
      · intro h4
        obtain ⟨q, hq, e⟩ := Finset.mem_image.mp h4
        exact lt_irrefl _ (inj e ▸ (Finset.mem_filter.mp hq).2)
    · have : ((Finset.univ.filter fun i : Fin n => i < p).image σ) ⊆ Finset.univ.filter fun i => w (σ p) < w i := by
        intro i hi
        obtain ⟨q, hq, rfl⟩ := Finset.mem_image.mp hi
        have h5 := (Finset.mem_filter.mp hq).2
        refine Finset.mem_filter.mpr ⟨Finset.mem_univ _, lt_of_le_of_ne (hσ q p h5) fun e => ?_⟩
        have := inj (hw _ _ hj e)
        subst this
        exact lt_irrefl _ h5
      have h3 := Finset.card_le_card this
      rw [hcard] at h3
      omega

end Cert.Ranks

end
-- ==== Proof.Math.Softmax.lean ====
module

public import Idealize.ShloMosaic.PureOps.Ideal.Laws

@[expose] public section

noncomputable section

open Idealize.ShloMosaic

/-! # Softmax over the scores a mask keeps -/

namespace Cert.Softmax

variable {ι : Type} [Fintype ι]

/-- A sum of reals, as an extended real. -/
theorem coe_sum (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- A quotient of reals. -/
theorem div_coe (a b : ℝ) (hb : b ≠ 0) : Ideal.div (a : EReal) (b : EReal) = ((a / b : ℝ) : EReal) := by
  unfold Ideal.div
  rw [if_neg (by rw [← EReal.coe_zero]; exact fun h => hb (EReal.coe_eq_coe_iff.mp h)), ← EReal.coe_inv, ← EReal.coe_mul, div_eq_mul_inv]

open Classical in
/-- The weight of a score, none if the mask drops it. -/
def wt (m : ι → Prop) (r : ι → ℝ) (j : ι) : ℝ := if m j then Real.exp (r j) else 0

open Classical in
/-- A score, minus infinity if the mask drops it. -/
def sc (m : ι → Prop) (r : ι → ℝ) (j : ι) : EReal := if m j then (r j : EReal) else ⊥

theorem exp_sc (m : ι → Prop) (r : ι → ℝ) (j : ι) : Ideal.exp (sc m r j) = (wt m r j : EReal) := by
  unfold sc wt
  split
  · rfl
  · rfl

theorem exp_sc_sub (m : ι → Prop) (r : ι → ℝ) (M : ℝ) (j : ι) : Ideal.exp (sc m r j - (M : EReal)) = ((wt m r j * Real.exp (-M) : ℝ) : EReal) := by
  unfold sc wt
  split
  · rw [← EReal.coe_sub, ← Real.exp_add]
    exact congrArg (fun x : ℝ => (Real.exp x : EReal)) (sub_eq_add_neg _ _)
  · rw [zero_mul, EReal.bot_sub]
    rfl

theorem wt_nonneg (m : ι → Prop) (r : ι → ℝ) (j : ι) : 0 ≤ wt m r j := by
  unfold wt
  split
  · exact (Real.exp_pos _).le
  · exact le_rfl

theorem sum_wt_pos (m : ι → Prop) (r : ι → ℝ) (j : ι) (h : m j) : 0 < ∑ i, wt m r i := by
  refine Finset.sum_pos' (fun i _ => wt_nonneg m r i) ⟨j, Finset.mem_univ j, ?_⟩
  unfold wt
  rw [if_pos h]
  exact Real.exp_pos _

/-- The mean of values under the weights; the values may be infinite. -/
def mean (m : ι → Prop) (r : ι → ℝ) (v : ι → EReal) : EReal := ∑ i, ((wt m r i / ∑ k, wt m r k : ℝ) : EReal) * v i

/-- Softmax with any real subtracted, times the values, is the mean of the values. -/
theorem softmax_eq (m : ι → Prop) (r : ι → ℝ) (v : ι → EReal) (M : ℝ) (j : ι) (h : m j) :
    ∑ i, Ideal.div (Ideal.exp (sc m r i - (M : EReal))) (∑ k, Ideal.exp (sc m r k - (M : EReal))) * v i = mean m r v := by
  have hp := sum_wt_pos m r j h
  have hM : Real.exp (-M) ≠ 0 := (Real.exp_pos _).ne'
  have hs : (∑ k, wt m r k * Real.exp (-M)) ≠ 0 := by
    rw [← Finset.sum_mul]
    exact mul_ne_zero hp.ne' hM
  simp only [exp_sc_sub, ← coe_sum, div_coe _ _ hs]
  refine Finset.sum_congr rfl fun i _ => congrArg (fun a : ℝ => (a : EReal) * v i) ?_
  rw [← Finset.sum_mul, mul_div_mul_right _ _ hM]

/-- A real factor that is not negative goes into a sum. -/
theorem mul_sum (c : ℝ) (hc : 0 ≤ c) (s : Finset ι) (f : ι → EReal) : (c : EReal) * ∑ i ∈ s, f i = ∑ i ∈ s, (c : EReal) * f i := by
  classical
  induction s using Finset.induction_on with
  | empty => exact mul_zero _
  | insert a s h ih => rw [Finset.sum_insert h, Finset.sum_insert h, EReal.left_distrib_of_nonneg_of_ne_top (EReal.coe_nonneg.mpr hc) (EReal.coe_ne_top c), ih]

theorem inv_mean (m : ι → Prop) (r : ι → ℝ) (v : ι → EReal) (j : ι) (h : m j) : (((∑ k, wt m r k)⁻¹ : ℝ) : EReal) * ∑ i, (wt m r i : EReal) * v i = mean m r v := by
  rw [mul_sum _ (inv_nonneg.mpr (sum_wt_pos m r j h).le)]
  refine Finset.sum_congr rfl fun i _ => ?_
  rw [← mul_assoc, ← EReal.coe_mul, inv_mul_eq_div]

/-- A factor divided by the weights' sum, times the weighted values. -/
theorem div_mean (g : EReal) (m : ι → Prop) (r : ι → ℝ) (v : ι → EReal) (j : ι) (h : m j) :
    Ideal.div g ((∑ k, wt m r k : ℝ) : EReal) * ∑ i, (wt m r i : EReal) * v i = g * mean m r v := by
  unfold Ideal.div
  rw [if_neg (by rw [← EReal.coe_zero]; exact fun e => (sum_wt_pos m r j h).ne' (EReal.coe_eq_coe_iff.mp e)), ← EReal.coe_inv, mul_assoc, inv_mean m r v j h]

/-- The weighted values divided by the weights' sum. -/
theorem mean_div (m : ι → Prop) (r : ι → ℝ) (v : ι → EReal) (j : ι) (h : m j) :
    Ideal.div (∑ i, (wt m r i : EReal) * v i) ((∑ k, wt m r k : ℝ) : EReal) = mean m r v := by
  unfold Ideal.div
  rw [if_neg (by rw [← EReal.coe_zero]; exact fun e => (sum_wt_pos m r j h).ne' (EReal.coe_eq_coe_iff.mp e)), ← EReal.coe_inv, mul_comm, inv_mean m r v j h]

/-- The weights' sum and the weighted values' sum, over the extended reals. -/
theorem sum_exp (m : ι → Prop) (r : ι → ℝ) : ∑ i, Ideal.exp (sc m r i) = ((∑ i, wt m r i : ℝ) : EReal) := by
  simp only [exp_sc, coe_sum]

theorem sum_exp_mul (m : ι → Prop) (r : ι → ℝ) (v : ι → EReal) : ∑ i, Ideal.exp (sc m r i) * v i = ∑ i, (wt m r i : EReal) * v i := by
  simp only [exp_sc]

/-! ## The greatest score is a real -/

/-- A fold by maximum from minus infinity over entries below plus infinity, one of them above minus infinity, is a real. -/
theorem foldl_max_real {α : Type} (l : List α) (f : α → EReal) (z : EReal) (hz : z ≠ ⊤) (h1 : ∀ a ∈ l, f a ≠ ⊤) (h2 : z ≠ ⊥ ∨ ∃ a ∈ l, f a ≠ ⊥) :
    ∃ M : ℝ, l.foldl (fun r a => max r (f a)) z = (M : EReal) := by
  induction l generalizing z with
  | nil =>
    rcases h2 with h | ⟨a, ha, _⟩
    · exact ⟨z.toReal, (EReal.coe_toReal hz h).symm⟩
    · exact absurd ha List.not_mem_nil
  | cons b l ih =>
    refine ih (max z (f b)) ?_ (fun a ha => h1 a (List.mem_cons_of_mem _ ha)) ?_
    · rcases max_choice z (f b) with e | e <;> rw [e]
      · exact hz
      · exact h1 b List.mem_cons_self
    · rcases h2 with h | ⟨a, ha, hf⟩
      · exact Or.inl fun e => h (le_bot_iff.mp (e ▸ le_max_left z (f b)))
      · rcases List.mem_cons.mp ha with rfl | ha
        · exact Or.inl fun e => hf (le_bot_iff.mp (e ▸ le_max_right z (f a)))
        · exact Or.inr ⟨a, ha, hf⟩

/-- A fold of bits by "or" is one when a bit is. -/
theorem foldl_or {α : Type} (l : List α) (f : α → BitVec 1) (z : BitVec 1) :
    l.foldl (fun r a => r ||| f a) z = 1#1 ↔ z = 1#1 ∨ ∃ a ∈ l, f a = 1#1 := by
  induction l generalizing z with
  | nil => simp
  | cons b l ih =>
    rw [List.foldl_cons, ih]
    have : ∀ x y : BitVec 1, x ||| y = 1#1 ↔ x = 1#1 ∨ y = 1#1 := by decide
    rw [this]
    simp only [List.mem_cons, exists_eq_or_imp, or_assoc]

/-- A fold of bits by "and" is one when every bit is. -/
theorem foldl_and {α : Type} (l : List α) (f : α → BitVec 1) (z : BitVec 1) :
    l.foldl (fun r a => r &&& f a) z = 1#1 ↔ z = 1#1 ∧ ∀ a ∈ l, f a = 1#1 := by
  induction l generalizing z with
  | nil => simp
  | cons b l ih =>
    rw [List.foldl_cons, ih]
    have : ∀ x y : BitVec 1, x &&& y = 1#1 ↔ x = 1#1 ∧ y = 1#1 := by decide
    rw [this]
    simp only [List.mem_cons, forall_eq_or_imp, and_assoc]

variable {s t u : Shape} {axes : List (Fin s.rank)}

/-- A host reduction by maximum is a real when the reduced entries are below plus infinity and one is above minus infinity. -/
theorem reduce_max_real (f : EReal → EReal → EReal) (hf : ∀ a b, f a b = max a b) (x : s.Idx → EReal) (z : u.Idx → EReal) (h : s.ReducesTo axes t) (hu : 0 < u.numel) (j : t.Idx)
    (hz : z (Shape.Idx.first hu) = ⊥) (h1 : ∀ i, h.drop i = j → x i ≠ ⊤) (i : s.Idx) (hi : h.drop i = j) (h2 : x i ≠ ⊥) :
    ∃ M : ℝ, Host.reduce f x z h hu j = (M : EReal) := by
  obtain rfl : f = max := funext fun a => funext fun b => hf a b
  unfold Host.reduce
  refine foldl_max_real _ _ _ (by rw [hz]; exact bot_ne_top) ?_ (Or.inr ⟨s.rowMajor i, ?_, ?_⟩)
  · intro n hn
    exact h1 _ (of_decide_eq_true (List.mem_filter.mp hn).2)
  · refine List.mem_filter.mpr ⟨List.mem_finRange _, decide_eq_true ?_⟩
    rw [Equiv.symm_apply_apply]; exact hi
  · rw [Equiv.symm_apply_apply]; exact h2

/-- A host reduction of bits by "or" from zero. -/
theorem reduce_or (x : s.Idx → BitVec 1) (z : u.Idx → BitVec 1) (h : s.ReducesTo axes t) (hu : 0 < u.numel) (j : t.Idx)
    (hz : z (Shape.Idx.first hu) = 0#1) : Host.reduce IntOp.ori x z h hu j = 1#1 ↔ ∃ i, h.drop i = j ∧ x i = 1#1 := by
  unfold Host.reduce
  refine (foldl_or _ _ _).trans ?_
  rw [hz]
  constructor
  · rintro (h0 | ⟨n, hn, e⟩)
    · exact absurd h0 (by decide)
    · exact ⟨_, of_decide_eq_true (List.mem_filter.mp hn).2, e⟩
  · rintro ⟨i, hi, e⟩
    refine Or.inr ⟨s.rowMajor i, List.mem_filter.mpr ⟨List.mem_finRange _, decide_eq_true ?_⟩, ?_⟩
    · rw [Equiv.symm_apply_apply]; exact hi
    · rw [Equiv.symm_apply_apply]; exact e

/-- A host reduction of bits by "and" from one. -/
theorem reduce_and (x : s.Idx → BitVec 1) (z : u.Idx → BitVec 1) (h : s.ReducesTo axes t) (hu : 0 < u.numel) (j : t.Idx)
    (e : Host.reduce IntOp.andi x z h hu j = 1#1) (i : s.Idx) (hi : h.drop i = j) : x i = 1#1 := by
  unfold Host.reduce at e
  have e' := ((foldl_and _ _ _).mp e).2 (s.rowMajor i) (List.mem_filter.mpr ⟨List.mem_finRange _, decide_eq_true (by rw [Equiv.symm_apply_apply]; exact hi)⟩)
  rwa [Equiv.symm_apply_apply] at e'

end Cert.Softmax

end
-- ==== Proof.Math.Nsa.lean ====
module

public import proofs.«01_k».proof.Proof.Math.Ranks
public import proofs.«01_k».proof.Proof.Math.Softmax

@[expose] public section

noncomputable section

open Classical Idealize.ShloMosaic

/-! # The three branches of one head over the reals

Queries and keys are real arrays by head, row and coordinate; the values may be infinite. -/

namespace Cert.Nsa

/-- A projection. -/
def proj (X : Fin 2048 → Fin 1024 → ℝ) (W : Fin 1024 → Fin 1024 → ℝ) (h : Fin 16) (s : Fin 2048) (d : Fin 64) : ℝ :=
  ∑ e, X s e * W e ⟨h.val * 64 + d.val, by omega⟩

variable (Q K : Fin 16 → Fin 2048 → Fin 64 → ℝ) (V : Fin 16 → Fin 2048 → Fin 64 → EReal)

/-- The mean of a block of thirty-two rows. -/
def blockMean (h : Fin 16) (j : Fin 64) (d : Fin 64) : ℝ := (∑ k : Fin 32, K h ⟨j.val * 32 + k.val, by omega⟩ d) / 32

/-- The mean of a block of thirty-two rows of values. -/
def valueMean (h : Fin 16) (j : Fin 64) (d : Fin 64) : EReal := Ideal.div (∑ k : Fin 32, V h ⟨j.val * 32 + k.val, by omega⟩ d) ((32 : ℝ) : EReal)

/-- The score of a row with a block's mean key. -/
def cscore (h : Fin 16) (s : Fin 2048) (j : Fin 64) : ℝ := (∑ d, Q h s d * blockMean K h j d) * 0.125

/-- A block is seen by the rows at or after its end. -/
def cmask (s : Fin 2048) (j : Fin 64) : Prop := j.val * 32 + 31 ≤ s.val

/-- The compressed branch. -/
def comp (h : Fin 16) (s : Fin 2048) (d : Fin 64) : EReal :=
  if 31 ≤ s.val then Softmax.mean (cmask s) (cscore Q K h s) (fun j => valueMean V h j d) else 0

/-- The mean score of a block of rows with a block of keys. -/
def bscore (h : Fin 16) (r j : Fin 64) : ℝ := (∑ i : Fin 32, cscore Q K h ⟨r.val * 32 + i.val, by omega⟩ j) / 32

/-- What ranks a block: the rows' own first, then the earlier ones by score. -/
def rank (h : Fin 16) (r j : Fin 64) : EReal := if j = r then ⊤ else if j ≤ r then (bscore Q K h r j : EReal) else ⊥

/-- The blocks with fewer than sixteen ranked above. -/
def sel (h : Fin 16) (r j : Fin 64) : Prop := (Finset.univ.filter fun i => rank Q K h r j < rank Q K h r i).card < 16

/-- The block of a row. -/
def blk (s : Fin 2048) : Fin 64 := ⟨s.val / 32, by omega⟩

/-- The score of a row with a key. -/
def score (h : Fin 16) (s t : Fin 2048) : ℝ := (∑ d, Q h s d * K h t d) * 0.125

/-- The keys of the selection branch. -/
def smask (h : Fin 16) (s t : Fin 2048) : Prop := sel Q K h (blk s) (blk t) ∧ t ≤ s

/-- The keys of the window branch. -/
def wmask (s t : Fin 2048) : Prop := t ≤ s ∧ s.val < t.val + 64

/-- The selection branch. -/
def slct (h : Fin 16) (s : Fin 2048) (d : Fin 64) : EReal := Softmax.mean (smask Q K h s) (score Q K h s) (fun t => V h t d)

/-- The window branch. -/
def wind (h : Fin 16) (s : Fin 2048) (d : Fin 64) : EReal := Softmax.mean (wmask s) (score Q K h s) (fun t => V h t d)

/-- No tie among the ranked blocks where there are more than sixteen. -/
def Untied : Prop := ∀ h r a b, 16 ≤ r.val → a < r → b < r → bscore Q K h r a = bscore Q K h r b → a = b

theorem rank_ne_bot {h : Fin 16} {r j : Fin 64} : rank Q K h r j ≠ ⊥ ↔ j ≤ r := by
  unfold rank
  split
  · rename_i e
    exact iff_of_true (by simp) e.le
  · split
    · rename_i e
      exact iff_of_true (EReal.coe_ne_bot _) e
    · rename_i e
      exact iff_of_false (by simp) e

/-- The ranks are clear. -/
theorem rank_clear (hu : Untied Q K) (h : Fin 16) (r : Fin 64) : Ranks.Clear (rank Q K h r) := by
  by_cases hr : r.val < 16
  · left
    have e : (Finset.univ.filter fun i => rank Q K h r i ≠ ⊥) = Finset.Iic r := by
      ext i
      simp only [Finset.mem_filter, Finset.mem_univ, true_and, Finset.mem_Iic, rank_ne_bot]
    rw [e, Fin.card_Iic]
    omega
  · right
    intro i j hi e
    have hi' := (rank_ne_bot Q K).mp hi
    have hj' := (rank_ne_bot Q K).mp (e ▸ hi)
    unfold rank at e
    by_cases h1 : i = r
    · by_cases h2 : j = r
      · exact h1.trans h2.symm
      · rw [if_pos h1, if_neg h2, if_pos hj'] at e
        exact absurd e.symm (EReal.coe_ne_top _)
    · by_cases h2 : j = r
      · rw [if_neg h1, if_pos h2, if_pos hi'] at e
        exact absurd e (EReal.coe_ne_top _)
      · rw [if_neg h1, if_neg h2, if_pos hi', if_pos hj'] at e
        exact hu h r i j (by omega) (lt_of_le_of_ne hi' h1) (lt_of_le_of_ne hj' h2) (EReal.coe_eq_coe_iff.mp e)

/-- A row's own block is selected. -/
theorem sel_own (h : Fin 16) (r : Fin 64) : sel Q K h r r := by
  unfold sel
  have : (Finset.univ.filter fun i => rank Q K h r r < rank Q K h r i) = ∅ := by
    rw [Finset.filter_eq_empty_iff]
    intro i _
    have e : rank Q K h r r = ⊤ := if_pos rfl
    rw [e]
    exact not_top_lt
  rw [this]
  simp

end Cert.Nsa

end
-- ==== Proof.Reference.Value.lean ====
module

public import proofs.«01_k».proof.Proof.Gen.ReferenceIdeal.Read
public import proofs.«01_k».proof.Proof.Math.Nsa
public import Idealize.ShloMosaic.Lib.Pointwise
public import Idealize.ShloMosaic.Lib.WordCmp

@[expose] public section

set_option maxRecDepth 16384

noncomputable section

/-! # What the reference computes -/

namespace Cert.ReferenceIdeal.Read

open Cert.ReferenceIdeal Cert.ReferenceIdeal.Gen Idealize.ShloMosaic Idealize.ShloMosaic.TcCoe Idealize.ShloMosaic.Tactic
open Cert.Nsa Cert.Softmax

/-! ## Constants, words and choices -/

theorem bits_ninf : Ideal.ofBits .f32 0xFF800000#32 = (⊥ : EReal) := by simp [Ideal.ofBits, Ideal.ieee]
theorem bits_pinf : Ideal.ofBits .f32 0x7F800000#32 = (⊤ : EReal) := by simp [Ideal.ofBits, Ideal.ieee]
theorem bits_zero : Ideal.ofBits .f32 0x00000000#32 = (0 : EReal) := by simp [Ideal.ofBits, Ideal.ieee]
theorem bits_one : Ideal.ofBits .f32 0x3F800000#32 = (1 : EReal) := by simp [Ideal.ofBits, Ideal.ieee, -EReal.coe_mul]; norm_num
theorem bits_32 : Ideal.ofBits .f32 0x42000000#32 = ((32 : ℝ) : EReal) := by simp [Ideal.ofBits, Ideal.ieee, -EReal.coe_mul]; norm_num
theorem bits_eighth : Ideal.ofBits .f32 0x3E000000#32 = ((0.125 : ℝ) : EReal) := by simp [Ideal.ofBits, Ideal.ieee, -EReal.coe_mul]; norm_num
theorem bits_32nd : Ideal.ofBits .f32 0x3D000000#32 = ((1 / 32 : ℝ) : EReal) := by simp [Ideal.ofBits, Ideal.ieee, -EReal.coe_mul]; norm_num

open Classical in
theorem select_of {α : Type} {c : BitVec 1} {p : Prop} (h : c = 1#1 ↔ p) (a b : α) : Scalar.select c a b = if p then a else b := by
  unfold Scalar.select
  exact if_congr h rfl rfl

theorem and_of {c d : BitVec 1} {p q : Prop} (hc : c = 1#1 ↔ p) (hd : d = 1#1 ↔ q) : IntOp.andi c d = 1#1 ↔ p ∧ q := by
  rw [← hc, ← hd]
  have : ∀ c d : BitVec 1, IntOp.andi c d = 1#1 ↔ c = 1#1 ∧ d = 1#1 := by decide
  exact this c d

theorem sle_word (a b : ℕ) (ha : a < 4096) (hb : b < 4096) : IntOp.cmpi CmpIPredicate.sle (BitVec.ofNat 32 a) (BitVec.ofNat 32 b) = 1#1 ↔ a ≤ b := by word_cmp
theorem eq_word (a b : ℕ) (ha : a < 4096) (hb : b < 4096) : IntOp.cmpi CmpIPredicate.eq (BitVec.ofNat 32 a) (BitVec.ofNat 32 b) = 1#1 ↔ a = b := by word_cmp

theorem end_word (s : Fin 2048) (j : Fin 64) : IntOp.cmpi CmpIPredicate.sle (IntOp.subi (IntOp.muli (IntOp.addi (BitVec.ofNat 32 j.val) 1#32) 32#32) 1#32) (BitVec.ofNat 32 s.val) = 1#1 ↔ cmask s j := by
  have e : ∀ j : Fin 64, IntOp.subi (IntOp.muli (IntOp.addi (BitVec.ofNat 32 j.val) 1#32) 32#32) 1#32 = BitVec.ofNat 32 (j.val * 32 + 31) := by decide +kernel
  rw [e]
  exact sle_word _ _ (by omega) (by omega)

theorem back_word (s t : Fin 2048) : IntOp.cmpi CmpIPredicate.sgt (BitVec.ofNat 32 t.val) (IntOp.subi (BitVec.ofNat 32 s.val) 64#32) = 1#1 ↔ s.val < t.val + 64 := by
  have e1 : ∀ x : Fin 2048, (BitVec.ofNat 32 x.val).toInt = (x.val : ℤ) := by decide +kernel
  have e2 : ∀ y : Fin 2048, (IntOp.subi (BitVec.ofNat 32 y.val) 64#32).toInt = (y.val : ℤ) - 64 := by decide +kernel
  have e3 : ∀ a b : BitVec 32, IntOp.cmpi CmpIPredicate.sgt a b = BitVec.ofBool (decide (b.toInt < a.toInt)) := fun _ _ => rfl
  rw [e3, e1, e2]
  by_cases h : (s.val : ℤ) - 64 < t.val
  · rw [decide_eq_true h]; exact ⟨fun _ => by omega, fun _ => rfl⟩
  · rw [decide_eq_false h]; exact ⟨fun h' => absurd h' (by decide), fun h' => absurd h' (by omega)⟩

/-! ## Projections -/

variable (x : Vec Ideal S1x2048x1024 .f32) (wq wk wv wo : Vec Ideal S1024x1024 .f32) (wg : Vec Ideal S1024x48 .f32)
variable (X : Fin 2048 → Fin 1024 → ℝ) (A B : Fin 1024 → Fin 1024 → ℝ)
variable (hx : ∀ s e, x (ix3 0 s e) = (X s e : EReal)) (ha : ∀ a b, wq (ix2 a b) = (A a b : EReal)) (hb : ∀ a b, wk (ix2 a b) = (B a b : EReal))

include hx in
theorem sum_proj (w : Vec Ideal S1024x1024 .f32) (W : Fin 1024 → Fin 1024 → ℝ) (hw : ∀ a b, w (ix2 a b) = (W a b : EReal)) (h : Fin 16) (s : Fin 2048) (d : Fin 64) (k : Fin 1024) (hk : k.val = h.val * 64 + d.val) :
    (∑ e, x (ix3 0 s e) * w (ix2 e k) : EReal) = (proj X W h s d : EReal) := by
  have e : k = ⟨h.val * 64 + d.val, by omega⟩ := Fin.ext hk
  rw [e]
  unfold proj
  rw [coe_sum]
  exact Finset.sum_congr rfl fun e _ => by rw [hx, hw, EReal.coe_mul]

include hx ha in
theorem ref_q (h : Fin 16) (s : Fin 2048) (d : Fin 64) : val_main_v2 (F := Ideal) x wq (ix4 0 h s d) = (proj X A h s d : EReal) := by
  unfold val_main_v2 val_main_v1 val_main_v0
  pointwise
  exact sum_proj x X hx wq A ha h s d _ rfl

include hx hb in
theorem ref_k (h : Fin 16) (s : Fin 2048) (d : Fin 64) : val_main_v5 (F := Ideal) x wk (ix4 0 h s d) = (proj X B h s d : EReal) := by
  unfold val_main_v5 val_main_v4 val_main_v3
  pointwise
  exact sum_proj x X hx wk B hb h s d _ rfl

/-- The values. -/
def vals (x : Vec Ideal S1x2048x1024 .f32) (w : Vec Ideal S1024x1024 .f32) (h : Fin 16) (s : Fin 2048) (d : Fin 64) : EReal :=
  ∑ e : Fin 1024, x (ix3 0 s e) * w (ix2 e ⟨h.val * 64 + d.val, by omega⟩)

theorem ref_v (h : Fin 16) (s : Fin 2048) (d : Fin 64) : val_main_v8 (F := Ideal) x wv (ix4 0 h s d) = vals x wv h s d := by
  unfold val_main_v8 val_main_v7 val_main_v6
  pointwise
  rfl

include hx hb in
theorem ref_kc (h : Fin 16) (j d : Fin 64) : val_main_v13 (F := Ideal) x wk (ix4 0 h j d) = (blockMean (proj X B) h j d : EReal) := by
  unfold val_main_v13 val_main_v12 val_main_v11 val_main_v10 val_main_cst val_main_cst_0
  pointwise
  simp only [ref_k x wk X B hx hb, bits_32, ← coe_sum]
  exact div_coe _ _ (by norm_num)

theorem ref_vc (h : Fin 16) (j d : Fin 64) : val_main_v17 (F := Ideal) x wv (ix4 0 h j d) = valueMean (vals x wv) h j d := by
  unfold val_main_v17 val_main_v16 val_main_v15 val_main_v14 val_main_cst_1 val_main_cst_2
  pointwise
  simp only [ref_v x wv, bits_32]
  rfl

/-! ## The compressed branch -/

include hx ha hb in
theorem ref_simc (h : Fin 16) (s : Fin 2048) (j : Fin 64) : val_main_v34 (F := Ideal) x wq wk (ix4 0 h s j) = sc (cmask s) (cscore (proj X A) (proj X B) h s) j := by
  unfold val_main_v34 val_main_call0_v2 val_main_call0_v0 val_main_cst_6 val_main_v20 val_main_v19 val_main_cst_3 val_main_v18 val_main_call0_v1 val_main_v33 val_main_v32 val_main_v31 val_main_v29 val_main_v9 val_main_v30 val_main_v28 val_main_v27 val_main_v26 val_main_c_5 val_main_v25 val_main_v24 val_main_c_4 val_main_v23 val_main_v22 val_main_c val_main_v21
  pointwise
  refine (select_of (end_word s j) _ _).trans ?_
  unfold sc
  by_cases hm : cmask s j
  swap
  · rw [if_neg hm, if_neg hm]
    exact bits_ninf
  rw [if_pos hm, if_pos hm]
  simp only [ref_q x wq X A hx ha, ref_kc x wk X B hx hb, bits_eighth, ← EReal.coe_mul, ← coe_sum]
  rfl

theorem sc_ne_top {ι : Type} (m : ι → Prop) (r : ι → ℝ) (j : ι) : sc m r j ≠ ⊤ := by
  unfold sc
  split
  · exact EReal.coe_ne_top _
  · exact bot_ne_top

theorem sc_ne_bot {ι : Type} (m : ι → Prop) (r : ι → ℝ) (j : ι) (h : m j) : sc m r j ≠ ⊥ := by
  unfold sc
  rw [if_pos h]
  exact EReal.coe_ne_bot _

/-- The greatest score of a row, when an entry is kept. -/
theorem row_max {n : ℕ} {u : Shape} (y : (⟨4, ![1, 16, 2048, n]⟩ : Shape).Idx → EReal) (z : u.Idx → EReal) (hr : (⟨4, ![1, 16, 2048, n]⟩ : Shape).ReducesTo [3] ⟨3, ![1, 16, 2048]⟩)
    (hu : 0 < u.numel) (hz : z (Shape.Idx.first hu) = ⊥) (h : Fin 16) (s : Fin 2048) (m : Fin n → Prop) (r : Fin n → ℝ) (e : ∀ j, y (ix4 0 h s j) = sc m r j) (j : Fin n) (hj : m j) :
    ∃ M : ℝ, Host.reduce (FloatOps.maximumf (F := Ideal) (φ := .f32)) y z hr hu (ix3 0 h s) = (M : EReal) := by
  have h1 : ∀ i, hr.drop i = ix3 0 h s → y i ≠ ⊤ := by
    intro i hi
    have e0 := congrArg Fin.val (congrFun hi 1)
    have e1 := congrArg Fin.val (congrFun hi 2)
    have : i = ix4 0 h s (i 3) := by
      funext a
      match a with
      | ⟨0, _⟩ => exact Fin.ext (by have : (i 0).val < 1 := (i 0).isLt; show (i 0).val = 0; omega)
      | ⟨1, _⟩ => exact Fin.ext e0
      | ⟨2, _⟩ => exact Fin.ext e1
      | ⟨3, _⟩ => rfl
    rw [this]
    exact fun h0 => sc_ne_top _ _ _ ((e (i 3)).symm.trans h0)
  have h2 : hr.drop (ix4 0 h s j) = ix3 0 h s := by
    funext b
    match b with
    | ⟨0, _⟩ => rfl
    | ⟨1, _⟩ => rfl
    | ⟨2, _⟩ => rfl
  exact reduce_max_real _ (fun _ _ => rfl) y z hr hu _ hz h1 _ h2 (by rw [e]; exact sc_ne_bot _ _ _ hj)

/-- The greatest compressed score of a row, when a block is seen. -/
theorem ref_maxc (h : Fin 16) (s : Fin 2048) (j : Fin 64) (hj : cmask s j) (r : Fin 64 → ℝ) (e : ∀ j, val_main_v34 (F := Ideal) x wq wk (ix4 0 h s j) = sc (cmask s) r j) :
    ∃ M : ℝ, val_main_v37 (F := Ideal) x wq wk (ix3 0 h s) = (M : EReal) := by
  obtain ⟨M, hM⟩ := row_max (val_main_v34 (F := Ideal) x wq wk) (val_main_cst_7 (F := Ideal)) reducesTo_S1x16x2048x64_S1x16x2048_d3 h_S_ bits_ninf h s (cmask s) r e j hj
  refine ⟨M, ?_⟩
  rw [val_main_v37_apply, val_main_v36_apply]
  unfold val_main_v35
  rw [hM]
  refine (congrArg (max · (M : EReal)) bits_ninf).trans (max_eq_right bot_le)

theorem ref_any (s : Fin 2048) : val_main_v47 (F := Ideal) (ix1 s) = 1#1 ↔ 31 ≤ s.val := by
  have hw : ∀ (s : Fin 2048) (j : Fin 64), val_main_v32 (F := Ideal) (ix2 s j) = 1#1 ↔ cmask s j := by
    intro s j
    unfold val_main_v32 val_main_v31 val_main_v29 val_main_v9 val_main_v30 val_main_v28 val_main_v27 val_main_v26 val_main_c_5 val_main_v25 val_main_v24 val_main_c_4 val_main_v23 val_main_v22 val_main_c val_main_v21
    pointwise
    exact end_word s j
  unfold val_main_v47
  refine (reduce_or _ _ reducesTo_S2048x64_S2048_d1 h_S_ (ix1 s) rfl).trans ?_
  constructor
  · rintro ⟨i, hi, e⟩
    have e0 := congrArg Fin.val (congrFun hi 0)
    have : i = ix2 s (i 1) := by
      funext a
      match a with
      | ⟨0, _⟩ => exact Fin.ext e0
      | ⟨1, _⟩ => rfl
    rw [this] at e
    have e' := (hw s (i 1)).mp e
    unfold cmask at e'
    omega
  · intro h
    refine ⟨ix2 s 0, ?_, (hw s 0).mpr (by show 0 * 32 + 31 ≤ s.val; omega)⟩
    funext b
    match b with
    | ⟨0, _⟩ => rfl

include hx ha hb in
theorem ref_comp (h : Fin 16) (s : Fin 2048) (d : Fin 64) : val_main_v49 (F := Ideal) x wq wk wv (ix4 0 h s d) = comp (proj X A) (proj X B) (vals x wv) h s d := by
  unfold val_main_v49 val_main_call1_v2 val_main_call1_v0 val_main_cst_11 val_main_call1_v1 val_main_v48
  pointwise
  rw [select_of (ref_any s)]
  unfold comp
  by_cases hs : 31 ≤ s.val
  · rw [if_pos hs, if_pos hs]
    have hj : cmask s 0 := by show 0 * 32 + 31 ≤ s.val; omega
    obtain ⟨M, hM⟩ := ref_maxc x wq wk h s 0 hj _ (ref_simc x wq wk X A B hx ha hb h s)
    unfold val_main_v46 val_main_v45 val_main_v44 val_main_v43 val_main_v42 val_main_v41 val_main_v40 val_main_v39 val_main_v38 val_main_cst_9
    pointwise
    simp only [hM, ref_simc x wq wk X A B hx ha hb, ref_vc x wv]
    exact softmax_eq (cmask s) (cscore (proj X A) (proj X B) h s) _ M 0 hj
  · rw [if_neg hs, if_neg hs]
    exact bits_zero

end Cert.ReferenceIdeal.Read

end
-- ==== Proof.KernelIdeal.HeadReal.lean ====
module

public import proofs.«01_k».proof.Proof.KernelIdeal.Chunk
public import proofs.«01_k».proof.Proof.Reference.Value

@[expose] public section

set_option maxRecDepth 16384

noncomputable section

/-! # A head's rows in the kernel are the three branches over the reals -/

namespace Cert.HeadReal

open Idealize.ShloMosaic Idealize.ShloMosaic.TcCoe
open Cert.KernelIdeal Cert.Softmax
open Cert.KernelIdeal.Gen (SIMC SCORE SELF topF stepF QA KA OUTC GT QK LOC AVS AVW HEADV sum_stretch)
open Cert.Nsa (blockMean valueMean cscore cmask comp bscore rank sel score smask wmask slct wind Untied)
open Cert.ReferenceIdeal.Read (bits_ninf bits_32nd)

/-! ## The ranks and the rounds -/

theorem topF_eq (w : Fin 64 → EReal) : topF w = Ranks.top w := by
  unfold topF Ranks.top
  rw [bits_ninf]

theorem stepF_eq : stepF = Ranks.drop := by
  funext w j
  unfold stepF Ranks.drop
  rw [topF_eq]

/-- A coordinate of a head, among the extended values' columns. -/
theorem lt_wide (d : Fin 64) : d.val < 128 := d.isLt.trans (by decide)

section

variable (Q K : Fin 16 → Fin 2048 → Fin 64 → ℝ) (V : Fin 16 → Fin 2048 → Fin 64 → EReal) (h : Fin 16)
variable (q k : Vec Ideal S1x2048x64 .bf16) (ve : Vec Ideal S1x2048x128 .bf16) (kc vc : Vec Ideal S1x64x64 .f32)
variable (hq : ∀ s d, q (ix3 0 s d) = ((Q h s d * 0.125 : ℝ) : EReal)) (hk : ∀ s d, k (ix3 0 s d) = (K h s d : EReal))
variable (hv : ∀ (s : Fin 2048) (d : Fin 64), ve (ix3 0 s ⟨d.val, lt_wide d⟩) = V h s d) (h1 : ∀ s : Fin 2048, ve (ix3 0 s 64) = (1 : EReal))
variable (hkc : ∀ j d, kc (ix3 0 j d) = (blockMean K h j d : EReal)) (hvc : ∀ j d, vc (ix3 0 j d) = valueMean V h j d)

include hq hkc in
open Classical in
theorem SIMC_eq (s : Fin 2048) (j : Fin 64) : SIMC q kc s j = sc (cmask s) (cscore Q K h s) j := by
  unfold SIMC sc
  refine if_congr (by unfold cmask; omega) ?_ rfl
  refine Eq.trans (b := (∑ x : Fin 64, ((Q h s x * 0.125 * blockMean K h j x : ℝ) : EReal))) (Finset.sum_congr rfl fun x _ => ?_) ?_
  · rw [hq, hkc, ← EReal.coe_mul]
  · unfold cscore
    rw [Finset.sum_mul, coe_sum]
    exact Finset.sum_congr rfl fun x _ => congrArg _ (by ring)

include hq hkc in
theorem SCORE_eq (r j : Fin 64) : SCORE q kc r j = rank Q K h r j := by
  unfold SCORE rank
  by_cases hj : j.val = r.val
  · rw [if_pos hj, if_pos (Fin.ext hj)]
  rw [if_neg hj, if_neg fun e => hj (congrArg Fin.val e)]
  by_cases hl : j.val ≤ r.val
  · rw [if_pos hl, if_pos (show j ≤ r from hl)]
    rw [← sum_stretch (32 * r.val) 32 (by omega) _ (fun κ hκ => if_neg (by omega))]
    unfold bscore
    rw [div_eq_mul_one_div, Finset.sum_mul, coe_sum]
    refine Finset.sum_congr rfl fun i _ => ?_
    rw [if_pos (by show (32 * r.val + i.val) / 32 = r.val; omega), SIMC_eq Q K h q kc hq hkc, bits_32nd, EReal.coe_mul]
    refine congrArg (· * _) ?_
    unfold sc
    rw [if_pos (by show j.val * 32 + 31 ≤ 32 * r.val + i.val; omega)]
    exact congrArg (fun s => (cscore Q K h s j : EReal)) (Fin.ext (by show 32 * r.val + i.val = r.val * 32 + i.val; omega))
  · rw [if_neg hl, if_neg (show ¬ j ≤ r from hl)]

include hq hkc in
theorem SELF_iff (hu : Untied Q K) (r j : Fin 64) (hj : j ≤ r) : SELF q kc r j ↔ sel Q K h r j := by
  have e : SCORE q kc r = rank Q K h r := funext fun j => SCORE_eq Q K h q kc hq hkc r j
  unfold SELF sel
  rw [e, topF_eq, stepF_eq, Ranks.rounds_iff (rank Q K h r) (Nsa.rank_clear Q K hu h r) j ((Nsa.rank_ne_bot Q K).mpr hj)]
  exact and_iff_left hj

/-! ## The scores -/

include hq hk in
theorem LOC_eq (s κ : Fin 2048) : LOC q k s κ = (score Q K h s κ : EReal) := by
  unfold LOC score
  refine Eq.trans (b := (∑ x : Fin 64, ((Q h s x * 0.125 * K h κ x : ℝ) : EReal))) (Finset.sum_congr rfl fun x _ => ?_) ?_
  · rw [hq, hk, ← EReal.coe_mul]
  · rw [Finset.sum_mul, coe_sum]
    exact Finset.sum_congr rfl fun x _ => congrArg _ (by ring)

theorem one_drop : ((1 : EReal) - 1) * ⊤ = 0 := by
  rw [show (1 : EReal) - 1 = 0 by rw [← EReal.coe_one, ← EReal.coe_sub]; simp, zero_mul]

theorem zero_drop : ((0 : EReal) - 1) * ⊤ = ⊥ := by
  rw [zero_sub, ← EReal.coe_one, ← EReal.coe_neg]
  exact EReal.coe_mul_top_of_neg (by norm_num)

include hq hk hkc in
open Classical in
theorem QK_eq (hu : Untied Q K) (s κ : Fin 2048) (hκ : κ.val ≤ s.val) :
    QK q k kc s κ = sc (fun t => sel Q K h (Nsa.blk s) (Nsa.blk t)) (score Q K h s) κ := by
  have hb : Nsa.blk κ ≤ Nsa.blk s := Nat.div_le_div_right hκ
  have hs := SELF_iff Q K h q kc hq hkc hu (Nsa.blk s) (Nsa.blk κ) hb
  have e1 : (∑ e : Fin 64, QA q kc (ix2 s (Fin.castAdd 64 e)) * KA k (ix2 κ (Fin.castAdd 64 e)) : EReal) = LOC q k s κ :=
    Finset.sum_congr rfl fun e _ => congrArg₂ (fun a b : EReal => a * b) (dif_pos e.isLt) (dif_pos e.isLt)
  have e2 : (∑ e : Fin 64, QA q kc (ix2 s (Fin.natAdd 64 e)) * KA k (ix2 κ (Fin.natAdd 64 e)) : EReal) = QA q kc (ix2 s (Fin.natAdd 64 (Nsa.blk κ))) := by
    refine (Finset.sum_eq_single (Nsa.blk κ) (fun e _ he => ?_) (fun hn => absurd (Finset.mem_univ _) hn)).trans ?_
    · have : KA k (ix2 κ (Fin.natAdd 64 e)) = (0 : EReal) :=
        (dif_neg (show ¬ 64 + e.val < 64 by omega)).trans (if_neg fun hc => he (Fin.ext (by
          have hc : κ.val / 32 = 64 + e.val - 64 := hc
          show e.val = κ.val / 32
          omega)))
      rw [this]
      exact mul_zero _
    · have : KA k (ix2 κ (Fin.natAdd 64 (Nsa.blk κ))) = (1 : EReal) :=
        (dif_neg (show ¬ 64 + (Nsa.blk κ).val < 64 by omega)).trans (if_pos (show κ.val / 32 = 64 + κ.val / 32 - 64 by omega))
      rw [this]
      exact mul_one _
  have e3 : QA q kc (ix2 s (Fin.natAdd 64 (Nsa.blk κ))) = if sel Q K h (Nsa.blk s) (Nsa.blk κ) then (0 : EReal) else ⊥ := by
    refine (dif_neg (show ¬ 64 + (Nsa.blk κ).val < 64 by omega)).trans ?_
    have ei : (⟨64 + (Nsa.blk κ).val - 64, by omega⟩ : Fin 64) = Nsa.blk κ := Fin.ext (by show 64 + (Nsa.blk κ).val - 64 = (Nsa.blk κ).val; omega)
    by_cases hc : sel Q K h (Nsa.blk s) (Nsa.blk κ)
    · rw [if_pos hc]
      refine Eq.trans (congrArg (fun a : EReal => (a - 1) * ⊤) (if_pos ?_)) one_drop
      exact (congrArg (SELF q kc (Nsa.blk s)) ei).mpr (hs.mpr hc)
    · rw [if_neg hc]
      refine Eq.trans (congrArg (fun a : EReal => (a - 1) * ⊤) (if_neg fun hn => hc (hs.mp ?_))) zero_drop
      exact (congrArg (SELF q kc (Nsa.blk s)) ei).mp hn
  have e0 : QK q k kc s κ = LOC q k s κ + QA q kc (ix2 s (Fin.natAdd 64 (Nsa.blk κ))) :=
    (Fin.sum_univ_add (fun e : Fin (64 + 64) => (QA q kc (ix2 s e) * KA k (ix2 κ e) : EReal))).trans (congrArg₂ (· + ·) e1 e2)
  rw [e0, e3, LOC_eq Q K h q k hq hk]
  unfold sc
  by_cases hc : sel Q K h (Nsa.blk s) (Nsa.blk κ)
  · rw [if_pos hc, if_pos hc, add_zero]
  · rw [if_neg hc, if_neg hc, EReal.add_bot]

/-! ## The weighted values -/

include hq hk hkc in
open Classical in
theorem AVS_eq (hu : Untied Q K) (s : Fin 2048) (d : Fin 128) (v : Fin 2048 → EReal) (hd : ∀ κ, ve (ix3 0 κ d) = v κ) :
    AVS q k ve kc s d = ∑ κ, (wt (smask Q K h s) (score Q K h s) κ : EReal) * v κ := by
  unfold AVS
  refine Finset.sum_congr rfl fun κ _ => ?_
  rw [hd]
  refine congrArg (· * _) ?_
  by_cases hκ : κ.val ≤ s.val
  · rw [if_pos hκ, QK_eq Q K h q k kc hq hk hkc hu s κ hκ, exp_sc]
    unfold wt
    exact congrArg _ (if_congr (and_iff_left (show κ ≤ s from hκ)).symm rfl rfl)
  · rw [if_neg hκ]
    unfold wt
    rw [if_neg fun hc => hκ hc.2, EReal.coe_zero]

include hq hk in
open Classical in
theorem AVW_eq (s : Fin 2048) (d : Fin 128) (v : Fin 2048 → EReal) (hd : ∀ κ, ve (ix3 0 κ d) = v κ) :
    AVW q k ve s d = ∑ κ, (wt (wmask s) (score Q K h s) κ : EReal) * v κ := by
  unfold AVW
  refine Finset.sum_congr rfl fun κ _ => ?_
  rw [hd]
  refine congrArg (· * _) ?_
  unfold wt
  by_cases hκ : κ.val ≤ s.val ∧ s.val < κ.val + 64
  · rw [if_pos hκ, if_pos (show wmask s κ from hκ), LOC_eq Q K h q k hq hk]
    rfl
  · rw [if_neg hκ, if_neg (show ¬ wmask s κ from hκ), EReal.coe_zero]

include hq hkc hvc in
open Classical in
theorem OUTC_eq (s : Fin 2048) (d : Fin 64) : OUTC q kc vc (ix2 s d) = comp Q K V h s d := by
  unfold comp
  by_cases hs : 31 ≤ s.val
  · rw [if_pos hs]
    refine (if_pos hs).trans ?_
    have h0 : cmask s 0 := by show 0 * 32 + 31 ≤ s.val; omega
    refine Eq.trans (congrArg₂ Ideal.div (?_ : _ = ∑ j, (wt (cmask s) (cscore Q K h s) j : EReal) * valueMean V h j d) (?_ : _ = ((∑ j, wt (cmask s) (cscore Q K h s) j : ℝ) : EReal))) (mean_div _ _ _ 0 h0)
    · rw [← sum_exp_mul]
      exact Finset.sum_congr rfl fun j _ => congrArg₂ (fun a b : EReal => Ideal.exp a * b) (SIMC_eq Q K h q kc hq hkc s j) (hvc j d)
    · rw [← sum_exp]
      exact Finset.sum_congr rfl fun j _ => congrArg Ideal.exp (SIMC_eq Q K h q kc hq hkc s j)
  · rw [if_neg hs]
    exact if_neg hs

include hq hk hv h1 hkc hvc in
/-- A head's row is its gates' combination of the three branches. -/
theorem HEADV_eq (hu : Untied Q K) (g : Vec Ideal S2048x48 .f32) (n : ℕ) (hn : n < 16) (s : Fin 2048) (d : Fin 64) (g0 g1 g2 : EReal)
    (e0 : ∀ hh, GT g n 0 hh (ix2 s 0) = g0) (e1 : ∀ hh, GT g n 1 hh (ix2 s 0) = g1) (e2 : ∀ hh, GT g n 2 hh (ix2 s 0) = g2) :
    HEADV q k ve kc vc g n hn s d = g0 * comp Q K V h s d + g1 * slct Q K V h s d + g2 * wind Q K V h s d := by
  have ps : smask Q K h s s := ⟨Nsa.sel_own Q K h _, le_refl s⟩
  have pw : wmask s s := ⟨le_refl s, by omega⟩
  unfold HEADV
  rw [e0, e1, e2, OUTC_eq Q K V h q kc vc hq hkc hvc, AVS_eq Q K h q k ve kc hq hk hkc hu s 64 (fun _ => 1) h1, AVW_eq Q K h q k ve hq hk s 64 (fun _ => 1) h1,
    AVS_eq Q K h q k ve kc hq hk hkc hu s ⟨d.val, lt_wide d⟩ (fun t => V h t d) (fun κ => hv κ d), AVW_eq Q K h q k ve hq hk s ⟨d.val, lt_wide d⟩ (fun t => V h t d) (fun κ => hv κ d)]
  simp only [mul_one, ← coe_sum]
  rw [div_mean _ _ _ _ s ps, div_mean _ _ _ _ s pw]
  rfl

end

end Cert.HeadReal

end
-- ==== Proof.Reference.Chosen.lean ====
module

public import proofs.«01_k».proof.Proof.Reference.Value

@[expose] public section

set_option maxRecDepth 16384

noncomputable section

/-! # The blocks the reference selects -/

namespace Cert.ReferenceIdeal.Read

open Cert.ReferenceIdeal Cert.ReferenceIdeal.Gen Idealize.ShloMosaic Idealize.ShloMosaic.TcCoe Idealize.ShloMosaic.Tactic
open Cert.Nsa Cert.Softmax

/-! ## A sort's first sixteen -/

/-- What sorts before. -/
def gtb (w : Fin 64 → EReal) (a b : Fin 64) : Bool := FloatOps.cmpfTotal (F := Ideal) (φ := .f32) .gt (w a) (w b) == 1#1

theorem gtb_iff (w : Fin 64 → EReal) (a b : Fin 64) : gtb w a b = true ↔ w b < w a := by
  have e : gtb w a b = (BitVec.ofBool (decide (w b < w a)) == 1#1) := rfl
  rw [e]
  by_cases h : w b < w a
  · rw [decide_eq_true h]; exact iff_of_true rfl h
  · rw [decide_eq_false h]; exact iff_of_false (by decide) h

theorem gtb_false (w : Fin 64 → EReal) (a b : Fin 64) : gtb w a b = false ↔ w a ≤ w b := by
  rw [← not_lt, ← gtb_iff, Bool.not_eq_true]

theorem sorted_le (w : Fin 64 → EReal) (a b : Fin 64) (h : a < b) : w (sortedFrom (gtb w) b) ≤ w (sortedFrom (gtb w) a) := by
  refine (gtb_false w _ _).mp (sortedFrom_noInversion (gtb w) (gtb w) (fun a b e => ?_) (fun a b e => e) (fun a b c e1 e2 => ?_) a b h)
  · exact (gtb_false w _ _).mpr ((gtb_iff w _ _).mp e).le
  · exact (gtb_false w _ _).mpr (((gtb_false w _ _).mp e1).trans ((gtb_false w _ _).mp e2))

theorem topk_index (y : S1x16x64x64.Idx → EReal) (hs : S1x16x64x64.Slices (fun _ => 0) S1x16x64x16) (w : Fin 64 → EReal) (h : Fin 16) (r : Fin 64) (t : Fin 16) (hw : ∀ j, y (ix4 0 h r j) = w j) :
    (Host.topK (α := EReal) S1x16x64x16 3 (FloatOps.cmpfTotal (F := Ideal) (φ := .f32) .gt) y hs).2 (ix4 0 h r t) = BitVec.ofNat 32 (sortedFrom (gtb w) ⟨t.val, by omega⟩).val := by
  have e : ∀ j, w j = y (ix4 0 h r j) := fun j => (hw j).symm
  obtain rfl : w = fun j => y (ix4 0 h r j) := funext e
  have hi : ∀ (i : S1x16x64x64.Idx), (i 0).val = 0 → (i 1).val = h.val → (i 2).val = r.val → ∀ k : Fin 64, i.along 3 k = ix4 0 h r k := by
    intro i h0 h1 h2 k
    funext a
    match a with
    | ⟨0, _⟩ => exact Fin.ext h0
    | ⟨1, _⟩ => exact Fin.ext h1
    | ⟨2, _⟩ => exact Fin.ext h2
    | ⟨3, _⟩ => rfl
  have key : ∀ (i : S1x16x64x64.Idx) (q : Fin 64), (i 0).val = 0 → (i 1).val = h.val → (i 2).val = r.val → i 3 = q →
      (BitVec.ofNat 32 ((i.along 3 (sortedFrom (fun k k' => FloatOps.cmpfTotal (F := Ideal) (φ := .f32) .gt (y (i.along 3 k)) (y (i.along 3 k')) == 1#1) (i 3))) 3).val)
        = BitVec.ofNat 32 (sortedFrom (gtb fun j => y (ix4 0 h r j)) q).val := by
    intro i q h0 h1 h2 h3
    have ef : (fun k k' : Fin 64 => FloatOps.cmpfTotal (F := Ideal) (φ := .f32) .gt (y (i.along 3 k)) (y (i.along 3 k')) == 1#1) = gtb fun j => y (ix4 0 h r j) := by
      funext k k'
      rw [hi i h0 h1 h2 k, hi i h0 h1 h2 k']
      rfl
    refine congrArg (BitVec.ofNat 32) ?_
    refine (congrArg (fun z : S1x16x64x64.Idx => (z 3).val) (hi i h0 h1 h2 _)).trans ?_
    show (sortedFrom (fun k k' : Fin 64 => FloatOps.cmpfTotal (F := Ideal) (φ := .f32) .gt (y (i.along 3 k)) (y (i.along 3 k')) == 1#1) (i 3)).val = _
    rw [ef, h3]
  exact key (fun a => ⟨0 + (ix4 (0 : Fin 1) h r t (a.cast hs.1.symm)).val, Nat.lt_of_lt_of_le (Nat.add_lt_add_left (ix4 (0 : Fin 1) h r t _).isLt _) (hs.2 a)⟩) ⟨t.val, by omega⟩
    (Nat.zero_add _) (Nat.zero_add _) (Nat.zero_add _) (Fin.ext (Nat.zero_add _))

variable (x : Vec Ideal S1x2048x1024 .f32) (wq wk wv wo : Vec Ideal S1024x1024 .f32) (wg : Vec Ideal S1024x48 .f32)
variable (X : Fin 2048 → Fin 1024 → ℝ) (A B : Fin 1024 → Fin 1024 → ℝ)
variable (hx : ∀ s e, x (ix3 0 s e) = (X s e : EReal)) (ha : ∀ a b, wq (ix2 a b) = (A a b : EReal)) (hb : ∀ a b, wk (ix2 a b) = (B a b : EReal))

/-! ## The ranks and the choice -/

include hx ha hb in
theorem ref_rank (h : Fin 16) (r j : Fin 64) : val_main_v70 (F := Ideal) x wq wk (ix4 0 h r j) = rank (proj X A) (proj X B) h r j := by
  unfold val_main_v70 val_main_v62 val_main_call2_v2 val_main_call2_v0 val_main_cst_14 val_main_call2_v1 val_main_v61 val_main_v60 val_main_v59 val_main_v57 val_main_v54 val_main_v58 val_main_v56 val_main_v55 val_main_call3_v2 val_main_call3_v0 val_main_cst_15 val_main_call3_v1 val_main_v69 val_main_v68 val_main_v67 val_main_v65 val_main_v66 val_main_v64 val_main_v63
  pointwise
  refine (select_of (eq_word j.val r.val (by omega) (by omega)) _ _).trans ?_
  rw [select_of (sle_word j.val r.val (by omega) (by omega))]
  unfold rank
  by_cases h1 : j = r
  · rw [if_pos (congrArg Fin.val h1), if_pos h1]
    exact bits_pinf
  rw [if_neg (fun e => h1 (Fin.ext e)), if_neg h1]
  by_cases h2 : j ≤ r
  swap
  · rw [if_neg (show ¬ j.val ≤ r.val from h2), if_neg h2]
    exact bits_ninf
  rw [if_pos (show j.val ≤ r.val from h2), if_pos h2]
  have hlt : j.val < r.val := lt_of_le_of_ne h2 fun e => h1 (Fin.ext e)
  have e : ∀ i : Fin 32, val_main_v34 (F := Ideal) x wq wk (ix4 0 h ⟨r.val * 32 + i.val, by omega⟩ j) = (cscore (proj X A) (proj X B) h ⟨r.val * 32 + i.val, by omega⟩ j : EReal) := by
    intro i
    rw [ref_simc x wq wk X A B hx ha hb]
    exact if_pos (show j.val * 32 + 31 ≤ r.val * 32 + i.val by omega)
  unfold val_main_v53 val_main_v52 val_main_cst_13 val_main_v51 val_main_cst_12 val_main_v50
  pointwise
  simp only [e, bits_32, ← coe_sum]
  exact div_coe _ _ (by norm_num)

include hx ha hb in
theorem ref_chosen (hu : Untied (proj X A) (proj X B)) (h : Fin 16) (s t : Fin 2048) (hle : t.val ≤ s.val) : val_main_v77 (F := Ideal) x wq wk (ix4 0 h (blk s) (blk t)) = 1#1 ↔ sel (proj X A) (proj X B) h (blk s) (blk t) := by
  have hb' : rank (proj X A) (proj X B) h (blk s) (blk t) ≠ ⊥ := (rank_ne_bot _ _).mpr (show t.val / 32 ≤ s.val / 32 by omega)
  generalize blk s = r at hb' ⊢
  generalize blk t = j at hb' ⊢
  have hw : ∀ q : Fin 16, val_main_v76 (F := Ideal) x wq wk (ix5 0 h r q j) = 1#1 ↔ sortedFrom (gtb (rank (proj X A) (proj X B) h r)) ⟨q.val, by omega⟩ = j := by
    intro q
    unfold val_main_v76 val_main_v75 val_main_v73 val_main_v72 val_main_v74 val_main_v71
    pointwise
    unfold val_main_indices
    rw [topk_index _ _ (rank (proj X A) (proj X B) h r) h r q (ref_rank x wq wk X A B hx ha hb h r)]
    refine (eq_word _ _ (by omega) (by omega)).trans Fin.ext_iff.symm
  have hsel := Ranks.sorted_iff (rank (proj X A) (proj X B) h r) (rank_clear _ _ hu h r) (sortedFrom (gtb (rank (proj X A) (proj X B) h r))) (sortedFrom_injective _) (sortedFrom_surjective _) (fun a b hab => sorted_le _ a b hab) j hb'
  unfold sel
  rw [← hsel]
  unfold val_main_v77
  refine (reduce_or _ _ reducesTo_S1x16x64x16x64_S1x16x64x64_d3 h_S_ (ix4 0 h r j) rfl).trans ?_
  constructor
  · rintro ⟨i, hi, e⟩
    have e1 := congrArg Fin.val (congrFun hi 1)
    have e2 := congrArg Fin.val (congrFun hi 2)
    have e3 := congrArg Fin.val (congrFun hi 3)
    have : i = ix5 0 h r (i 3) j := by
      funext a
      match a with
      | ⟨0, _⟩ => exact Fin.ext (by have : (i 0).val < 1 := (i 0).isLt; show (i 0).val = 0; omega)
      | ⟨1, _⟩ => exact Fin.ext e1
      | ⟨2, _⟩ => exact Fin.ext e2
      | ⟨3, _⟩ => rfl
      | ⟨4, _⟩ => exact Fin.ext e3
    rw [this] at e
    have h16 : (i 3).val < 16 := (i 3).isLt
    exact ⟨⟨(i 3).val, by omega⟩, h16, (hw (i 3)).mp e⟩
  · rintro ⟨q, hq, e⟩
    refine ⟨ix5 0 h r ⟨q.val, hq⟩ j, ?_, (hw ⟨q.val, hq⟩).mpr e⟩
    funext b
    match b with
    | ⟨0, _⟩ => rfl
    | ⟨1, _⟩ => rfl
    | ⟨2, _⟩ => rfl
    | ⟨3, _⟩ => rfl

end Cert.ReferenceIdeal.Read

end
-- ==== Proof.Reference.Branches.lean ====
module

public import proofs.«01_k».proof.Proof.Reference.Chosen

@[expose] public section

set_option maxRecDepth 16384

noncomputable section

/-! # The selection and window branches, and the result, of the reference -/

namespace Cert.ReferenceIdeal.Read

open Cert.ReferenceIdeal Cert.ReferenceIdeal.Gen Idealize.ShloMosaic Idealize.ShloMosaic.TcCoe Idealize.ShloMosaic.Tactic
open Cert.Nsa Cert.Softmax

variable (x : Vec Ideal S1x2048x1024 .f32) (wq wk wv wo : Vec Ideal S1024x1024 .f32) (wg : Vec Ideal S1024x48 .f32)
variable (X : Fin 2048 → Fin 1024 → ℝ) (A B : Fin 1024 → Fin 1024 → ℝ)
variable (hx : ∀ s e, x (ix3 0 s e) = (X s e : EReal)) (ha : ∀ a b, wq (ix2 a b) = (A a b : EReal)) (hb : ∀ a b, wk (ix2 a b) = (B a b : EReal))

/-! ## The scores -/

include hx ha hb in
theorem ref_sim (h : Fin 16) (s t : Fin 2048) : val_main_v83 (F := Ideal) x wq wk (ix4 0 h s t) = (score (proj X A) (proj X B) h s t : EReal) := by
  unfold val_main_v83 val_main_v82 val_main_cst_17 val_main_v81
  pointwise
  simp only [ref_q x wq X A hx ha, ref_k x wk X B hx hb, bits_eighth, ← EReal.coe_mul, ← coe_sum]
  rfl

theorem iota_at (s : Fin 2048) : val_main_v9 (F := Ideal) (ix1 s) = BitVec.ofNat 32 s.val := rfl

theorem choose_sc {ι : Type} (m : ι → Prop) (r : ι → ℝ) (j : ι) {c : BitVec 1} (hc : c = 1#1 ↔ m j) (a b : EReal) (ha : a = (r j : EReal)) (hb : b = ⊥) : Scalar.select c a b = sc m r j := by
  rw [select_of hc, ha, hb]
  rfl

include hx ha hb in
theorem ref_sims (hu : Untied (proj X A) (proj X B)) (h : Fin 16) (s t : Fin 2048) : val_main_v92 (F := Ideal) x wq wk (ix4 0 h s t) = sc (smask (proj X A) (proj X B) h s) (score (proj X A) (proj X B) h s) t := by
  unfold val_main_v92 val_main_call4_v1 val_main_call4_v0 val_main_cst_18 val_main_v91 val_main_v90 val_main_v89 val_main_v88 val_main_v87 val_main_v85 val_main_v86 val_main_v84
  pointwise
  refine choose_sc _ _ _ ?_ _ _ (ref_sim x wq wk X A B hx ha hb h s t) bits_ninf
  refine (and_of Iff.rfl (sle_word t.val s.val (by omega) (by omega))).trans ?_
  unfold smask
  refine and_congr_left fun hle => ?_
  unfold val_main_v80 val_main_v79 val_main_v78
  pointwise
  exact ref_chosen x wq wk X A B hx ha hb hu h s t hle

include hx ha hb in
theorem ref_simw (h : Fin 16) (s t : Fin 2048) : val_main_v114 (F := Ideal) x wq wk (ix4 0 h s t) = sc (wmask s) (score (proj X A) (proj X B) h s) t := by
  unfold val_main_v114 val_main_call5_v2 val_main_call5_v0 val_main_cst_23 val_main_call5_v1 val_main_v113 val_main_v112 val_main_v111 val_main_v110 val_main_v108 val_main_v107 val_main_c_22 val_main_v106 val_main_v109 val_main_v105 val_main_v88 val_main_v87 val_main_v85 val_main_v86 val_main_v84
  pointwise
  exact choose_sc (wmask s) (score (proj X A) (proj X B) h s) t (and_of (sle_word t.val s.val (by omega) (by omega)) (back_word s t)) _ _ (ref_sim x wq wk X A B hx ha hb h s t) bits_ninf

/-! ## The branches -/

theorem ref_maxs (h : Fin 16) (s : Fin 2048) (m : Fin 2048 → Prop) (r : Fin 2048 → ℝ) (e : ∀ j, val_main_v92 (F := Ideal) x wq wk (ix4 0 h s j) = sc m r j) (j : Fin 2048) (hj : m j) :
    ∃ M : ℝ, val_main_v95 (F := Ideal) x wq wk (ix3 0 h s) = (M : EReal) := by
  obtain ⟨M, hM⟩ := row_max (val_main_v92 (F := Ideal) x wq wk) (val_main_cst_19 (F := Ideal)) reducesTo_S1x16x2048x2048_S1x16x2048_d3 h_S_ bits_ninf h s m r e j hj
  refine ⟨M, ?_⟩
  rw [val_main_v95_apply, val_main_v94_apply]
  unfold val_main_v93
  rw [hM]
  refine (congrArg (max · (M : EReal)) bits_ninf).trans (max_eq_right bot_le)

theorem ref_exps (h : Fin 16) (s t : Fin 2048) : val_main_v99 (F := Ideal) x wq wk (ix4 0 h s t) = Ideal.exp (val_main_v92 (F := Ideal) x wq wk (ix4 0 h s t) - val_main_v95 (F := Ideal) x wq wk (ix3 0 h s)) := by
  rw [val_main_v99_apply, val_main_v98_apply, val_main_v97_apply, val_main_v96_apply]
  generalize val_main_v92 (F := Ideal) x wq wk = y
  generalize val_main_v95 (F := Ideal) x wq wk = z
  refine congrArg (fun i => Ideal.exp (y (ix4 0 h s t) - z i)) ?_
  funext a
  match a with
  | ⟨0, _⟩ => rfl
  | ⟨1, _⟩ => rfl
  | ⟨2, _⟩ => rfl

theorem ref_sums (h : Fin 16) (s : Fin 2048) : val_main_v100 (F := Ideal) x wq wk (ix3 0 h s) = ∑ t : Fin 2048, val_main_v99 (F := Ideal) x wq wk (ix4 0 h s t) := by
  rw [val_main_v100_apply]
  refine (congrArg₂ (· + ·) bits_zero (Finset.sum_congr rfl fun t _ => congrArg (val_main_v99 (F := Ideal) x wq wk) ?_)).trans (zero_add _)
  funext a
  match a with
  | ⟨0, _⟩ => rfl
  | ⟨1, _⟩ => rfl
  | ⟨2, _⟩ => rfl
  | ⟨3, _⟩ => rfl

theorem ref_quos (h : Fin 16) (s t : Fin 2048) : val_main_v103 (F := Ideal) x wq wk (ix4 0 h s t) = Ideal.div (val_main_v99 (F := Ideal) x wq wk (ix4 0 h s t)) (val_main_v100 (F := Ideal) x wq wk (ix3 0 h s)) := by
  unfold val_main_v103 val_main_v102 val_main_v101
  pointwise

theorem ref_muls (h : Fin 16) (s : Fin 2048) (d : Fin 64) : val_main_v104 (F := Ideal) x wq wk wv (ix4 0 h s d) = ∑ t : Fin 2048, val_main_v103 (F := Ideal) x wq wk (ix4 0 h s t) * val_main_v8 (F := Ideal) x wv (ix4 0 h t d) := by
  rw [val_main_v104_apply]
  refine Finset.sum_congr rfl fun t _ => congrArg₂ (· * ·) (congrArg (val_main_v103 (F := Ideal) x wq wk) ?_) (congrArg (val_main_v8 (F := Ideal) x wv) ?_)
  all_goals
    funext a
    match a with
    | ⟨0, _⟩ => rfl
    | ⟨1, _⟩ => rfl
    | ⟨2, _⟩ => rfl
    | ⟨3, _⟩ => rfl

theorem ref_softs (h : Fin 16) (s : Fin 2048) (d : Fin 64) (m : Fin 2048 → Prop) (r : Fin 2048 → ℝ) (e : ∀ j, val_main_v92 (F := Ideal) x wq wk (ix4 0 h s j) = sc m r j) (j : Fin 2048) (hj : m j) :
    val_main_v104 (F := Ideal) x wq wk wv (ix4 0 h s d) = mean m r (fun t => vals x wv h t d) := by
  obtain ⟨M, hM⟩ := ref_maxs x wq wk h s m r e j hj
  rw [ref_muls]
  simp only [ref_quos, ref_sums, ref_exps, hM, e, ref_v x wv]
  exact softmax_eq m r _ M j hj

theorem ref_maxw (h : Fin 16) (s : Fin 2048) (m : Fin 2048 → Prop) (r : Fin 2048 → ℝ) (e : ∀ j, val_main_v114 (F := Ideal) x wq wk (ix4 0 h s j) = sc m r j) (j : Fin 2048) (hj : m j) :
    ∃ M : ℝ, val_main_v117 (F := Ideal) x wq wk (ix3 0 h s) = (M : EReal) := by
  obtain ⟨M, hM⟩ := row_max (val_main_v114 (F := Ideal) x wq wk) (val_main_cst_24 (F := Ideal)) reducesTo_S1x16x2048x2048_S1x16x2048_d3 h_S_ bits_ninf h s m r e j hj
  refine ⟨M, ?_⟩
  rw [val_main_v117_apply, val_main_v116_apply]
  unfold val_main_v115
  rw [hM]
  refine (congrArg (max · (M : EReal)) bits_ninf).trans (max_eq_right bot_le)

theorem ref_expw (h : Fin 16) (s t : Fin 2048) : val_main_v121 (F := Ideal) x wq wk (ix4 0 h s t) = Ideal.exp (val_main_v114 (F := Ideal) x wq wk (ix4 0 h s t) - val_main_v117 (F := Ideal) x wq wk (ix3 0 h s)) := by
  rw [val_main_v121_apply, val_main_v120_apply, val_main_v119_apply, val_main_v118_apply]
  generalize val_main_v114 (F := Ideal) x wq wk = y
  generalize val_main_v117 (F := Ideal) x wq wk = z
  refine congrArg (fun i => Ideal.exp (y (ix4 0 h s t) - z i)) ?_
  funext a
  match a with
  | ⟨0, _⟩ => rfl
  | ⟨1, _⟩ => rfl
  | ⟨2, _⟩ => rfl

theorem ref_sumw (h : Fin 16) (s : Fin 2048) : val_main_v122 (F := Ideal) x wq wk (ix3 0 h s) = ∑ t : Fin 2048, val_main_v121 (F := Ideal) x wq wk (ix4 0 h s t) := by
  rw [val_main_v122_apply]
  refine (congrArg₂ (· + ·) bits_zero (Finset.sum_congr rfl fun t _ => congrArg (val_main_v121 (F := Ideal) x wq wk) ?_)).trans (zero_add _)
  funext a
  match a with
  | ⟨0, _⟩ => rfl
  | ⟨1, _⟩ => rfl
  | ⟨2, _⟩ => rfl
  | ⟨3, _⟩ => rfl

theorem ref_quow (h : Fin 16) (s t : Fin 2048) : val_main_v125 (F := Ideal) x wq wk (ix4 0 h s t) = Ideal.div (val_main_v121 (F := Ideal) x wq wk (ix4 0 h s t)) (val_main_v122 (F := Ideal) x wq wk (ix3 0 h s)) := by
  unfold val_main_v125 val_main_v124 val_main_v123
  pointwise

theorem ref_mulw (h : Fin 16) (s : Fin 2048) (d : Fin 64) : val_main_v126 (F := Ideal) x wq wk wv (ix4 0 h s d) = ∑ t : Fin 2048, val_main_v125 (F := Ideal) x wq wk (ix4 0 h s t) * val_main_v8 (F := Ideal) x wv (ix4 0 h t d) := by
  rw [val_main_v126_apply]
  refine Finset.sum_congr rfl fun t _ => congrArg₂ (· * ·) (congrArg (val_main_v125 (F := Ideal) x wq wk) ?_) (congrArg (val_main_v8 (F := Ideal) x wv) ?_)
  all_goals
    funext a
    match a with
    | ⟨0, _⟩ => rfl
    | ⟨1, _⟩ => rfl
    | ⟨2, _⟩ => rfl
    | ⟨3, _⟩ => rfl

theorem ref_softw (h : Fin 16) (s : Fin 2048) (d : Fin 64) (m : Fin 2048 → Prop) (r : Fin 2048 → ℝ) (e : ∀ j, val_main_v114 (F := Ideal) x wq wk (ix4 0 h s j) = sc m r j) (j : Fin 2048) (hj : m j) :
    val_main_v126 (F := Ideal) x wq wk wv (ix4 0 h s d) = mean m r (fun t => vals x wv h t d) := by
  obtain ⟨M, hM⟩ := ref_maxw x wq wk h s m r e j hj
  rw [ref_mulw]
  simp only [ref_quow, ref_sumw, ref_expw, hM, e, ref_v x wv]
  exact softmax_eq m r _ M j hj

include hx ha hb in
theorem ref_slct (hu : Untied (proj X A) (proj X B)) (h : Fin 16) (s : Fin 2048) (d : Fin 64) : val_main_v104 (F := Ideal) x wq wk wv (ix4 0 h s d) = slct (proj X A) (proj X B) (vals x wv) h s d :=
  ref_softs x wq wk wv h s d _ _ (ref_sims x wq wk X A B hx ha hb hu h s) s ⟨sel_own _ _ _ _, le_rfl⟩

include hx ha hb in
theorem ref_wind (h : Fin 16) (s : Fin 2048) (d : Fin 64) : val_main_v126 (F := Ideal) x wq wk wv (ix4 0 h s d) = wind (proj X A) (proj X B) (vals x wv) h s d :=
  ref_softw x wq wk wv h s d _ _ (ref_simw x wq wk X A B hx ha hb h s) s ⟨le_rfl, by omega⟩

/-! ## The result -/

/-- A gate. -/
def gate (x : Vec Ideal S1x2048x1024 .f32) (wg : Vec Ideal S1024x48 .f32) (h : Fin 16) (s : Fin 2048) (g : Fin 3) : EReal :=
  Ideal.logistic (∑ e : Fin 1024, x (ix3 0 s e) * wg (ix2 e ⟨3 * h.val + g.val, by omega⟩))

theorem ref_gate (h : Fin 16) (s : Fin 2048) (g : Fin 3) : val_main_v135 (F := Ideal) x wg (ix4 0 h s g) = gate x wg h s g := by
  unfold val_main_v135 val_main_v134 val_main_v132 val_main_v130 val_main_v129 val_main_v128 val_main_v127 val_main_v131 val_main_cst_27 val_main_v133 val_main_cst_28
  pointwise
  unfold gate Ideal.logistic
  have e : (⟨h.val * 3 + g.val, by omega⟩ : Fin 48) = ⟨3 * h.val + g.val, by omega⟩ := Fin.ext (congrArg (· + g.val) (Nat.mul_comm _ _))
  rw [e]

/-- The result. -/
def result (x : Vec Ideal S1x2048x1024 .f32) (wo : Vec Ideal S1024x1024 .f32) (wg : Vec Ideal S1024x48 .f32) (Q K : Fin 16 → Fin 2048 → Fin 64 → ℝ) (V : Fin 16 → Fin 2048 → Fin 64 → EReal) (s : Fin 2048) (c : Fin 1024) : EReal :=
  ∑ e : Fin 1024, (gate x wg ⟨e.val / 64, by omega⟩ s 0 * comp Q K V ⟨e.val / 64, by omega⟩ s ⟨e.val % 64, by omega⟩
    + gate x wg ⟨e.val / 64, by omega⟩ s 1 * slct Q K V ⟨e.val / 64, by omega⟩ s ⟨e.val % 64, by omega⟩
    + gate x wg ⟨e.val / 64, by omega⟩ s 2 * wind Q K V ⟨e.val / 64, by omega⟩ s ⟨e.val % 64, by omega⟩) * wo (ix2 e c)

include hx ha hb in
theorem ref_result (hu : Untied (proj X A) (proj X B)) (s : Fin 2048) (c : Fin 1024) : val_main_v149 (F := Ideal) x wq wk wv wg wo (ix3 0 s c) = result x wo wg (proj X A) (proj X B) (vals x wv) s c := by
  have e1 : ∀ (h : Fin 16) (d : Fin 64), val_main_v146 (F := Ideal) x wq wk wv wg (ix4 0 h s d) = gate x wg h s 0 * comp (proj X A) (proj X B) (vals x wv) h s d + gate x wg h s 1 * slct (proj X A) (proj X B) (vals x wv) h s d + gate x wg h s 2 * wind (proj X A) (proj X B) (vals x wv) h s d := by
    intro h d
    unfold val_main_v146 val_main_v145 val_main_v144 val_main_v143 val_main_v142 val_main_v141 val_main_v140 val_main_v139 val_main_v138 val_main_v137 val_main_v136
    pointwise
    rw [ref_gate, ref_gate, ref_gate, ref_comp x wq wk wv X A B hx ha hb, ref_slct x wq wk wv X A B hx ha hb hu, ref_wind x wq wk wv X A B hx ha hb]
  unfold val_main_v149 val_main_v148 val_main_v147
  pointwise
  simp only [e1]
  rfl

end Cert.ReferenceIdeal.Read

end
-- ==== Proof.KernelIdeal.Value.lean ====
/- What the program's result holds, over the reals. -/
module

public import proofs.«01_k».proof.Proof.KernelIdeal.Main
public import proofs.«01_k».proof.Proof.KernelIdeal.Arrays0
public import proofs.«01_k».proof.Proof.KernelIdeal.Arrays1
public import proofs.«01_k».proof.Proof.KernelIdeal.HeadReal
public import proofs.«01_k».proof.Proof.Reference.Branches

@[expose] public section

set_option maxRecDepth 16384

noncomputable section

namespace Cert.HeadReal

open Idealize.ShloMosaic Idealize.ShloMosaic.TcCoe Idealize.ShloMosaic.Tactic
open Cert.KernelIdeal Cert.Softmax
open Cert.KernelIdeal.Gen (xw fcol AQ AK AV AC Gg GT hq hv hc OUTV HEADV sum_stretch V1 V4 V0 outs)
open Cert.Nsa (proj blockMean valueMean comp slct wind Untied)
open Cert.ReferenceIdeal.Read (sum_proj vals bits_32 gate result bits_zero bits_one bits_eighth bits_32nd)

section

variable (x : Vec Ideal S1x2048x1024 .f32) (x2 : Vec Ideal S2048x1024 .f32) (wq wk wv wo : Vec Ideal S1024x1024 .f32) (wg : Vec Ideal S1024x48 .f32)
variable (X : Fin 2048 → Fin 1024 → ℝ) (A B : Fin 1024 → Fin 1024 → ℝ)
variable (hx : ∀ s e, x (ix3 0 s e) = (X s e : EReal)) (hx2 : ∀ s e, x2 (ix2 s e) = x (ix3 0 s e))
variable (ha : ∀ a b, wq (ix2 a b) = (A a b : EReal)) (hb : ∀ a b, wk (ix2 a b) = (B a b : EReal))

/-! ## The first call's arrays -/

include hx hx2 in
theorem xw_eq (w : Vec Ideal S1024x1024 .f32) (W : Fin 1024 → Fin 1024 → ℝ) (hw : ∀ a b, w (ix2 a b) = (W a b : EReal)) (h : Fin 16) (s : Fin 2048) (d : Fin 64) :
    xw x2 w s (fcol h d) = (proj X W h s d : EReal) := by
  unfold xw
  simp only [hx2]
  exact sum_proj x X hx w W hw h s d _ (by show 64 * h.val + d.val = h.val * 64 + d.val; omega)

include hx hx2 ha in
theorem AQ_eq (h : Fin 16) (s : Fin 2048) (d : Fin 64) : hq (AQ x2 wq) h (ix3 0 s d) = ((proj X A h s d * 0.125 : ℝ) : EReal) := by
  refine Eq.trans (b := xw x2 wq s (fcol h d) * Ideal.ofBits .f32 0x3E000000#32) rfl ?_
  rw [xw_eq x x2 X hx hx2 wq A ha, bits_eighth, EReal.coe_mul]

include hx hx2 hb in
theorem AK_eq (h : Fin 16) (s : Fin 2048) (d : Fin 64) : hq (AK x2 wk) h (ix3 0 s d) = (proj X B h s d : EReal) :=
  xw_eq x x2 X hx hx2 wk B hb h s d

include hx2 in
theorem xw_vals (w : Vec Ideal S1024x1024 .f32) (h : Fin 16) (s : Fin 2048) (d : Fin 64) : xw x2 w s (fcol h d) = vals x w h s d := by
  have e : fcol h d = ⟨h.val * 64 + d.val, by omega⟩ := Fin.ext (by show 64 * h.val + d.val = h.val * 64 + d.val; omega)
  rw [e]
  unfold xw vals
  simp only [hx2]

include hx2 in
theorem AV_eq (h : Fin 16) (s : Fin 2048) (d : Fin 64) : hv (AV x2 wv) h (ix3 0 s ⟨d.val, lt_wide d⟩) = vals x wv h s d :=
  (dif_pos d.isLt).trans (xw_vals x x2 hx2 wv h s d)

theorem AV_one (h : Fin 16) (s : Fin 2048) : hv (AV x2 wv) h (ix3 0 s 64) = (1 : EReal) := by
  refine Eq.trans (b := Ideal.ofBits .f32 0x3F800000#32) ?_ bits_one
  have e : ∀ y : S16x2048x128.Idx, (y 2).val = 64 → AV x2 wv y = Ideal.ofBits .f32 0x3F800000#32 := fun y hy => by
    unfold AV
    rw [dif_neg (by omega), if_pos hy]
  exact e _ rfl

/-- A block's product with the averaging matrix is a thirty-second of its sum. -/
theorem AC_sum (w : Vec Ideal S1024x1024 .f32) (h : Fin 16) (j d : Fin 64) :
    hc (AC x2 w) h (ix3 0 j d) = ∑ k : Fin 32, ((1 / 32 : ℝ) : EReal) * xw x2 w ⟨32 * j.val + k.val, by omega⟩ (fcol h d) := by
  refine Eq.trans (b := ∑ k : Fin 512, (if k.val / 32 = j.val % 16 then Ideal.ofBits .f32 0x3D000000#32 else Ideal.ofBits .f32 0x00000000#32)
    * xw x2 w ⟨512 * (j.val / 16) + k.val, by omega⟩ (fcol h d)) rfl ?_
  rw [bits_zero, bits_32nd]
  have e := sum_stretch (512 * (j.val / 16)) 512 (by omega) (fun κ => (if κ.val / 32 = j.val then ((1 / 32 : ℝ) : EReal) else 0) * xw x2 w κ (fcol h d))
    (fun κ hκ => by rw [if_neg (by omega), zero_mul])
  have e' := sum_stretch (32 * j.val) 32 (by omega) (fun κ => (if κ.val / 32 = j.val then ((1 / 32 : ℝ) : EReal) else 0) * xw x2 w κ (fcol h d))
    (fun κ hκ => by rw [if_neg (by omega), zero_mul])
  refine Eq.trans (Finset.sum_congr rfl fun k _ => congrArg (· * _) (if_congr (by show _ ↔ (512 * (j.val / 16) + k.val) / 32 = j.val; omega) rfl rfl)) (e.trans (e'.symm.trans ?_))
  exact Finset.sum_congr rfl fun k _ => congrArg (· * _) (if_pos (by show (32 * j.val + k.val) / 32 = j.val; omega))

include hx hx2 in
theorem AC_eq (w : Vec Ideal S1024x1024 .f32) (W : Fin 1024 → Fin 1024 → ℝ) (hw : ∀ a b, w (ix2 a b) = (W a b : EReal)) (h : Fin 16) (j d : Fin 64) :
    hc (AC x2 w) h (ix3 0 j d) = (blockMean (proj X W) h j d : EReal) := by
  rw [AC_sum]
  unfold blockMean
  rw [div_eq_mul_one_div (∑ k : Fin 32, proj X W h ⟨j.val * 32 + k.val, by omega⟩ d), Finset.sum_mul, coe_sum]
  refine Finset.sum_congr rfl fun k _ => ?_
  rw [xw_eq x x2 X hx hx2 w W hw, mul_comm, EReal.coe_mul]
  exact congrArg (fun s => (proj X W h s d : EReal) * _) (Fin.ext (by show 32 * j.val + k.val = j.val * 32 + k.val; omega))

include hx2 in
theorem AC_vals (w : Vec Ideal S1024x1024 .f32) (h : Fin 16) (j d : Fin 64) : hc (AC x2 w) h (ix3 0 j d) = valueMean (vals x w) h j d := by
  rw [AC_sum, ← mul_sum _ (by norm_num)]
  unfold valueMean Ideal.div
  rw [if_neg (by rw [← EReal.coe_zero]; exact fun e => absurd (EReal.coe_eq_coe_iff.mp e) (by norm_num)), ← EReal.coe_inv, mul_comm, one_div]
  refine congrArg (· * _) (Finset.sum_congr rfl fun k _ => (xw_vals x x2 hx2 w h _ d).trans ?_)
  exact congrArg (fun s => vals x w h s d) (Fin.ext (by show 32 * j.val + k.val = j.val * 32 + k.val; omega))

include hx2 in
theorem GT_eq (h : Fin 16) (g : Fin 3) (s : Fin 2048) (hh : 3 * h.val + g.val < 48) : GT (Gg x2 wg) h.val g.val hh (ix2 s 0) = gate x wg h s g := by
  refine Eq.trans (b := Ideal.logistic (∑ e : Fin 1024, x2 (ix2 s e) * wg (ix2 e ⟨3 * h.val + g.val, hh⟩))) rfl ?_
  simp only [hx2]
  rfl

include hx hx2 ha hb in
/-- The result, from the first call's arrays. -/
theorem OUTV_eq (hu : Untied (proj X A) (proj X B)) (s : Fin 2048) (c : Fin 1024) :
    OUTV (AQ x2 wq) (AK x2 wk) (AV x2 wv) (AC x2 wk) (AC x2 wv) (Gg x2 wg) wo (ix2 s c) = result x wo wg (proj X A) (proj X B) (vals x wv) s c := by
  unfold OUTV result
  refine Finset.sum_congr rfl fun e _ => congrArg (fun a : EReal => a * wo (ix2 e c)) ?_
  exact HEADV_eq (proj X A) (proj X B) (vals x wv) ⟨e.val / 64, by omega⟩ _ _ _ _ _ (AQ_eq x x2 wq X A hx hx2 ha _) (AK_eq x x2 wk X B hx hx2 hb _) (AV_eq x x2 wv hx2 _) (AV_one x2 wv _)
    (AC_eq x x2 X hx hx2 wk B hb _) (AC_vals x x2 hx2 wv _) hu (Gg x2 wg) (e.val / 64) (by omega) s ⟨e.val % 64, by omega⟩ _ _ _
    (GT_eq x x2 wg hx2 ⟨e.val / 64, by omega⟩ 0 s) (GT_eq x x2 wg hx2 ⟨e.val / 64, by omega⟩ 1 s) (GT_eq x x2 wg hx2 ⟨e.val / 64, by omega⟩ 2 s)

end

/-! ## The program's result -/

variable (m : (ℓ : Loc nD τ sig) → Buf (Elt Ideal) ℓ)

theorem after_first (W : Valuation τ sig (Elt Ideal)) (s : Fin 2048) (e : Fin 1024) : StableHlo.after Gen.hostOps0 W main_v0 (ix2 s e) = W main_arg0 (ix3 0 s e) := by
  have h : StableHlo.after Gen.hostOps0 W main_v0 = shapeCast S2048x1024 (W main_arg0) Gen.shapeCasts_S1x2048x1024_S2048x1024 := rfl
  rw [h]
  generalize W main_arg0 = y
  pointwise

/-- The first operation lays the rows out. -/
theorem V1_rows (c : Dev nD) (s : Fin 2048) (e : Fin 1024) : V1 m c main_v0 (ix2 s e) = m ((c.tc : Thread nD τ).loc main_arg0) (ix3 0 s e) :=
  after_first _ s e

theorem after_last (W : Valuation τ sig (Elt Ideal)) (s : Fin 2048) (e : Fin 1024) : StableHlo.after Gen.hostOps2 W main_v3 (ix3 0 s e) = W main_v2 (ix2 s e) := by
  have h : StableHlo.after Gen.hostOps2 W main_v3 = shapeCast S1x2048x1024 (W main_v2) Gen.shapeCasts_S2048x1024_S1x2048x1024 := rfl
  rw [h]
  generalize W main_v2 = y
  pointwise

/-- The last operation gives the result its shape. -/
theorem V4_result (c : Dev nD) (s : Fin 2048) (e : Fin 1024) : V4 m (outs m) c main_v3 (ix3 0 s e) = Gen.VB m c main_v2 (ix2 s e) :=
  (after_last _ s e).trans (congrFun (congrFun (Gen.V3_outs m c) main_v2) (ix2 s e))

end Cert.HeadReal

end
-- ==== Proof.Precondition.lean ====
/- What the precondition says: finite arguments, and no tie between the blocks that are ranked. -/
module

public import proofs.«01_k».proof.Pre_distinct
public import proofs.«01_k».proof.Proof.Reference.Value
public import Idealize.ShloMosaic.Lib.Pointwise
public import Idealize.ShloMosaic.Lib.WordCmp
public import Idealize.ShloMosaic.PureOps.Ideal.Laws

@[expose] public section

set_option maxRecDepth 16384

noncomputable section

namespace Cert.Pre_distinct

open Idealize.ShloMosaic Idealize.ShloMosaic.TcCoe Idealize.ShloMosaic.Tactic
open Cert.Nsa Cert.Softmax

/-! ## The operations' side conditions -/

instance facts : Facts where
  shapeCasts_S1x2048x1024_S64x32x16x64 := by decide
  reducesTo_S64x32x16x64_S64x16x64_d1 := by decide
  h_S_ := by decide
  bcast_S_S16x64x64x64 := by decide
  bcast_S16x64x64_S16x64x64x1_0_1_2 := by decide
  bcast_S16x64x64_S16x64x1x64_0_1_3 := by decide
  bcast_S16x64x64x1_S16x64x64x64_0_1_2_3 := by decide
  bcast_S16x64x1x64_S16x64x64x64_0_1_2_3 := by decide
  reducesTo_S16x64x64x64_S_d0_1_2_3 := by decide
  bcast_S_S1x2048x1024 := by decide
  reducesTo_S1x2048x1024_S_d0_1_2 := by decide
  bcast_S_S1024x1024 := by decide
  reducesTo_S1024x1024_S_d0_1 := by decide
  dot_S1x2048x1024_S1024x1024_S1x2048x1024_2_0_01_1_n_n_wf := by decide
  dot_S64x16x64_S64x16x64_S16x64x64_2_2_0_0_1_1_wf := by decide

/-! ## Words -/

theorem and_split : ∀ {a b : BitVec 1}, IntOp.andi a b = 1#1 → a = 1#1 ∧ b = 1#1 := by decide

theorem or_not : ∀ {a b : BitVec 1}, a ||| (~~~ b) = 1#1 → b = 1#1 → a = 1#1 := by decide

/-- A number whose magnitude is below infinity is real. -/
theorem real_of (a : EReal) (h : FloatOps.cmpf (F := Ideal) (φ := .f32) .olt (FloatOps.hostAbsf (F := Ideal) (φ := .f32) a) (Ideal.ofBits .f32 0x7F800000#32) = 1#1) : ∃ r : ℝ, a = (r : EReal) := by
  have e : Ideal.ofBits .f32 0x7F800000#32 = (⊤ : EReal) := by simp [Ideal.ofBits, Ideal.ieee]
  rw [e] at h
  have h' : max a (-a) < ⊤ := by
    have h2 : BitVec.ofBool (decide (max a (-a) < (⊤ : EReal))) = 1#1 := h
    by_contra hn
    rw [decide_eq_false hn] at h2
    exact absurd h2 (by decide)
  rw [max_lt_iff] at h'
  induction a using EReal.rec with
  | bot => exact absurd h'.2 (by simp)
  | coe r => exact ⟨r, rfl⟩
  | top => exact absurd h'.1 (by simp)

/-! ## The scores compared -/

variable (x : Vec Ideal S1x2048x1024 .f32) (wq wk wv wo : Vec Ideal S1024x1024 .f32) (wg : Vec Ideal S1024x48 .f32)

open Facts in
/-- The sums of a block's projections. -/
def sums (w : Vec Ideal S1024x1024 .f32) : FVec Ideal S64x16x64 .f32 :=
  Host.reduceAdd (shapeCast S64x32x16x64 (Host.dotGeneral (F := Ideal) (φ₁ := .f32) (φ₂ := .f32) dot_S1x2048x1024_S1024x1024_S1x2048x1024_2_0_01_1_n_n none x w : FVec Ideal S1x2048x1024 .f32) shapeCasts_S1x2048x1024_S64x32x16x64)
    (constant (F := Ideal) S_ .f32 0x00000000#32) reducesTo_S64x32x16x64_S64x16x64_d1 h_S_

/-- The products of the sums. -/
def prods : FVec Ideal S16x64x64 .f32 := Host.dotGeneral (F := Ideal) dot_S64x16x64_S64x16x64_S16x64x64_2_2_0_0_1_1 none (sums x wq) (sums x wk)

theorem sums_eq (w : Vec Ideal S1024x1024 .f32) (X : Fin 2048 → Fin 1024 → ℝ) (W : Fin 1024 → Fin 1024 → ℝ) (hx : ∀ s e, x (ix3 0 s e) = (X s e : EReal)) (hw : ∀ a b, w (ix2 a b) = (W a b : EReal))
    (n : Fin 64) (h : Fin 16) (d : Fin 64) : sums x w (ix3 n h d) = ((∑ k : Fin 32, proj X W h ⟨n.val * 32 + k.val, by omega⟩ d : ℝ) : EReal) := by
  unfold sums
  pointwise
  rw [coe_sum]
  exact Finset.sum_congr rfl fun k _ => Cert.ReferenceIdeal.Read.sum_proj x X hx w W hw h _ d _ rfl

theorem prods_eq (X : Fin 2048 → Fin 1024 → ℝ) (A B : Fin 1024 → Fin 1024 → ℝ) (hx : ∀ s e, x (ix3 0 s e) = (X s e : EReal))
    (ha : ∀ a b, wq (ix2 a b) = (A a b : EReal)) (hb : ∀ a b, wk (ix2 a b) = (B a b : EReal)) (h : Fin 16) (n j : Fin 64) :
    prods x wq wk (ix3 h n j) = ((bscore (proj X A) (proj X B) h n j * 8192 : ℝ) : EReal) := by
  unfold prods
  generalize e1 : sums x wq = y
  generalize e2 : sums x wk = z
  pointwise
  subst e1 e2
  simp only [sums_eq x wq X A hx ha, sums_eq x wk X B hx hb, ← EReal.coe_mul]
  rw [← coe_sum]
  refine congrArg _ ?_
  unfold bscore cscore blockMean
  rw [← Finset.sum_mul, Finset.sum_comm]
  simp only [← Finset.sum_mul, mul_div_assoc']
  simp only [← Finset.sum_div, ← Finset.sum_mul]
  ring

/-! ## What the function says -/

theorem row_first (y : FVec Ideal S16x64x64 .f32) (h : Fin 16) (n a b : Fin 64) :
    broadcastInDim S16x64x64x64 ![0, 1, 2, 3] Facts.bcast_S16x64x64x1_S16x64x64x64_0_1_2_3 (broadcastInDim S16x64x64x1 ![0, 1, 2] Facts.bcast_S16x64x64_S16x64x64x1_0_1_2 y) (ix4 h n a b) = y (ix3 h n a) := by
  pointwise

theorem row_second (y : FVec Ideal S16x64x64 .f32) (h : Fin 16) (n a b : Fin 64) :
    broadcastInDim S16x64x64x64 ![0, 1, 2, 3] Facts.bcast_S16x64x1x64_S16x64x64x64_0_1_2_3 (broadcastInDim S16x64x1x64 ![0, 1, 3] Facts.bcast_S16x64x64_S16x64x1x64_0_1_3 y) (ix4 h n a b) = y (ix3 h n b) := by
  pointwise

theorem differ_of {a b : EReal} (h : FloatOps.cmpf (F := Ideal) (φ := .f32) .une a b = 1#1) : a ≠ b := by
  have h2 : BitVec.ofBool (decide (a ≠ b)) = 1#1 := h
  intro hn
  rw [decide_eq_false (fun hc => hc hn)] at h2
  exact absurd h2 (by decide)

theorem slt_word (a b : ℕ) (ha : a < 4096) (hb : b < 4096) : IntOp.cmpi CmpIPredicate.slt (BitVec.ofNat 32 a) (BitVec.ofNat 32 b) = 1#1 ↔ a < b := by word_cmp

theorem sge_word : ∀ n : Fin 64, 16 ≤ n.val → IntOp.cmpi CmpIPredicate.sge (BitVec.ofNat 32 n.val) 16#32 = 1#1 := by decide +kernel

open Facts in
/-- The pairs that are compared. -/
theorem ranked (h : Fin 16) (n a b : Fin 64) (hn : 16 ≤ n.val) (hab : a < b) (hbn : b < n) :
    andi (andi (cmpi CmpIPredicate.sge (iotaInDim S16x64x64x64 32 1) (broadcastInDim S16x64x64x64 ![] bcast_S_S16x64x64x64 (constantI S_ 32 16#32)))
      (cmpi CmpIPredicate.slt (iotaInDim S16x64x64x64 32 2) (iotaInDim S16x64x64x64 32 3))) (cmpi CmpIPredicate.slt (iotaInDim S16x64x64x64 32 3) (iotaInDim S16x64x64x64 32 1)) (ix4 h n a b) = 1#1 := by
  have e : IntOp.andi (IntOp.andi (IntOp.cmpi CmpIPredicate.sge (BitVec.ofNat 32 n.val) 16#32) (IntOp.cmpi CmpIPredicate.slt (BitVec.ofNat 32 a.val) (BitVec.ofNat 32 b.val)))
      (IntOp.cmpi CmpIPredicate.slt (BitVec.ofNat 32 b.val) (BitVec.ofNat 32 n.val)) = 1#1 := by
    rw [sge_word n hn, (slt_word a.val b.val (by omega) (by omega)).mpr hab, (slt_word b.val n.val (by omega) (by omega)).mpr hbn]
    rfl
  exact e

/-- The function's bit, as its four parts. -/
theorem parts (e : fn (F := Ideal) x wq wk wv wg wo = fun _ => 1#1) :
    (∀ i, ∃ r : ℝ, x i = (r : EReal)) ∧ (∀ i, ∃ r : ℝ, wq i = (r : EReal)) ∧ (∀ i, ∃ r : ℝ, wk i = (r : EReal))
      ∧ ∀ (h : Fin 16) (n a b : Fin 64), 16 ≤ n.val → a < b → b < n → prods x wq wk (ix3 h n a) ≠ prods x wq wk (ix3 h n b) := by
  have e0 := congrFun e ix0
  unfold fn fn_part1 fn_part2 at e0
  obtain ⟨e0, h5⟩ := and_split e0
  obtain ⟨e0, h3⟩ := and_split e0
  obtain ⟨h1, h2⟩ := and_split e0
  refine ⟨fun i => real_of _ (reduce_and _ _ _ _ _ h1 i (funext fun a => a.elim0)), fun i => real_of _ (reduce_and _ _ _ _ _ h2 i (funext fun a => a.elim0)),
    fun i => real_of _ (reduce_and _ _ _ _ _ h3 i (funext fun a => a.elim0)), ?_⟩
  intro h n a b hn hab hbn
  have h6 := reduce_and _ _ _ _ _ h5 (ix4 h n a b) (funext fun a => a.elim0)
  have h7 := or_not h6 (ranked h n a b hn hab hbn)
  have h8 : FloatOps.cmpf (F := Ideal) (φ := .f32) .une (broadcastInDim S16x64x64x64 ![0, 1, 2, 3] Facts.bcast_S16x64x64x1_S16x64x64x64_0_1_2_3 (broadcastInDim S16x64x64x1 ![0, 1, 2] Facts.bcast_S16x64x64_S16x64x64x1_0_1_2 (prods x wq wk)) (ix4 h n a b))
      (broadcastInDim S16x64x64x64 ![0, 1, 2, 3] Facts.bcast_S16x64x1x64_S16x64x64x64_0_1_2_3 (broadcastInDim S16x64x1x64 ![0, 1, 3] Facts.bcast_S16x64x64_S16x64x1x64_0_1_3 (prods x wq wk)) (ix4 h n a b)) = 1#1 := h7
  rw [row_first, row_second] at h8
  exact differ_of h8

/-- Under the precondition the arguments are real and no two blocks are ranked alike. -/
theorem holds (e : fn (F := Ideal) x wq wk wv wg wo = fun _ => 1#1) :
    ∃ (X : Fin 2048 → Fin 1024 → ℝ) (A B : Fin 1024 → Fin 1024 → ℝ), (∀ s e, x (ix3 0 s e) = (X s e : EReal)) ∧ (∀ a b, wq (ix2 a b) = (A a b : EReal))
      ∧ (∀ a b, wk (ix2 a b) = (B a b : EReal)) ∧ Untied (proj X A) (proj X B) := by
  obtain ⟨h1, h2, h3, h5⟩ := parts x wq wk wv wo wg e
  choose X hX using h1
  choose A hA using h2
  choose B hB using h3
  refine ⟨fun s e => X (ix3 0 s e), fun a b => A (ix2 a b), fun a b => B (ix2 a b), fun _ _ => hX _, fun _ _ => hA _, fun _ _ => hB _, ?_⟩
  have key := prods_eq x wq wk (fun s e => X (ix3 0 s e)) (fun a b => A (ix2 a b)) (fun a b => B (ix2 a b)) (fun _ _ => hX _) (fun _ _ => hA _) (fun _ _ => hB _)
  intro h r a b hr har hbr hs
  rcases lt_trichotomy a b with hab | hab | hab
  · exact absurd (by rw [key, key, hs]) (h5 h r a b hr hab hbr)
  · exact hab
  · exact absurd (by rw [key, key, hs]) (h5 h r b a hr hab har)

end Cert.Pre_distinct

end
-- ==== Proof.Equation.lean ====
/- The kernel's result is the reference's. -/
module

public import proofs.«01_k».proof.Defs
public import proofs.«01_k».proof.Proof.Gen.ReferenceIdeal.Run
public import proofs.«01_k».proof.Proof.Gen.ReferenceIdeal.Read
public import proofs.«01_k».proof.Proof.KernelIdeal.Value
public import proofs.«01_k».proof.Proof.Precondition

@[expose] public section

set_option maxRecDepth 16384

noncomputable section

namespace Cert.Equation

open Idealize.ShloMosaic Idealize.ShloMosaic.TcCoe Idealize.SL.Sem
open Cert.Nsa (proj Untied)

section

open Cert.KernelIdeal Cert.KernelIdeal.Gen

variable (m : (ℓ : Loc nD τ sig) → Buf (Elt Ideal) ℓ) (c : Dev nD)

/-- The second call's result, from the first call's arrays. -/
theorem second : VB m c main_v2 = OUTV (AQ (V1 m c main_v0) (V1 m c main_arg1)) (AK (V1 m c main_v0) (V1 m c main_arg2)) (AV (V1 m c main_v0) (V1 m c main_arg3))
    (AC (V1 m c main_v0) (V1 m c main_arg2)) (AC (V1 m c main_v0) (V1 m c main_arg3)) (Gg (V1 m c main_v0) (V1 m c main_arg4)) (V1 m c main_arg5) := by
  have e0 : VE1 m c main_v1_0 = AQ (V1 m c main_v0) (V1 m c main_arg1) := (VA_v1_0 m c).trans (arr0_5 (VE0 m) c)
  have e1 : VE1 m c main_v1_1 = AK (V1 m c main_v0) (V1 m c main_arg2) := (VA_v1_1 m c).trans (arr0_6 (VE0 m) c)
  have e2 : VE1 m c main_v1_2 = AV (V1 m c main_v0) (V1 m c main_arg3) := (VA_v1_2 m c).trans (arr0_7 (VE0 m) c)
  have e3 : VE1 m c main_v1_3 = AC (V1 m c main_v0) (V1 m c main_arg2) := (VA_v1_3 m c).trans (arr0_8 (VE0 m) c)
  have e4 : VE1 m c main_v1_4 = AC (V1 m c main_v0) (V1 m c main_arg3) := (VA_v1_4 m c).trans (arr0_9 (VE0 m) c)
  have e5 : VE1 m c main_v1_5 = Gg (V1 m c main_v0) (V1 m c main_arg4) := (VA_v1_5 m c).trans (arr0_10 (VE0 m) c)
  have e6 : VE1 m c main_arg5 = V1 m c main_arg5 := VA_of m c main_arg5 (by decide)
  rw [VB_v2, arr1_7, e0, e1, e2, e3, e4, e5, e6]

theorem arg1 : V1 m c main_arg1 = m ((c.tc : Thread nD τ).loc main_arg1) := V1_of m c main_arg1 (by decide)
theorem arg2 : V1 m c main_arg2 = m ((c.tc : Thread nD τ).loc main_arg2) := V1_of m c main_arg2 (by decide)
theorem arg3 : V1 m c main_arg3 = m ((c.tc : Thread nD τ).loc main_arg3) := V1_of m c main_arg3 (by decide)
theorem arg4 : V1 m c main_arg4 = m ((c.tc : Thread nD τ).loc main_arg4) := V1_of m c main_arg4 (by decide)
theorem arg5 : V1 m c main_arg5 = m ((c.tc : Thread nD τ).loc main_arg5) := V1_of m c main_arg5 (by decide)

/-- The program's result is the reference's, under the precondition. -/
theorem value (h : Cert.Pre_distinct.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    V4 m (outs m) c main_v3 = Cert.ReferenceIdeal.Read.val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨X, A, B, hx, ha, hb, hu⟩ := Cert.Pre_distinct.holds _ _ _ _ _ _ h
  have key : ∀ (s : Fin 2048) (e : Fin 1024), V4 m (outs m) c main_v3 (ix3 0 s e) = Cert.ReferenceIdeal.Read.val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 0 s e) := by
    intro s e
    refine (Cert.HeadReal.V4_result m c s e).trans ?_
    rw [second, arg1, arg2, arg3, arg4, arg5]
    refine (Cert.HeadReal.OUTV_eq (m ((c.tc : Thread nD τ).loc main_arg0)) (V1 m c main_v0) _ _ _ _ _ X A B hx (Cert.HeadReal.V1_rows m c) ha hb hu s e).trans ?_
    exact (Cert.ReferenceIdeal.Read.ref_result _ _ _ _ _ _ X A B hx ha hb hu s e).symm
  funext y
  have hy : y = ix3 0 (y 1) (y 2) := funext fun a => match a with
    | ⟨0, _⟩ => Subsingleton.elim (α := Fin 1) _ _
    | ⟨1, _⟩ => rfl
    | ⟨2, _⟩ => rfl
  exact (congrArg (V4 m (outs m) c main_v3) hy).trans ((key (y 1) (y 2)).trans (congrArg _ hy.symm))

end

/-- The two programs end with equal results. -/
theorem algebraic : Cert.algebraic_KernelIdeal_ReferenceIdeal_pre_distinct (hKernelIdeal := Cert.KernelIdeal.Gen.facts) (hReferenceIdeal := Cert.ReferenceIdeal.Gen.facts) (hPre_distinct := Cert.Pre_distinct.facts) := by
  intro m g m' g' hp ha
  refine ⟨fun c => Cert.KernelIdeal.Gen.V4 m (Cert.KernelIdeal.Gen.outs m) c Cert.KernelIdeal.main_v3, ?_, ?_⟩
  · exact (θ_run _ _ _).mono (fun r h c => ⟨h.1 c _ (Pipeline.devRef_mem_ucRefs (by decide)),
      (h.1 c _ (Pipeline.devRef_mem_ucRefs (by decide))).trans (Cert.KernelIdeal.Gen.V4_main_arg0 m _ c),
      (h.1 c _ (Pipeline.devRef_mem_ucRefs (by decide))).trans (Cert.KernelIdeal.Gen.V4_main_arg1 m _ c),
      (h.1 c _ (Pipeline.devRef_mem_ucRefs (by decide))).trans (Cert.KernelIdeal.Gen.V4_main_arg2 m _ c),
      (h.1 c _ (Pipeline.devRef_mem_ucRefs (by decide))).trans (Cert.KernelIdeal.Gen.V4_main_arg3 m _ c),
      (h.1 c _ (Pipeline.devRef_mem_ucRefs (by decide))).trans (Cert.KernelIdeal.Gen.V4_main_arg4 m _ c),
      (h.1 c _ (Pipeline.devRef_mem_ucRefs (by decide))).trans (Cert.KernelIdeal.Gen.V4_main_arg5 m _ c)⟩) (Cert.KernelIdeal.Gen.run_main m g)
  · refine (θ_run _ _ _).mono (fun r h c => ⟨(h c).1.trans ?_, (h c).2⟩) (Cert.ReferenceIdeal.Value.run m' g')
    refine (Cert.ReferenceIdeal.Read.val_main_v149_eq _).trans ?_
    obtain ⟨e0, e1, e2, e3, e4, e5⟩ := ha c
    refine Eq.trans (b := Cert.ReferenceIdeal.Read.val_main_v149 (F := Ideal) (m' ((c.tc : Thread _ Cert.ReferenceIdeal.τ).loc Cert.ReferenceIdeal.main_arg0)) (m' ((c.tc : Thread _ Cert.ReferenceIdeal.τ).loc Cert.ReferenceIdeal.main_arg1)) (m' ((c.tc : Thread _ Cert.ReferenceIdeal.τ).loc Cert.ReferenceIdeal.main_arg2))
      (m' ((c.tc : Thread _ Cert.ReferenceIdeal.τ).loc Cert.ReferenceIdeal.main_arg3)) (m' ((c.tc : Thread _ Cert.ReferenceIdeal.τ).loc Cert.ReferenceIdeal.main_arg4)) (m' ((c.tc : Thread _ Cert.ReferenceIdeal.τ).loc Cert.ReferenceIdeal.main_arg5))) rfl ?_
    rw [e0, e1, e2, e3, e4, e5]
    exact (value m c (hp c)).symm

end Cert.Equation

end
-- ==== Proof.lean ====
/- The proof of the certificate's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Main
public import proofs.«01_k».proof.Proof.KernelIdeal.Main
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_distinct.facts,
  fun m ρ _ => Cert.Kernel.Gen.frame m ρ, fun m ρ _ => Cert.KernelIdeal.Gen.frame m ρ, fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => (θ_run _ _ _).mono (fun r h => ⟨fun c => (h c).2, sem_eq_zero_of_no_sems (by decide) r.2⟩) (Cert.ReferenceIdeal.Value.run m ρ),
  ⟨IdealRules.named_const.statement Cert.KernelIdeal.κ "masked" .f32 0xCE6E6B28#32 ⊥ rfl,
    IdealRules.named_const.statement Cert.KernelIdeal.κ "chosen" .f32 0x4E6E6B28#32 ⊤ rfl,
    IdealRules.named_const.statement Cert.KernelIdeal.κ "taken" .f32 0xCF32D05E#32 ⊥ rfl⟩,
  Cert.Equation.algebraic⟩

end Cert.Proof

end
